-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "to_bits" .f32 0x4166D4CA#32 ((10 * (Real.log 2)⁻¹ : ℝ) : EReal)
  ∧ IdealRules.named_const.Statement Cert.KernelIdeal.κ "ln2" .f32 0x3F317218#32 ((Real.log 2 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v51) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S2x6144x4096 : Shape := ⟨3, ![2, 6144, 4096]⟩
abbrev S2x6144x128 : Shape := ⟨3, ![2, 6144, 128]⟩
abbrev S6144 : Shape := ⟨1, ![6144]⟩
abbrev S_ : Shape := ⟨0, ![]⟩

class Facts : Prop where
  bcast_S_S2x6144x128 : S_.BroadcastsInDim S2x6144x128 (![] : Fin 0 → Fin S2x6144x128.rank)
  reducesTo_S2x6144x128_S_d0_1_2 : S2x6144x128.ReducesTo [0, 1, 2] S_
  h_S_ : 0 < S_.numel
  bcast_S_S6144 : S_.BroadcastsInDim S6144 (![] : Fin 0 → Fin S6144.rank)
  reducesTo_S6144_S_d0 : S6144.ReducesTo [0] S_

variable [Facts]

def fn {F : FTy → Type} [FloatOps F] (main_arg0 : FVec F S2x6144x4096 .fp8e4m3) (main_arg1 : IVec S2x6144x128 8) (main_arg2 : IVec S6144 32) : IVec S_ 1 :=
  let main_c : IVec S_ 8 := constantI S_ 8 0#8
  let main_v0 : IVec S2x6144x128 8 := broadcastInDim S2x6144x128 ![] bcast_S_S2x6144x128 main_c
  let main_v1 : IVec S2x6144x128 1 := cmpi .ne main_arg1 main_v0
  let main_c_0 : IVec S_ 8 := constantI S_ 8 255#8
  let main_v2 : IVec S2x6144x128 8 := broadcastInDim S2x6144x128 ![] bcast_S_S2x6144x128 main_c_0
  let main_v3 : IVec S2x6144x128 1 := cmpi .ne main_arg1 main_v2
  let main_v4 : IVec S2x6144x128 1 := andi main_v1 main_v3
  let main_c_1 : IVec S_ 1 := constantI S_ 1 1#1
  let main_v5 : IVec S_ 1 := (fun x v => Host.reduce IntOp.andi x v reducesTo_S2x6144x128_S_d0_1_2 h_S_) main_v4 main_c_1
  let main_c_2 : IVec S_ 32 := constantI S_ 32 4294967294#32
  let main_v6 : IVec S6144 32 := broadcastInDim S6144 ![] bcast_S_S6144 main_c_2
  let main_v7 : IVec S6144 1 := cmpi .ne main_arg2 main_v6
  let main_c_3 : IVec S_ 1 := constantI S_ 1 1#1
  let main_v8 : IVec S_ 1 := (fun x v => Host.reduce IntOp.andi x v reducesTo_S6144_S_d0 h_S_) main_v7 main_c_3
  let main_v9 : IVec S_ 1 := andi main_v5 main_v8
  main_v9
-- ==== Kernel.lean ====
abbrev S2x6144x4096 : Shape := ⟨3, ![2, 6144, 4096]⟩
abbrev S2x6144x128 : Shape := ⟨3, ![2, 6144, 128]⟩
abbrev S6144 : Shape := ⟨1, ![6144]⟩
abbrev S78 : Shape := ⟨1, ![78]⟩
abbrev S12288x4096 : Shape := ⟨2, ![12288, 4096]⟩
abbrev S12288x128 : Shape := ⟨2, ![12288, 128]⟩
abbrev S512x4096 : Shape := ⟨2, ![512, 4096]⟩
abbrev S512x128 : Shape := ⟨2, ![512, 128]⟩
abbrev S512x128x1 : Shape := ⟨3, ![512, 128, 1]⟩
abbrev S1x6144 : Shape := ⟨2, ![1, 6144]⟩
abbrev S2x6144 : Shape := ⟨2, ![2, 6144]⟩
abbrev S12288 : Shape := ⟨1, ![12288]⟩
abbrev S12288x1 : Shape := ⟨2, ![12288, 1]⟩
abbrev S1x12288 : Shape := ⟨2, ![1, 12288]⟩
abbrev S12x1x1024 : Shape := ⟨3, ![12, 1, 1024]⟩
abbrev S1024x4096 : Shape := ⟨2, ![1024, 4096]⟩
abbrev S1 : Shape := ⟨1, ![1]⟩
abbrev S1024x128 : Shape := ⟨2, ![1024, 128]⟩
abbrev S1x1024 : Shape := ⟨2, ![1, 1024]⟩
abbrev S1x1x1024 : Shape := ⟨3, ![1, 1, 1024]⟩
abbrev S1024x1024 : Shape := ⟨2, ![1024, 1024]⟩
abbrev S8x12288 : Shape := ⟨2, ![8, 12288]⟩
abbrev S128x128 : Shape := ⟨2, ![128, 128]⟩
abbrev S1x128 : Shape := ⟨2, ![1, 128]⟩
abbrev S8x128 : Shape := ⟨2, ![8, 128]⟩
abbrev S16x8x128 : Shape := ⟨3, ![16, 8, 128]⟩
abbrev S1x8x128 : Shape := ⟨3, ![1, 8, 128]⟩
abbrev S128x1024 : Shape := ⟨2, ![128, 1024]⟩
abbrev S8x1024 : Shape := ⟨2, ![8, 1024]⟩
abbrev S1024 : Shape := ⟨1, ![1024]⟩

abbrev nBuf : Space → Nat
  | .hbm => 15
  | .vmem => 29
  | .smem => 2
  | _ => 0

abbrev bufTy : (tb : Table) → Fin (tcTables nBuf tb) → BufTy
  | .hbm, ⟨0, _⟩ => ⟨S2x6144x4096, .fp8e4m3⟩
  | .hbm, ⟨1, _⟩ => ⟨S2x6144x128, .i8⟩
  | .hbm, ⟨2, _⟩ => ⟨S6144, .i32⟩
  | .hbm, ⟨3, _⟩ => ⟨S12288x4096, .fp8e4m3⟩
  | .hbm, ⟨4, _⟩ => ⟨S12288x128, .i8⟩
  | .hbm, ⟨5, _⟩ => ⟨S12288x4096, .bf16⟩
  | .hbm, ⟨6, _⟩ => ⟨S1x6144, .i32⟩
  | .hbm, ⟨7, _⟩ => ⟨S2x6144, .i32⟩
  | .hbm, ⟨8, _⟩ => ⟨S12288, .i32⟩
  | .hbm, ⟨9, _⟩ => ⟨S12288x1, .i32⟩
  | .hbm, ⟨10, _⟩ => ⟨S12288x128, .i32⟩
  | .hbm, ⟨11, _⟩ => ⟨S1x12288, .i32⟩
  | .hbm, ⟨12, _⟩ => ⟨S12x1x1024, .f32⟩
  | .hbm, ⟨13, _⟩ => ⟨S12x1x1024, .f32⟩
  | .hbm, ⟨14, _⟩ => ⟨S12x1x1024, .i32⟩
  | .local _ .vmem, ⟨0, _⟩ => ⟨S512x4096, .fp8e4m3⟩
  | .local _ .vmem, ⟨1, _⟩ => ⟨S512x4096, .fp8e4m3⟩
  | .local _ .vmem, ⟨2, _⟩ => ⟨S512x128, .i8⟩
  | .local _ .vmem, ⟨3, _⟩ => ⟨S512x128, .i8⟩
  | .local _ .vmem, ⟨4, _⟩ => ⟨S512x4096, .bf16⟩
  | .local _ .vmem, ⟨5, _⟩ => ⟨S512x4096, .bf16⟩
  | .local _ .vmem, ⟨6, _⟩ => ⟨S1024x4096, .bf16⟩
  | .local _ .vmem, ⟨7, _⟩ => ⟨S1024x4096, .bf16⟩
  | .local _ .vmem, ⟨8, _⟩ => ⟨S1024x4096, .bf16⟩
  | .local _ .vmem, ⟨9, _⟩ => ⟨S1024x4096, .bf16⟩
  | .local _ .vmem, ⟨10, _⟩ => ⟨S1024x128, .i32⟩
  | .local _ .vmem, ⟨11, _⟩ => ⟨S1024x128, .i32⟩
  | .local _ .vmem, ⟨12, _⟩ => ⟨S1x1024, .i32⟩
  | .local _ .vmem, ⟨13, _⟩ => ⟨S1x1024, .i32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .i32⟩
  | .local _ .vmem, ⟨19, _⟩ => ⟨S1x1x1024, .i32⟩
  | .local _ .vmem, ⟨20, _⟩ => ⟨S1024x1024, .f32⟩
  | .local _ .vmem, ⟨21, _⟩ => ⟨S1024x128, .f32⟩
  | .local _ .vmem, ⟨22, _⟩ => ⟨S1024x128, .f32⟩
  | .local _ .vmem, ⟨23, _⟩ => ⟨S1024x128, .f32⟩
  | .local _ .vmem, ⟨24, _⟩ => ⟨S1024x128, .f32⟩
  | .local _ .vmem, ⟨25, _⟩ => ⟨S8x12288, .f32⟩
  | .local _ .vmem, ⟨26, _⟩ => ⟨S8x12288, .f32⟩
  | .local _ .vmem, ⟨27, _⟩ => ⟨S8x12288, .f32⟩
  | .local _ .vmem, ⟨28, _⟩ => ⟨S8x12288, .f32⟩
  | .local _ .smem, ⟨0, _⟩ => ⟨S78, .i32⟩
  | .local _ .smem, ⟨1, _⟩ => ⟨S78, .i32⟩
  | _, _ => ⟨S2x6144x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev main_v9_2 : Ref sig .tc := ⟨.hbm, 14, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_scratch0 : Ref sig .tc := ⟨.vmem, 20, rfl⟩
abbrev cc1_scratch1 : Ref sig .tc := ⟨.vmem, 21, rfl⟩
abbrev cc1_scratch2 : Ref sig .tc := ⟨.vmem, 22, rfl⟩
abbrev cc1_scratch3 : Ref sig .tc := ⟨.vmem, 23, rfl⟩
abbrev cc1_scratch4 : Ref sig .tc := ⟨.vmem, 24, rfl⟩
abbrev cc1_scratch5 : Ref sig .tc := ⟨.vmem, 25, rfl⟩
abbrev cc1_scratch6 : Ref sig .tc := ⟨.vmem, 26, rfl⟩
abbrev cc1_scratch7 : Ref sig .tc := ⟨.vmem, 27, rfl⟩
abbrev cc1_scratch8 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![78], ![false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_mult1 (v3 : BitVec 32) : BitVec 32 :=
  let c1024_i32 : BitVec 32 := 1024#32
  let v18 : BitVec 32 := Scalar.muli v3 c1024_i32
  v18

@[reducible] def k1_t1_loop : Scf.Loop 32 :=
  let c0_i32_7 : BitVec 32 := 0#32
  let c8_i32 : BitVec 32 := 8#32
  let v20 : BitVec 32 := Scalar.addi c0_i32_7 c8_i32
  let c1_i32 : BitVec 32 := 1#32
  ⟨c0_i32_7, v20, c1_i32⟩
def k1_mult2 (k1_t1 : Fin k1_t1_loop.trips) : BitVec 32 :=
  let c0_i32_7 : BitVec 32 := 0#32
  let c1_i32 : BitVec 32 := 1#32
  let arg19 : BitVec 32 := Scf.iv c0_i32_7 c1_i32 k1_t1
  let c128_i32 : BitVec 32 := 128#32
  let v24 : BitVec 32 := Scalar.muli arg19 c128_i32
  v24
def k1_off2 (k1_t1 : Fin k1_t1_loop.trips) : Fin 2 → Nat :=
  let c0_i32_7 : BitVec 32 := 0#32
  let c1_i32 : BitVec 32 := 1#32
  let arg19 : BitVec 32 := Scf.iv c0_i32_7 c1_i32 k1_t1
  let c128_i32 : BitVec 32 := 128#32
  let v24 : BitVec 32 := Scalar.muli arg19 c128_i32
  let v25 : BitVec 32 := v24
  let v26 : Index := Scalar.indexCast v25
  let c0_10 : Index := 0#32
  ![v26.toNat, 0]
def k1_off3 (k1_t1 : Fin k1_t1_loop.trips) : Fin 2 → Nat :=
  let c0_i32_7 : BitVec 32 := 0#32
  let c1_i32 : BitVec 32 := 1#32
  let arg19 : BitVec 32 := Scf.iv c0_i32_7 c1_i32 k1_t1
  let c128_i32 : BitVec 32 := 128#32
  let v24 : BitVec 32 := Scalar.muli arg19 c128_i32
  let v25 : BitVec 32 := v24
  let v47 : Index := Scalar.indexCast v25
  let c0_16 : Index := 0#32
  ![v47.toNat, 0]
def k1_off4 (k1_t1 : Fin k1_t1_loop.trips) : Fin 2 → Nat :=
  let c0_i32_7 : BitVec 32 := 0#32
  let c1_i32 : BitVec 32 := 1#32
  let arg19 : BitVec 32 := Scf.iv c0_i32_7 c1_i32 k1_t1
  let c128_i32 : BitVec 32 := 128#32
  let v24 : BitVec 32 := Scalar.muli arg19 c128_i32
  let v25 : BitVec 32 := v24
  let v57 : Index := Scalar.indexCast v25
  let c128 : Index := 128#32
  ![v57.toNat, 128]
def k1_off5 (k1_t1 : Fin k1_t1_loop.trips) : Fin 2 → Nat :=
  let c0_i32_7 : BitVec 32 := 0#32
  let c1_i32 : BitVec 32 := 1#32
  let arg19 : BitVec 32 := Scf.iv c0_i32_7 c1_i32 k1_t1
  let c128_i32 : BitVec 32 := 128#32
  let v24 : BitVec 32 := Scalar.muli arg19 c128_i32
  let v25 : BitVec 32 := v24
  let v67 : Index := Scalar.indexCast v25
  let c256 : Index := 256#32
  ![v67.toNat, 256]
def k1_off6 (k1_t1 : Fin k1_t1_loop.trips) : Fin 2 → Nat :=
  let c0_i32_7 : BitVec 32 := 0#32
  let c1_i32 : BitVec 32 := 1#32
  let arg19 : BitVec 32 := Scf.iv c0_i32_7 c1_i32 k1_t1
  let c128_i32 : BitVec 32 := 128#32
  let v24 : BitVec 32 := Scalar.muli arg19 c128_i32
  let v25 : BitVec 32 := v24
  let v77 : Index := Scalar.indexCast v25
  let c384 : Index := 384#32
  ![v77.toNat, 384]
def k1_off7 (k1_t1 : Fin k1_t1_loop.trips) : Fin 2 → Nat :=
  let c0_i32_7 : BitVec 32 := 0#32
  let c1_i32 : BitVec 32 := 1#32
  let arg19 : BitVec 32 := Scf.iv c0_i32_7 c1_i32 k1_t1
  let c128_i32 : BitVec 32 := 128#32
  let v24 : BitVec 32 := Scalar.muli arg19 c128_i32
  let v25 : BitVec 32 := v24
  let v87 : Index := Scalar.indexCast v25
  let c512 : Index := 512#32
  ![v87.toNat, 512]
def k1_off8 (k1_t1 : Fin k1_t1_loop.trips) : Fin 2 → Nat :=
  let c0_i32_7 : BitVec 32 := 0#32
  let c1_i32 : BitVec 32 := 1#32
  let arg19 : BitVec 32 := Scf.iv c0_i32_7 c1_i32 k1_t1
  let c128_i32 : BitVec 32 := 128#32
  let v24 : BitVec 32 := Scalar.muli arg19 c128_i32
  let v25 : BitVec 32 := v24
  let v97 : Index := Scalar.indexCast v25
  let c640 : Index := 640#32
  ![v97.toNat, 640]
def k1_off9 (k1_t1 : Fin k1_t1_loop.trips) : Fin 2 → Nat :=
  let c0_i32_7 : BitVec 32 := 0#32
  let c1_i32 : BitVec 32 := 1#32
  let arg19 : BitVec 32 := Scf.iv c0_i32_7 c1_i32 k1_t1
  let c128_i32 : BitVec 32 := 128#32
  let v24 : BitVec 32 := Scalar.muli arg19 c128_i32
  let v25 : BitVec 32 := v24
  let v107 : Index := Scalar.indexCast v25
  let c768 : Index := 768#32
  ![v107.toNat, 768]
def k1_off10 (k1_t1 : Fin k1_t1_loop.trips) : Fin 2 → Nat :=
  let c0_i32_7 : BitVec 32 := 0#32
  let c1_i32 : BitVec 32 := 1#32
  let arg19 : BitVec 32 := Scf.iv c0_i32_7 c1_i32 k1_t1
  let c128_i32 : BitVec 32 := 128#32
  let v24 : BitVec 32 := Scalar.muli arg19 c128_i32
  let v25 : BitVec 32 := v24
  let v117 : Index := Scalar.indexCast v25
  let c896 : Index := 896#32
  ![v117.toNat, 896]
def k1_off11 (v3 : BitVec 32) (c0_i32_37 : BitVec 32) : Fin 2 → Nat :=
  let c0_43 : Index := 0#32
  let c1024_i32 : BitVec 32 := 1024#32
  let v18 : BitVec 32 := Scalar.muli v3 c1024_i32
  let v19 : BitVec 32 := v18
  let v136 : BitVec 32 := Scalar.addi v19 c0_i32_37
  let v149 : Index := Scalar.indexCast v136
  ![0, v149.toNat]
def k1_mult3 (v1 : BitVec 32) : BitVec 32 :=
  let c1024_i32_10 : BitVec 32 := 1024#32
  let v24 : BitVec 32 := Scalar.muli v1 c1024_i32_10
  v24
def k1_cond3 (v3 : BitVec 32) : BitVec 1 :=
  let c11_i32 : BitVec 32 := 11#32
  let v21 : BitVec 1 := Scalar.cmpi .eq v3 c11_i32
  let v22 : BitVec 32 := Scalar.extui v21
  let c0_i32_9 : BitVec 32 := 0#32
  let v23 : BitVec 1 := Scalar.cmpi .ne v22 c0_i32_9
  v23

def k1_off12 (v1 : BitVec 32) : Fin 2 → Nat :=
  let c0_13 : Index := 0#32
  let c1024_i32_10 : BitVec 32 := 1024#32
  let v24 : BitVec 32 := Scalar.muli v1 c1024_i32_10
  let v25 : BitVec 32 := v24
  let v28 : Index := Scalar.indexCast v25
  ![0, v28.toNat]

def k1_chk1 (v1 : BitVec 32) (v3 : BitVec 32) : Prop :=
  (1024 ∣ (k1_mult1 v3).toNat) ∧
  (∀ (r : Fin 8), ∀ a, (k1_off11 v3 (BitVec.ofNat 32 (128 * r.val))) a + S8x128.size a ≤ S8x12288.size a) ∧
  (∀ (k1_h3 : k1_cond3 v3 = 1#1), 1024 ∣ (k1_mult3 v1).toNat) ∧
  (∀ (k1_h3 : k1_cond3 v3 = 1#1), ∀ a, (k1_off12 v1) a + S8x1024.size a ≤ S8x12288.size a)
theorem k1_mult1_dvd : ∀ (v1 : BitVec 32) (v3 : BitVec 32) (k1_hw1 : k1_chk1 v1 v3), 1024 ∣ (k1_mult1 v3).toNat := fun v1 v3 k1_hw1 => k1_hw1.1
theorem k1_off11_inb : ∀ (v1 : BitVec 32) (v3 : BitVec 32) (k1_hw1 : k1_chk1 v1 v3), ∀ (r : Fin 8), ∀ a, (k1_off11 v3 (BitVec.ofNat 32 (128 * r.val))) a + S8x128.size a ≤ S8x12288.size a := fun v1 v3 k1_hw1 r => k1_hw1.2.1 r
theorem k1_mult3_dvd : ∀ (v1 : BitVec 32) (v3 : BitVec 32) (k1_hw1 : k1_chk1 v1 v3), ∀ (k1_h3 : k1_cond3 v3 = 1#1), 1024 ∣ (k1_mult3 v1).toNat := fun v1 v3 k1_hw1 k1_h3 => k1_hw1.2.2.1 k1_h3
theorem k1_off12_inb : ∀ (v1 : BitVec 32) (v3 : BitVec 32) (k1_hw1 : k1_chk1 v1 v3), ∀ (k1_h3 : k1_cond3 v3 = 1#1), ∀ a, (k1_off12 v1) a + S8x1024.size a ≤ S8x12288.size a := fun v1 v3 k1_hw1 k1_h3 => k1_hw1.2.2.2 k1_h3

def cc1_transform_0 (k1_off1_inb : ∀ i : grid1.Coords, ∀ a, (k1_off1 i) a + S1.size a ≤ S78.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S78) ![v0.toNat] S1.size (k1_off1_inb i)) numel1_S1
  let c0_i32 : BitVec 32 := 0#32
  let c0_i32_0 : BitVec 32 := 0#32
  ![v1.toNat, c0_i32.toNat]

def cc1_transform_1 (k1_off1_inb : ∀ i : grid1.Coords, ∀ a, (k1_off1 i) a + S1.size a ≤ S78.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 1 (Rect.unit (s := S78) ![v0.toNat] S1.size (k1_off1_inb i)) numel1_S1
  let c0_i32 : BitVec 32 := 0#32
  let c0_i32_0 : BitVec 32 := 0#32
  ![v1.toNat, c0_i32.toNat]

def cc1_transform_2 (k1_off1_inb : ∀ i : grid1.Coords, ∀ a, (k1_off1 i) a + S1.size a ≤ S78.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 0 (Rect.unit (s := S78) ![v0.toNat] S1.size (k1_off1_inb i)) numel1_S1
  let c0_i32 : BitVec 32 := 0#32
  let c0_i32_0 : BitVec 32 := 0#32
  ![v1.toNat, c0_i32.toNat]

def cc1_transform_3 (k1_off1_inb : ∀ i : grid1.Coords, ∀ a, (k1_off1 i) a + S1.size a ≤ S78.size a) (numel1_S1 : S1.numel = 1) (pf : pre1.Contents (Elt F)) (i : grid1.Coords) : Fin 2 → Nat :=
  let arg0 : BitVec 32 := BitVec.ofNat 32 (i 0).val
  let v0 : Index := Scalar.indexCast arg0
  let v1 : BitVec 32 := pf.at 1 (Rect.unit (s := S78) ![v0.toNat] S1.size (k1_off1_inb i)) numel1_S1
  let c0_i32 : BitVec 32 := 0#32
  let c0_i32_0 : BitVec 32 := 0#32
  ![c0_i32.toNat, v1.toNat]

def cc1_transform_4 (k1_off1_inb : ∀ i : grid1.Coords, ∀ a, (k1_off1 i) a + S1.size a ≤ S78.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S78) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (k1_off1_inb : ∀ i : grid1.Coords, ∀ a, (k1_off1 i) a + S1.size a ≤ S78.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S78) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_6 (k1_off1_inb : ∀ i : grid1.Coords, ∀ a, (k1_off1 i) a + S1.size a ≤ S78.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S78) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x1x1024 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "ln2" => some ((Real.log 2 : ℝ) : EReal)
  | "to_bits" => some ((10 * (Real.log 2)⁻¹ : ℝ) : EReal)
  | _ => none
-- ==== ReferenceIdeal.lean ====
abbrev S2x6144x4096 : Shape := ⟨3, ![2, 6144, 4096]⟩
abbrev S2x6144x128 : Shape := ⟨3, ![2, 6144, 128]⟩
abbrev S6144 : Shape := ⟨1, ![6144]⟩
abbrev S12288x4096 : Shape := ⟨2, ![12288, 4096]⟩
abbrev S12288x128 : Shape := ⟨2, ![12288, 128]⟩
abbrev S12288x128x1 : Shape := ⟨3, ![12288, 128, 1]⟩
abbrev S12288x128x32 : Shape := ⟨3, ![12288, 128, 32]⟩
abbrev S1x6144 : Shape := ⟨2, ![1, 6144]⟩
abbrev S2x6144 : Shape := ⟨2, ![2, 6144]⟩
abbrev S12288 : Shape := ⟨1, ![12288]⟩
abbrev S12288x12288 : Shape := ⟨2, ![12288, 12288]⟩
abbrev S_ : Shape := ⟨0, ![]⟩
abbrev S12288x1 : Shape := ⟨2, ![12288, 1]⟩
abbrev S1x12288 : Shape := ⟨2, ![1, 12288]⟩
abbrev S12x1x1024 : Shape := ⟨3, ![12, 1, 1024]⟩

abbrev nBuf : Space → Nat
  | .hbm => 74
  | .vmem => 3
  | .smem => 0
  | _ => 0

abbrev bufTy : (tb : Table) → Fin (tcTables nBuf tb) → BufTy
  | .hbm, ⟨0, _⟩ => ⟨S2x6144x4096, .fp8e4m3⟩
  | .hbm, ⟨1, _⟩ => ⟨S2x6144x128, .i8⟩
  | .hbm, ⟨2, _⟩ => ⟨S6144, .i32⟩
  | .hbm, ⟨3, _⟩ => ⟨S12288x4096, .fp8e4m3⟩
  | .hbm, ⟨4, _⟩ => ⟨S12288x128, .i8⟩
  | .hbm, ⟨5, _⟩ => ⟨S12288x4096, .bf16⟩
  | .hbm, ⟨6, _⟩ => ⟨S1x6144, .i32⟩
  | .hbm, ⟨7, _⟩ => ⟨S2x6144, .i32⟩
  | .hbm, ⟨8, _⟩ => ⟨S12288, .i32⟩
  | .hbm, ⟨9, _⟩ => ⟨S12288, .i32⟩
  | .hbm, ⟨10, _⟩ => ⟨S12288x12288, .f32⟩
  | .hbm, ⟨11, _⟩ => ⟨S_, .f32⟩
  | .hbm, ⟨12, _⟩ => ⟨S12288x12288, .f32⟩
  | .hbm, ⟨13, _⟩ => ⟨S12288x12288, .f32⟩
  | .hbm, ⟨14, _⟩ => ⟨S12288x1, .i32⟩
  | .hbm, ⟨15, _⟩ => ⟨S1x12288, .i32⟩
  | .hbm, ⟨16, _⟩ => ⟨S12288x12288, .i32⟩
  | .hbm, ⟨17, _⟩ => ⟨S12288x12288, .i32⟩
  | .hbm, ⟨18, _⟩ => ⟨S12288x12288, .i1⟩
  | .hbm, ⟨19, _⟩ => ⟨S12288x1, .i32⟩
  | .hbm, ⟨20, _⟩ => ⟨S1x12288, .i32⟩
  | .hbm, ⟨21, _⟩ => ⟨S12288x12288, .i32⟩
  | .hbm, ⟨22, _⟩ => ⟨S12288x12288, .i32⟩
  | .hbm, ⟨23, _⟩ => ⟨S12288x12288, .i1⟩
  | .hbm, ⟨24, _⟩ => ⟨S12288x1, .i32⟩
  | .hbm, ⟨25, _⟩ => ⟨S_, .i32⟩
  | .hbm, ⟨26, _⟩ => ⟨S12288x1, .i32⟩
  | .hbm, ⟨27, _⟩ => ⟨S12288x1, .i1⟩
  | .hbm, ⟨28, _⟩ => ⟨S12288x12288, .i1⟩
  | .hbm, ⟨29, _⟩ => ⟨S12288x12288, .i1⟩
  | .hbm, ⟨30, _⟩ => ⟨S12288x12288, .i1⟩
  | .hbm, ⟨31, _⟩ => ⟨S12288x12288, .i1⟩
  | .hbm, ⟨32, _⟩ => ⟨S_, .f32⟩
  | .hbm, ⟨33, _⟩ => ⟨S_, .f32⟩
  | .hbm, ⟨34, _⟩ => ⟨S12288x12288, .f32⟩
  | .hbm, ⟨35, _⟩ => ⟨S12288x12288, .f32⟩
  | .hbm, ⟨36, _⟩ => ⟨S_, .f32⟩
  | .hbm, ⟨37, _⟩ => ⟨S12288, .f32⟩
  | .hbm, ⟨38, _⟩ => ⟨S12288x1, .f32⟩
  | .hbm, ⟨39, _⟩ => ⟨S12288x12288, .f32⟩
  | .hbm, ⟨40, _⟩ => ⟨S12288x12288, .f32⟩
  | .hbm, ⟨41, _⟩ => ⟨S12288x12288, .f32⟩
  | .hbm, ⟨42, _⟩ => ⟨S_, .f32⟩
  | .hbm, ⟨43, _⟩ => ⟨S12288, .f32⟩
  | .hbm, ⟨44, _⟩ => ⟨S12288, .f32⟩
  | .hbm, ⟨45, _⟩ => ⟨S12288, .f32⟩
  | .hbm, ⟨46, _⟩ => ⟨S12288x12288, .i32⟩
  | .hbm, ⟨47, _⟩ => ⟨S_, .i32⟩
  | .hbm, ⟨48, _⟩ => ⟨S12288, .i32⟩
  | .hbm, ⟨49, _⟩ => ⟨S_, .f32⟩
  | .hbm, ⟨50, _⟩ => ⟨S_, .f32⟩
  | .hbm, ⟨51, _⟩ => ⟨S12288x12288, .f32⟩
  | .hbm, ⟨52, _⟩ => ⟨S12288x12288, .f32⟩
  | .hbm, ⟨53, _⟩ => ⟨S_, .f32⟩
  | .hbm, ⟨54, _⟩ => ⟨S12288, .f32⟩
  | .hbm, ⟨55, _⟩ => ⟨S_, .i32⟩
  | .hbm, ⟨56, _⟩ => ⟨S12288, .i32⟩
  | .hbm, ⟨57, _⟩ => ⟨S12288, .i32⟩
  | .hbm, ⟨58, _⟩ => ⟨S12288, .f32⟩
  | .hbm, ⟨59, _⟩ => ⟨S12288, .f32⟩
  | .hbm, ⟨60, _⟩ => ⟨S_, .i32⟩
  | .hbm, ⟨61, _⟩ => ⟨S12288, .i32⟩
  | .hbm, ⟨62, _⟩ => ⟨S12288, .i1⟩
  | .hbm, ⟨63, _⟩ => ⟨S12288, .f32⟩
  | .hbm, ⟨64, _⟩ => ⟨S_, .f32⟩
  | .hbm, ⟨65, _⟩ => ⟨S12288, .f32⟩
  | .hbm, ⟨66, _⟩ => ⟨S12288, .f32⟩
  | .hbm, ⟨67, _⟩ => ⟨S_, .f32⟩
  | .hbm, ⟨68, _⟩ => ⟨S_, .f32⟩
  | .hbm, ⟨69, _⟩ => ⟨S12288, .f32⟩
  | .hbm, ⟨70, _⟩ => ⟨S12288, .f32⟩
  | .hbm, ⟨71, _⟩ => ⟨S12x1x1024, .f32⟩
  | .hbm, ⟨72, _⟩ => ⟨S12x1x1024, .f32⟩
  | .hbm, ⟨73, _⟩ => ⟨S12x1x1024, .i32⟩
  | .local _ .vmem, ⟨0, _⟩ => ⟨S12288x4096, .fp8e4m3⟩
  | .local _ .vmem, ⟨1, _⟩ => ⟨S12288x128, .i8⟩
  | .local _ .vmem, ⟨2, _⟩ => ⟨S12288x4096, .bf16⟩
  | _, _ => ⟨S2x6144x4096, .fp8e4m3⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_c : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_3 : Ref sig .tc := ⟨.hbm, 47, rfl⟩
abbrev main_v37 : Ref sig .tc := ⟨.hbm, 48, rfl⟩
abbrev main_cst_4 : Ref sig .tc := ⟨.hbm, 49, rfl⟩
abbrev main_call1_v0 : Ref sig .tc := ⟨.hbm, 50, rfl⟩
abbrev main_call1_v1 : Ref sig .tc := ⟨.hbm, 51, rfl⟩
abbrev main_v38 : Ref sig .tc := ⟨.hbm, 52, rfl⟩
abbrev main_cst_5 : Ref sig .tc := ⟨.hbm, 53, rfl⟩
abbrev main_v39 : Ref sig .tc := ⟨.hbm, 54, rfl⟩
abbrev main_c_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_call2_v0 : Ref sig .tc := ⟨.hbm, 68, rfl⟩
abbrev main_call2_v1 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S12288x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12288x128 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.K.Trip.lean ====
/- One trip of the counted loop: a weak triple. -/
module

public import proofs.«01_k».proof.Proof.Gen.Kernel
public import proofs.«01_k».proof.Proof.Gen.Kernel.Skeleton
public import proofs.«01_k».proof.Proof.Gen.Kernel.Loops
public import proofs.«01_k».proof.Proof.Gen.Kernel.Launch

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
abbrev 𝒱₀ : Variants := Variants.none

/-- A buffer held whole, at contents nothing names. -/
abbrev Held (c : Dev nD) {sp : Space} {s : Shape} {e : EltTy} (a : Memref sig .tc sp s e) : sProp 𝕄 :=
  iprop(∃ f : Buf (Elt F) (a.view.loc (c : Thread nD τ)), a.view.loc (c : Thread nD τ) ↦[a.view.set]{fullShare} f)

/-- The column offset of chunk `r` of tile `v3`, its number at most 11. -/
theorem off11_eq (v3 : BitVec 32) (h : v3.toNat < 12) (n : Nat) (hn : n < 1024) :
    k1_off11 v3 (BitVec.ofNat 32 n) = ![0, 1024 * v3.toNat + n] := by
  have e : (Scalar.addi (Scalar.muli v3 1024#32) (BitVec.ofNat 32 n)).toNat = 1024 * v3.toNat + n := by
    simp only [Scalar.addi, Scalar.muli, IntOp.addi, IntOp.muli, BitVec.toNat_add, BitVec.toNat_mul, BitVec.toNat_ofNat]
    omega
  show ![0, (Scalar.addi (Scalar.muli v3 1024#32) (BitVec.ofNat 32 n)).toNat] = _
  rw [e]

/-- The column tile's number is at most 11, as instances read it. -/
class Tile (v : BitVec 32) : Prop where
  lt : v.toNat < 12

instance off11_0 (v3 : BitVec 32) [h : Tile v3] : ClosedOff (k1_off11 v3 0#32) := ⟨![0, 1024 * v3.toNat], off11_eq v3 h.lt 0 (by omega)⟩
instance off11_1 (v3 : BitVec 32) [h : Tile v3] : ClosedOff (k1_off11 v3 128#32) := ⟨![0, 1024 * v3.toNat + 128], off11_eq v3 h.lt 128 (by omega)⟩
instance off11_2 (v3 : BitVec 32) [h : Tile v3] : ClosedOff (k1_off11 v3 256#32) := ⟨![0, 1024 * v3.toNat + 256], off11_eq v3 h.lt 256 (by omega)⟩
instance off11_3 (v3 : BitVec 32) [h : Tile v3] : ClosedOff (k1_off11 v3 384#32) := ⟨![0, 1024 * v3.toNat + 384], off11_eq v3 h.lt 384 (by omega)⟩
instance off11_4 (v3 : BitVec 32) [h : Tile v3] : ClosedOff (k1_off11 v3 512#32) := ⟨![0, 1024 * v3.toNat + 512], off11_eq v3 h.lt 512 (by omega)⟩
instance off11_5 (v3 : BitVec 32) [h : Tile v3] : ClosedOff (k1_off11 v3 640#32) := ⟨![0, 1024 * v3.toNat + 640], off11_eq v3 h.lt 640 (by omega)⟩
instance off11_6 (v3 : BitVec 32) [h : Tile v3] : ClosedOff (k1_off11 v3 768#32) := ⟨![0, 1024 * v3.toNat + 768], off11_eq v3 h.lt 768 (by omega)⟩
instance off11_7 (v3 : BitVec 32) [h : Tile v3] : ClosedOff (k1_off11 v3 896#32) := ⟨![0, 1024 * v3.toNat + 896], off11_eq v3 h.lt 896 (by omega)⟩

section Trip
variable (c : Dev nD) (i : grid1.Coords) (arg1 : Memref sig .tc .smem S78 .i32) (harg1 : arg1.IsWhole) (arg2 : Memref sig .tc .smem S78 .i32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1024x128 .i32) (harg5 : arg5.IsWhole) (arg6 : Memref sig .tc .vmem S1x1024 .i32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .i32) (harg9 : arg9.IsWhole) (arg10 : Memref sig .tc .vmem S1024x1024 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S8x12288 .f32) (harg15 : arg15.IsWhole) (arg16 : Memref sig .tc .vmem S8x12288 .f32) (harg16 : arg16.IsWhole) (arg17 : Memref sig .tc .vmem S8x12288 .f32) (harg17 : arg17.IsWhole) (arg18 : Memref sig .tc .vmem S8x12288 .f32) (harg18 : arg18.IsWhole) (v1 : Elt F .i32) (v3 : Elt F .i32) (k1_hw1 : k1_chk1 v1 v3) (v17 : BitVec 32)

/-- What the loop's trips hold: the eight accumulators, the products and the labels. -/
abbrev LoopRes : sProp 𝕄 :=
  iprop(Held c arg5 ∗ Held c arg6 ∗ Held c arg10 ∗ Held c arg11 ∗ Held c arg12 ∗ Held c arg13 ∗ Held c arg14 ∗ Held c arg15 ∗ Held c arg16 ∗ Held c arg17 ∗ Held c arg18)

theorem trip [Tile v3] (k : Fin k1_t1_loop.trips) :
    (LoopRes c arg5 arg6 arg10 arg11 arg12 arg13 arg14 arg15 arg16 arg17 arg18 : sProp 𝕄)
      ⊢ wp frame (wpE (defs₀ (F := F)) 𝒱₀ (c : Thread nD τ) none) Set.univ
        (Gen.k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 k1_hw1 v17 k ())
        (fun _ => LoopRes c arg5 arg6 arg10 arg11 arg12 arg13 arg14 arg15 arg16 arg17 arg18) := by
  unfold Gen.k1_t1_body
  iintro ⟨⟨%f5, H5⟩, ⟨%f6, H6⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec_parts
  sl_step
  isplitl [H5]; · iexists _; iexact H5
  isplitl [H6]; · iexists _; iexact H6
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

set_option warn.classDefReducibility false in
/-- The loop's invariant: its buffers held, the column tile's number at most 11. -/
@[sl_loop] def loopInv_k1_t1 :
    Gen.LoopInvTy_k1_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 k1_hw1 v17 where
  inv := fun _ _ => iprop(⌜Tile v3⌝ ∗ LoopRes c arg5 arg6 arg10 arg11 arg12 arg13 arg14 arg15 arg16 arg17 arg18)
  step := fun k acc => by
    iintro ⟨%hT, H⟩
    haveI := hT
    iapply (wp_wand_r Idealize.ShloMosaic.frame (wpE (defs₀ (F := F)) 𝒱₀ (c : Thread nD τ) none) Set.univ)
    isplitl [H]
    · iapply (trip (c := c) (i := i)); iexact H
    · iintro %_ H'
      isplitr; · ipureintro; exact hT
      iexact H'
end Trip

end Cert.Proof.Kernel
-- ==== Proof.K.Dequant.lean ====
/- The dequantising kernel's body at one grid point: what it leaves in the output block, at any arithmetic. -/
module

public import proofs.«01_k».proof.Proof.K.Trip
public import Idealize.ShloMosaic.Lib.Writes
public import Idealize.ShloMosaic.Lib.Pointwise
public import Idealize.ShloMosaic.Lib.VecWindow

@[expose] public section

set_option maxRecDepth 65536

noncomputable section

namespace Cert.Proof.Kernel

open Cert.Kernel Cert.Kernel.Facts₀ Cert.Kernel.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The block number of column `k`: thirty-two columns share a scale. -/
def blockOf (y : S512x4096.Idx) : S512x128.Idx := ix2 (y 0) (⟨(y 1).val / 32, by have : (y 1).val < 4096 := (y 1).isLt; omega⟩ : Fin 128)

/-- The scales: each exponent's bits placed in the exponent field of a float. -/
def scaleBits (E : Vec F S512x128 .i8) : FVec F S512x128 .f32 := bitcastToFloat .f32 (shli (extui 32 E natLt_8_32) (broadcast S512x128 23#32))

/-- The dequantised block: each code times its block's scale. -/
def deq (C : Vec F S512x4096 .fp8e4m3) (E : Vec F S512x128 .i8) : FVec F S512x4096 .bf16 :=
  fun y => FloatOps.mulf (FloatOps.extf .bf16 bitsLt_fp8e4m3_bf16 (C y)) (FloatOps.truncf .bf16 bitsLt_bf16_f32 (scaleBits E (blockOf y)))

/-- The block number the kernel computes for each lane of a chunk whose first block is `w`. -/
def lanes (v6 : IVec S512x128 32) (w : BitVec 32) : IVec S512x128 32 :=
  let q := divsi v6 (broadcast S512x128 32#32)
  let sgn := subi (extui 32 (cmpi .sgt v6 (broadcast S512x128 0#32)) natLt_1_32) (extui 32 (cmpi .slt v6 (broadcast S512x128 0#32)) natLt_1_32)
  let one := Scalar.subi (Scalar.extui (Scalar.cmpi .sgt 32#32 0#32) : BitVec 32) (Scalar.extui (Scalar.cmpi .slt 32#32 0#32))
  let adj := andi (cmpi .ne sgn (broadcast S512x128 one)) (cmpi .ne (remsi v6 (broadcast S512x128 32#32)) (broadcast S512x128 0#32))
  let b := addi (select adj (subi q (broadcast S512x128 1#32)) q) (broadcast S512x128 w)
  select (cmpi .slt b (broadcast S512x128 0#32)) (addi b (broadcast S512x128 128#32)) b

/-- The lane number. -/
abbrev lane : IVec S512x128 32 := iota .tc S512x128 32 [1] iota_S512x128_d1_w32

/-- What the kernel stores of one chunk. -/
def chunk (E : Vec F S512x128 .i8) (w : BitVec 32) (C : Vec F S512x128 .fp8e4m3) : FVec F S512x128 .bf16 :=
  mulf (extf .bf16 (shapeCast S512x128 C shapeCasts_S512x128_S512x128) bitsLt_fp8e4m3_bf16)
    (truncf .bf16 (dynamicGather 1 (scaleBits (shapeCast S512x128 E shapeCasts_S512x128_S512x128))
      (shapeCast S512x128 (shapeCast S512x128x1 (lanes lane w) shapeCasts_S512x128_S512x128x1) shapeCasts_S512x128x1_S512x128)) bitsLt_bf16_f32)

section
variable {arg1 : Memref sig .tc .vmem S512x4096 .fp8e4m3} {arg2 : Memref sig .tc .vmem S512x128 .i8} {arg3 : Memref sig .tc .vmem S512x4096 .bf16}

/-- A store of one chunk. -/
def Piece (c : Dev nD) (f1 : Buf (Elt F) (arg1.view.loc (c : Thread nD τ))) (E : Vec F S512x128 .i8) (n : ℕ) (p : View.Piece (Elt F) S512x4096 .bf16) : Prop :=
  ∃ h : ∀ a, (![0, 128 * n] : Fin 2 → ℕ) a + S512x128.size a ≤ S512x4096.size a,
    p = ⟨Rect.unit (s := S512x4096) ![0, 128 * n] S512x128.size h, chunk E (BitVec.ofNat 32 (4 * n))
      (arg1.view.readAt (Elt F) (Rect.unit (s := S512x4096) ![0, 128 * n] S512x128.size h).toLoadRect f1)⟩
end

/-- The kernel's lane arithmetic at lane `l` of a chunk. -/
def laneWord (l w : BitVec 32) : BitVec 32 :=
  let q := IntOp.divsi .vector l 32#32
  let sgn := IntOp.subi ((IntOp.cmpi .sgt l 0#32).setWidth 32) ((IntOp.cmpi .slt l 0#32).setWidth 32)
  let one := Scalar.subi (Scalar.extui (Scalar.cmpi .sgt 32#32 0#32) : BitVec 32) (Scalar.extui (Scalar.cmpi .slt 32#32 0#32))
  let adj := IntOp.andi (IntOp.cmpi .ne sgn one) (IntOp.cmpi .ne (IntOp.remsi .vector l 32#32) 0#32)
  let b := IntOp.addi (Scalar.select adj (IntOp.subi q 1#32) q) w
  Scalar.select (IntOp.cmpi .slt b 0#32) (IntOp.addi b 128#32) b

theorem laneWord_eq : ∀ (n : Fin 32) (l : Fin 128), (laneWord (BitVec.ofNat 32 l.val) (BitVec.ofNat 32 (4 * n.val))).toNat = l.val / 32 + 4 * n.val := by
  decide +kernel

theorem lanes_apply (w : BitVec 32) (r : Fin 512) (l : Fin 128) : lanes lane w (ix2 r l) = laneWord (BitVec.ofNat 32 l.val) w := by
  unfold lanes laneWord lane
  pointwise

/-- Chunk `n` is the dequantised block's columns from `128 n` on. -/
theorem chunk_apply (C : Vec F S512x4096 .fp8e4m3) (E : Vec F S512x128 .i8) (B : Vec F S512x128 .fp8e4m3) (n : Fin 32)
    (hB : ∀ (r : Fin 512) (l : Fin 128), B (ix2 r l) = C (ix2 r (⟨128 * n.val + l.val, by omega⟩ : Fin 4096))) (r : Fin 512) (l : Fin 128) :
    chunk E (BitVec.ofNat 32 (4 * n.val)) B (ix2 r l) = deq C E (ix2 r (⟨128 * n.val + l.val, by omega⟩ : Fin 4096)) := by
  unfold chunk deq
  pointwise
  rw [hB r l, lanes_apply, Fin.mk_eq_mk.2 (show (laneWord (BitVec.ofNat 32 l.val) (BitVec.ofNat 32 (4 * n.val))).toNat % 128 = (128 * n.val + l.val) / 32 by
    rw [laneWord_eq]; omega)]
  rfl

/-- Of two lists related element by element, each element has its partner. -/
theorem forall₂_exists_left {α β : Type} {R : α → β → Prop} {l : List α} {L : List β} (h : List.Forall₂ R l L) {b : β} (hb : b ∈ L) : ∃ a ∈ l, R a b := by
  induction h with
  | nil => exact absurd hb List.not_mem_nil
  | cons hr _ ih =>
    rcases List.mem_cons.1 hb with rfl | hb
    · exact ⟨_, List.mem_cons_self, hr⟩
    · obtain ⟨a, ha, h⟩ := ih hb; exact ⟨a, List.mem_cons_of_mem _ ha, h⟩
theorem forall₂_exists_right {α β : Type} {R : α → β → Prop} {l : List α} {L : List β} (h : List.Forall₂ R l L) {a : α} (ha : a ∈ l) : ∃ b ∈ L, R a b := by
  induction h with
  | nil => exact absurd ha List.not_mem_nil
  | cons hr _ ih =>
    rcases List.mem_cons.1 ha with rfl | ha
    · exact ⟨_, List.mem_cons_self, hr⟩
    · obtain ⟨b, hb, h⟩ := ih ha; exact ⟨b, List.mem_cons_of_mem _ hb, h⟩

/-- What the chunks' stores leave is the dequantised block. -/
theorem read_pieces (c : Dev nD) {arg1 : Memref sig .tc .vmem S512x4096 .fp8e4m3} (arg3 : Memref sig .tc .vmem S512x4096 .bf16)
    (f1 : Buf (Elt F) (arg1.view.loc (c : Thread nD τ))) (f3 : Buf (Elt F) (arg3.view.loc (c : Thread nD τ))) (E : Vec F S512x128 .i8)
    (L : List (View.Piece (Elt F) S512x4096 .bf16)) (h : List.Forall₂ (Piece c f1 E) (List.range 32).reverse L) :
    arg3.view.read (Elt F) (arg3.view.writes (Elt F) f3 L) = deq (arg1.view.read (Elt F) f1) E := by
  funext y
  refine View.read_writes_apply_of_pieces (Val := Elt F) arg3.view f3 (deq (arg1.view.read (Elt F) f1) E) L ?_ y ?_
  · intro p hp x
    obtain ⟨n, hn, hin, rfl⟩ := forall₂_exists_left h hp
    have hn' : n < 32 := by simpa using hn
    obtain ⟨r, l, rfl⟩ : ∃ (r : Fin 512) (l : Fin 128), x = ix2 r l := ⟨x 0, x 1, funext (Fin.forall_fin_two.2 ⟨rfl, rfl⟩)⟩
    refine (chunk_apply (arg1.view.read (Elt F) f1) E _ ⟨n, hn'⟩ (fun r l => ?_) r l).trans ?_
    · rw [View.readAt_apply]
      congr 1; funext a; apply Fin.ext; revert a
      exact Fin.forall_fin_two.2 ⟨by show 0 + 1 * r.val = r.val; omega, by show 128 * n + 1 * l.val = 128 * n + l.val; omega⟩
    · congr 1; funext a; apply Fin.ext; revert a
      exact Fin.forall_fin_two.2 ⟨by show r.val = 0 + 1 * r.val; omega, by show 128 * n + l.val = 128 * n + 1 * l.val; omega⟩
  · have hy0 : (y 0).val < 512 := (y 0).isLt
    have hy1 : (y 1).val < 4096 := (y 1).isLt
    obtain ⟨p, hp, hin, rfl⟩ := forall₂_exists_right h (show (y 1).val / 128 ∈ (List.range 32).reverse by simp; omega)
    refine ⟨_, hp, ?_⟩
    rw [Rect.mem_set_unit]
    exact Fin.forall_fin_two.2 ⟨⟨Nat.zero_le _, by show (y 0).val < 0 + 512; omega⟩,
      ⟨by show 128 * ((y 1).val / 128) ≤ (y 1).val; omega, by show (y 1).val < 128 * ((y 1).val / 128) + 128; omega⟩⟩

theorem dequant_body (c : Dev nD) (i : grid0.Coords) (arg1 : Memref sig .tc .vmem S512x4096 .fp8e4m3) (harg1 : arg1.IsWhole) (arg2 : Memref sig .tc .vmem S512x128 .i8) (harg2 : arg2.IsWhole)
    (arg3 : Memref sig .tc .vmem S512x4096 .bf16) (harg3 : arg3.IsWhole)
    (f1 : Buf (Elt F) (arg1.view.loc (c : Thread nD τ))) (f2 : Buf (Elt F) (arg2.view.loc (c : Thread nD τ))) (f3 : Buf (Elt F) (arg3.view.loc (c : Thread nD τ))) :
    (iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3)) : sProp 𝕄)
      ⊢ wp frame (wpE (defs₀ (F := F)) 𝒱₀ (c : Thread nD τ) none) Set.univ
        (cc0_dequant (F := F) i arg1 harg1 arg2 harg2 arg3 harg3)
        (fun _ => iprop((arg1.view.loc (c : Thread nD τ) ↦[arg1.view.set]{fullShare} f1) ∗ (arg2.view.loc (c : Thread nD τ) ↦[arg2.view.set]{fullShare} f2)
      ∗ ∃ g, ⌜arg3.view.read (Elt F) g = deq (arg1.view.read (Elt F) f1) (arg2.view.read (Elt F) f2)⌝ ∗ (arg3.view.loc (c : Thread nD τ) ↦[arg3.view.set]{fullShare} g))) := by
  sl_unfold [cc0_dequant]
  iintro ⟨H1, H2, H3⟩
  sl_exec_parts
  sl_step
  isplitl [H1]; · iexact H1
  isplitl [H2]; · iexact H2
  iexists _
  isplitr; swap; · iexact H3
  ipureintro
  refine (read_pieces (arg1 := arg1) c arg3 f1 f3 (arg2.view.readAt (Elt F) (Rect.unit (s := S512x128) ![0, 0] S512x128.size Gen.inb_S512x128_S512x128_0_0).toLoadRect f2) _ ?_).trans
    (by rw [View.readAt_full (s := S512x128)])
  sl_unfold_run_names
  rw [show (List.range 32).reverse = [31, 30, 29, 28, 27, 26, 25, 24, 23, 22, 21, 20, 19, 18, 17, 16, 15, 14, 13, 12, 11, 10, 9, 8, 7, 6, 5, 4, 3, 2, 1, 0] from rfl]
  repeat' refine List.Forall₂.cons ⟨_, rfl⟩ ?_
  exact List.Forall₂.nil

end Cert.Proof.Kernel
-- ==== Proof.K.Regions.lean ====
/- The two kernel calls one after the other: the dequantising call's blocks, and the whole program's run from the main call's proof data. -/
module

public import proofs.«01_k».proof.Proof.K.Dequant
public import proofs.«01_k».proof.Proof.Gen.Kernel.Regions
public import proofs.«01_k».proof.Proof.Gen.Kernel.Points
public import Idealize.ShloMosaic.Lib.Pipeline.Frame
public import Idealize.ShloMosaic.Lib.Pipeline.ArrRel
public import Idealize.ShloMosaic.Lib.Pipeline.RegionArrays
public import Idealize.ShloMosaic.Lib.Claim

@[expose] public section

set_option maxRecDepth 16384

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat HostSeg)
open Idealize.ShloMosaic.Pipeline.RDat (Seg RegionSeg)

variable {F : FTy → Type} [FloatOps F]

local notation "𝕄" => MT nD τ sig Unit (Elt F) ℕ (UR sig nD τ) ℕ

/-- What the two prefetched tables hold: the row tile's and the column tile's number, point by point. -/
def tbl : pre1.Contents (Elt F)
  | ⟨0, _⟩ => fun i => lit0 (S78.rowMajor i)
  | ⟨1, _⟩ => fun i => lit1 (S78.rowMajor i)

theorem lit0_lt : ∀ n, (lit0 n).toNat < 12 := by decide +kernel
theorem lit1_lt : ∀ n, (lit1 n).toNat < 12 := by decide +kernel

theorem ok_tbl : ok1 (tbl (F := F)) := of_decide_eq_true (by chain_rfl)

/-- The tables' contents, admissible. -/
abbrev adm1 : (pcfg1 (F := F)).Adm := ⟨tbl, ok_tbl⟩
/-- The first call has no table. -/
abbrev adm : (p : Fin 2) → (pcfgs (F := F) p).Adm
  | ⟨0, _⟩ => cfg0.toPCfg_adm
  | ⟨1, _⟩ => adm1

/-! ## The dequantising call -/

/-- Row `r` of block `t`. -/
def row (t : Fin 24) (r : Fin 512) : Fin 12288 := ⟨512 * t.val + r.val, by omega⟩
/-- The codes' block `t`. -/
def blkC (C : Vec F S12288x4096 .fp8e4m3) (t : Fin 24) : Vec F S512x4096 .fp8e4m3 := fun r => C (ix2 (row t (r 0)) (r 1))
/-- The exponents' block `t`. -/
def blkE (E : Vec F S12288x128 .i8) (t : Fin 24) : Vec F S512x128 .i8 := fun r => E (ix2 (row t (r 0)) (r 1))

/-- The whole dequantised array. -/
def deqAll (C : Vec F S12288x4096 .fp8e4m3) (E : Vec F S12288x128 .i8) : FVec F S12288x4096 .bf16 := fun y =>
  have h : (y 0).val < 12288 := (y 0).isLt
  let t : Fin 24 := ⟨(y 0).val / 512, by omega⟩
  deq (blkC C t) (blkE E t) (ix2 (⟨(y 0).val % 512, by omega⟩ : Fin 512) (y 1))

variable (m : (ℓ : Loc nD τ sig) → Buf (Elt F) ℓ)

/-- The buffers' contents when the first call starts. -/
abbrev V1 (c : Dev nD) : Valuation τ sig (Elt F) := Gen.V1 m c
/-- After the first call. -/
def V2 (c : Dev nD) : Valuation τ sig (Elt F) := Function.update (V1 m c) main_v2 (deqAll (V1 m c main_v0) (V1 m c main_v1))
/-- When the main call starts. -/
def V3 (c : Dev nD) : Valuation τ sig (Elt F) := StableHlo.after Gen.hostOps1 (V2 m c)
/-- `V3` at a buffer. -/
abbrev V (c : Dev nD) (b : Ref sig .tc) : Buf (Elt F) ((c : Thread nD τ).loc b) := V3 m c b

theorem V2_of (c : Dev nD) (r : Ref sig .tc) (h : r ≠ main_v2) : V2 m c r = V1 m c r := by
  unfold V2; rw [Function.update_of_ne (StableHlo.devRef_ne_of_ne h)]
theorem V2_x (c : Dev nD) : V2 m c main_v2 = deqAll (V1 m c main_v0) (V1 m c main_v1) := by
  unfold V2; rw [Function.update_self]
theorem V3_of (c : Dev nD) (r : Ref sig .tc) (h : r ∉ Gen.hostOps1_W) : V3 m c r = V2 m c r :=
  StableHlo.after_of_writes_sub Gen.hostOps1 _ Gen.hostOps1_writes h

/-- What the dequantising body may leave in a window. -/
def left0 (c : Dev nD) : (w : Fin 3) → (t : Fin 24) → (Y X : (spec0 w).block.Idx → Elt F (spec0 w).elt) → Prop
  | 0 => fun _ Y X => X = Y
  | 1 => fun _ Y X => X = Y
  | 2 => fun t _ X => X = deq (blkC (V1 m c main_v0) t) (blkE (V1 m c main_v1) t)

/-- The dequantising call's proof data. -/
def dat0 (c : Dev nD) : RDat τ (Elt F) Unit ℕ (UR sig nD τ) ℕ cfg0 c where
  A w := V1 m c (Pipeline.arrRef spec0 w)
  after w t Y X := left0 m c w t Y X
  Φ _ := iprop(Pipeline.scopedRest spec0 c ∗ ∃ r, prngReg c r)
  q _ := fullShare
  owed _ := 0

theorem ix0_0 : ∀ t : Fin 24, (cfg0.win 0).index t = ![t.val, 0] := fun t => by fin_cases t <;> rfl
theorem ix0_1 : ∀ t : Fin 24, (cfg0.win 1).index t = ![t.val, 0] := fun t => by fin_cases t <;> rfl
theorem ix0_2 : ∀ t : Fin 24, (cfg0.win 2).index t = ![t.val, 0] := fun t => by fin_cases t <;> rfl

theorem found0 (c : Dev nD) (t : Fin 24) (Y) (h : (dat0 m c).Finds 0 t Y) : Y = blkC (V1 m c main_v0) t := by
  obtain ⟨d, rfl⟩ := ((dat0 m c).finds_of_fetch (w := 0) (t := t) (Gen.fetch0_0 t) Y).1 h
  refine funext fun r => ?_
  show V1 m c main_v0 (((cfg0.win 0).rect t).emb r) = V1 m c main_v0 (ix2 (row t (r 0)) (r 1))
  refine congrArg (V1 m c main_v0) (funext fun a => Fin.ext ?_)
  refine (Pipeline.Window.rect_emb_val _ _ _ a rfl).trans ?_
  fin_cases a
  · exact (congrArg (fun n => n * 512 + (r 0).val) (congrFun (ix0_0 t) 0)).trans (by show t.val * 512 + (r 0).val = 512 * t.val + (r 0).val; omega)
  · exact (congrArg (fun n => n * 4096 + (r 1).val) (congrFun (ix0_0 t) 1)).trans (by show 0 * 4096 + (r 1).val = (r 1).val; omega)

theorem found1 (c : Dev nD) (t : Fin 24) (Y) (h : (dat0 m c).Finds 1 t Y) : Y = blkE (V1 m c main_v1) t := by
  obtain ⟨d, rfl⟩ := ((dat0 m c).finds_of_fetch (w := 1) (t := t) (Gen.fetch0_1 t) Y).1 h
  refine funext fun r => ?_
  show V1 m c main_v1 (((cfg0.win 1).rect t).emb r) = V1 m c main_v1 (ix2 (row t (r 0)) (r 1))
  refine congrArg (V1 m c main_v1) (funext fun a => Fin.ext ?_)
  refine (Pipeline.Window.rect_emb_val _ _ _ a rfl).trans ?_
  fin_cases a
  · exact (congrArg (fun n => n * 512 + (r 0).val) (congrFun (ix0_1 t) 0)).trans (by show t.val * 512 + (r 0).val = 512 * t.val + (r 0).val; omega)
  · exact (congrArg (fun n => n * 128 + (r 1).val) (congrFun (ix0_1 t) 1)).trans (by show 0 * 128 + (r 1).val = (r 1).val; omega)

theorem obligation0 (c : Dev nD) : (dat0 m c).BodyObligation defs₀ 𝒱₀ () Set.univ := by
  intro t Y hY
  have h0 := found0 m c t _ (hY 0)
  have h1 := found1 m c t _ (hY 1)
  rw [Gen.bigSep_W0, Gen.bigSep_W0]
  unfold RDat.owesAt Pipeline.owesWithin
  rw [show (dat0 m c).Φ t.succ = (dat0 m c).Φ t.castSucc from rfl,
    show (dat0 m c).owed t.castSucc = 0 from rfl, show (dat0 m c).owed t.succ = 0 from rfl]
  unfold owns defs₀; rw [Defs.onTc_tc]
  iintro ⟨HP, HO, ⟨%f0, %e0, W0⟩, ⟨%f1, %e1, W1⟩, ⟨%f2, -, W2⟩⟩
  iapply (wp_wand_r Idealize.ShloMosaic.frame (wpE (defs₀ (F := F)) 𝒱₀ (c : Thread nD τ) none) Set.univ)
  isplitl [W0 W1 W2]
  · iapply (dequant_body c (grid0.coords t) _ _ _ _ _ _ f0 f1 f2)
    isplitl [W0]; · iexact W0
    isplitl [W1]; · iexact W1
    iexact W2
  · iintro %_ ⟨W0, W1, ⟨%g, %hg, W2⟩⟩
    isplitl [HP]; · iexact HP
    isplitl [HO]; · iexact HO
    isplitl [W0]
    · iexists _; isplitr; swap
      · iexists _; isplitr; swap; · iexact W0
        ipureintro; exact e0
      ipureintro; exact rfl
    isplitl [W1]
    · iexists _; isplitr; swap
      · iexists _; isplitr; swap; · iexact W1
        ipureintro; exact e1
      ipureintro; exact rfl
    iexists _; isplitr; swap
    · iexists _; isplitr; swap; · iexact W2
      ipureintro; rfl
    ipureintro
    exact hg.trans (congrArg₂ deq (e0.trans h0) (e1.trans h1))

/-- What holds of each element of each block that a result array takes, holds of each of the array's elements. -/
theorem arr_forall {nD : Nat} {τ : Topo} {sig : RefSig} {Val : EltTy → Type} {Λ₀ : Idealize.SL.Sem.Labels} [∀ e, Nonempty (Val e)]
    {Ix : Type} [DecidableEq Ix] {Name : Type} [DecidableEq Name] {U : Type} [URA U] {Lvl : Type}
    {cfg : Pipeline.Cfg sig Λ₀} {c : Dev nD} (rd : RDat τ Val Ix Name U Lvl cfg c)
    (w : Fin cfg.W) (G : Buf Val ((cfg.win w).arr.view.loc (c.tc : Thread nD τ))) (hG : rd.ArrAt w cfg.N G)
    (P : ((cfg.win w).arr.view.loc (c.tc : Thread nD τ)).2.ty.Idx → Val ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y) (_root_.cast (congrArg Val ((cfg.win w).blk t).view.elt_eq.symm) ((cfg.win w).cut (cfg.grid.coords t) X y)))
    (hcover : ∀ i : ((cfg.win w).arr.view.loc (c.tc : Thread nD τ)).2.ty.Idx,
      ∃ t : Fin cfg.N, (cfg.win w).flush t = true ∧ i ∈ ((cfg.win w).blk t).view.set) (i) : P i (G i) := by
  obtain ⟨X, hX, hA⟩ := RDat.ArrAt.exists_exact hG
  rw [hA (Function.update (fun _ _ _ => Classical.arbitrary _) w X) fun u _ _ => by rw [Function.update_self]]
  refine Dat.arrAt_forall_of_cover _ w P (fun t hf y => ?_) hcover i
  have e : (rd.withAfter (Function.update (fun _ _ _ => Classical.arbitrary _) w X)).after w t = X t := by
    rw [RDat.withAfter_after, Function.update_self]
  have h := hP t hf (X t) (hX t t.isLt hf) y
  rw [← e] at h
  exact h

theorem emb0_2 (t : Fin 24) (y : S512x4096.Idx) : ((cfg0.win 2).rect t).emb y = (ix2 (row t (y 0)) (y 1) : S12288x4096.Idx) := by
  refine funext fun a => Fin.ext ?_
  refine (Pipeline.Window.rect_emb_val _ _ _ a rfl).trans ?_
  fin_cases a
  · exact (congrArg (fun n => n * 512 + (y 0).val) (congrFun (ix0_2 t) 0)).trans (by show t.val * 512 + (y 0).val = 512 * t.val + (y 0).val; omega)
  · exact (congrArg (fun n => n * 4096 + (y 1).val) (congrFun (ix0_2 t) 1)).trans (by show 0 * 4096 + (y 1).val = (y 1).val; omega)

theorem deqAll_row (C : Vec F S12288x4096 .fp8e4m3) (E : Vec F S12288x128 .i8) (t : Fin 24) (y : S512x4096.Idx) :
    deqAll C E (ix2 (row t (y 0)) (y 1)) = deq (blkC C t) (blkE E t) y := by
  have h0 : (y 0).val < 512 := (y 0).isLt
  have e : ((512 * t.val + (y 0).val) / 512) = t.val := by omega
  have e' : ((512 * t.val + (y 0).val) % 512) = (y 0).val := by omega
  have ht : (⟨(512 * t.val + (y 0).val) / 512, by omega⟩ : Fin 24) = t := Fin.ext e
  have hr : (ix2 (⟨(512 * t.val + (y 0).val) % 512, by omega⟩ : Fin 512) (y 1) : S512x4096.Idx) = y := by
    refine funext fun a => Fin.ext ?_
    fin_cases a
    · exact e'
    · rfl
  show deq (blkC C ⟨(512 * t.val + (y 0).val) / 512, _⟩) (blkE E ⟨(512 * t.val + (y 0).val) / 512, _⟩) (ix2 (⟨(512 * t.val + (y 0).val) % 512, _⟩ : Fin 512) (y 1)) = _
  rw [ht, hr]

theorem cover0 (i : S12288x4096.Idx) : ∃ t : Fin 24, (cfg0.win 2).flush t = true ∧ i ∈ ((cfg0.win 2).blk t).view.set := by
  have h0 : (i 0).val < 12288 := (i 0).isLt
  obtain ⟨t, ht⟩ : ∃ t : Fin 24, t.val = (i 0).val / 512 := ⟨⟨(i 0).val / 512, by omega⟩, rfl⟩
  obtain ⟨r, hr⟩ : ∃ r : Fin 512, r.val = (i 0).val % 512 := ⟨⟨(i 0).val % 512, by omega⟩, rfl⟩
  refine ⟨t, Gen.flush0_2 t, ?_⟩
  have e : (((cfg0.win 2).blk t).view.emb (ix2 r (i 1) : S512x4096.Idx)) = i := by
    refine (emb0_2 t (ix2 r (i 1))).trans (funext fun a => Fin.ext ?_)
    fin_cases a
    · show 512 * t.val + r.val = (i 0).val; omega
    · rfl
  rw [← e]; exact ((cfg0.win 2).blk t).view.emb_mem_set _

theorem out0 (c : Dev nD) (G : FVec F S12288x4096 .bf16) (hG : (dat0 m c).ArrAt 2 cfg0.N G) : G = deqAll (V1 m c main_v0) (V1 m c main_v1) := by
  refine funext fun i => ?_
  refine arr_forall (dat0 m c) 2 G hG (fun i v => v = deqAll (V1 m c main_v0) (V1 m c main_v1) i) (fun t hf X hX y => ?_) (fun i => ?_) i
  · obtain ⟨_, -, hX⟩ := hX
    have hX : X = deq (blkC (V1 m c main_v0) t) (blkE (V1 m c main_v1) t) := hX
    have he := emb0_2 t y
    show X _ = deqAll _ _ (((cfg0.win 2).rect t).emb y)
    refine Eq.trans ?_ (congrArg (deqAll (V1 m c main_v0) (V1 m c main_v1)) he).symm
    refine Eq.trans ?_ (deqAll_row (V1 m c main_v0) (V1 m c main_v1) t y).symm
    exact congrFun hX y
  · exact cover0 i

/-! ## The run -/

/-- What is carried from one part of the program to the next. -/
abbrev Rest (c : Dev nD) : sProp 𝕄 := iprop((∃ W, owes (c.tc : Thread nD τ) (0 : CellTallies nD τ sig Unit) W) ∗ ∃ r, prngReg c r)

section
variable (D : (c : Dev nD) → RDat τ (Elt F) Unit ℕ (UR sig nD τ) ℕ (cfg1 (adm1 (F := F))) c)

/-- The two calls' proof data. -/
def dats : (p : Fin 2) → (c : Dev nD) → RDat τ (Elt F) Unit ℕ (UR sig nD τ) ℕ (Pipeline.pin (pcfgs (F := F)) adm p) c
  | ⟨0, _⟩ => fun c => dat0 m c
  | ⟨1, _⟩ => fun c => D c

/-- No level is assigned. -/
abbrev noL : GSem nD τ sig → Finset Unit := fun _ => ∅
abbrev noLv : GSem nD τ sig → Unit → ℕ := fun _ _ => 0

/-- The dequantising call. -/
def region0 : RegionSeg (pcfgs (F := F)) adm (dats m D) () defs₀ 𝒱₀ noL noLv 0 where
  win := (Gen.launch0 (F := F)).win.to₀
  block_pos := (Gen.launch0 (F := F)).block_pos
  stage_whole := (Gen.launch0 (F := F)).stage_whole
  K := PEmpty
  osem k := k.elim
  ho := Pipeline.OwnSemFacts.none _
  hbody c := obligation0 m c
  hwaits c := Pipeline.RDat.hwaits_of_owed_zero _ _ _ _ _ _ 0 (fun _ _ => rfl) c
  pre c := iprop(StableHlo.held (c : Thread nD τ) (Pipeline.ucRefs τ sig) (V1 m c) ∗ Rest c)
  post c := iprop(StableHlo.held (c : Thread nD τ) (Pipeline.ucRefs τ sig) (V2 m c) ∗ Rest c)
  X c := iprop(∃ r, prngReg c r)
  Y c := iprop(∃ r, prngReg c r)
  Z c := Pipeline.unscopedRest spec0 c (fun b => V1 m c b)
  hentry c := by
    rw [← Pipeline.unscopedBufs_held (Ix := Unit) (Name := ℕ) (U := UR sig nD τ) (Lvl := ℕ) c (V1 m c)]
    iintro ⟨⟨HU, HO, Hp⟩, -, -⟩
    ihave Ha := (Pipeline.RDat.arrays_of_unscopedBufs (pcfgs (F := F)) adm (dats m D) (p := 0) (Gen.launch0 (F := F)).win (Gen.launch0 (F := F)).arr_whole c
      (fun w => by fin_cases w <;> rfl) (fun b => V1 m c b) (fun w => rfl)) $$ HU
    icases Ha with ⟨Ha, Hr⟩
    imodintro
    isplitl [Ha]; · iexact Ha
    isplitr; · rw [Pipeline.prefHeld_of_none _ rfl]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hr
  hin c := by
    show _ ⊢ iprop(Pipeline.scopedRest spec0 c ∗ ∃ r, prngReg c r)
    iintro ⟨Hp, -, Hr⟩
    isplitl [Hr]; · iexact Hr
    iexact Hp
  hout c := by
    rw [Pipeline.ownSems0_none]
    show iprop(Pipeline.scopedRest spec0 c ∗ ∃ r, prngReg c r) ⊢ _
    iintro ⟨Hr, Hp⟩
    isplitl [Hp]; · iexact Hp
    isplitr; · iempintro
    iexact Hr
  hexit c := by
    have hex : ((dats m D 0 c).arraysAt (Pipeline.pin (pcfgs (F := F)) adm 0).N : sProp 𝕄)
        ⊢ bigSep Finset.univ fun w => (((c.tc : Thread nD τ).loc (Pipeline.arrRef spec0 w)) ↦{fullShare} V2 m c (Pipeline.arrRef spec0 w) : sProp 𝕄) := by
      rw [Pipeline.RDat.arraysAt_eq (pcfgs (F := F)) adm (dats m D) 0 c (Gen.launch0 (F := F)).arr_whole (fun w => by fin_cases w <;> rfl)]
      refine bigSep_mono fun w _ => ?_
      show (iprop(∃ G, ⌜(dat0 m c).ArrAt w cfg0.N G⌝ ∗ ((c.tc : Thread nD τ).loc (Pipeline.arrRef spec0 w)) ↦{fullShare} G) : sProp 𝕄)
        ⊢ (((c.tc : Thread nD τ).loc (Pipeline.arrRef spec0 w)) ↦{fullShare} V2 m c (Pipeline.arrRef spec0 w))
      iintro ⟨%G, %hG, H⟩
      have e : G = V2 m c (Pipeline.arrRef spec0 w) := by
        fin_cases w
        · exact (Eq.mp (congrFun ((dat0 m c).ArrAt_in 0 rfl cfg0.N) G) hG).trans (V2_of m c main_v0 (by decide)).symm
        · exact (Eq.mp (congrFun ((dat0 m c).ArrAt_in 1 rfl cfg0.N) G) hG).trans (V2_of m c main_v1 (by decide)).symm
        · exact (out0 m c G hG).trans (V2_x m c).symm
      subst e
      iexact H
    have hrest : (Pipeline.unscopedRest (Ix := Unit) (Name := ℕ) (U := UR sig nD τ) (Lvl := ℕ) spec0 c (fun b => V1 m c b) : sProp 𝕄) = Pipeline.unscopedRest spec0 c (fun b => V2 m c b) := by
      unfold Pipeline.unscopedRest
      refine bigSep_congr fun b hb => ?_
      have e := V2_of m c b (fun h => (Finset.mem_sdiff.mp hb).2 (Finset.mem_image.mpr ⟨2, Finset.mem_univ _, h.symm⟩))
      show (((c.tc : Thread nD τ).loc b) ↦{fullShare} V1 m c b : sProp 𝕄) = (((c.tc : Thread nD τ).loc b) ↦{fullShare} V2 m c b)
      rw [e]
    show iprop(_ ∗ _ ∗ _ ∗ Pipeline.unscopedRest spec0 c (fun b => V1 m c b)) ⊢ _
    rw [← Pipeline.unscopedBufs_held (Ix := Unit) (Name := ℕ) (U := UR sig nD τ) (Lvl := ℕ) c (V2 m c), hrest,
      Pipeline.unscopedBufs_split (Pipeline.pin (pcfgs (F := F)) adm) 0 (Gen.launch0 (F := F)).win.arr_unscoped (Gen.launch0 (F := F)).win.arr_inj c (fun b => V2 m c b)]
    iintro ⟨Ha, HO, Hp, Hr⟩
    ihave Ha := hex $$ Ha
    imodintro
    isplitl [Ha Hr]
    · isplitl [Ha]; · iexact Ha
      iexact Hr
    isplitl [HO]
    · unfold RDat.owesAt Pipeline.owesWithin
      icases HO with ⟨%W, -, HO⟩; iexists W; iexact HO
    iexact Hp

/-- What the main call's proof data must give. -/
structure Good : Prop where
  hA : ∀ c w, (D c).A w = V m c (Pipeline.arrRef spec1 w)
  hq : ∀ c w, (spec1 w).isOut = false → (D c).q w = Pipeline.shareOf spec1 w
  howed : ∀ c t, (D c).owed t = 0
  hrec : ∀ c, (D c).recorded 0 = Set.univ
  hbody : ∀ c, (D c).BodyObligation defs₀ 𝒱₀ () Set.univ
  hin : ∀ c : Dev nD, (iprop((∃ r, prngReg c r) ∗ Pipeline.prefHeld pre1 c (fun _ => fullShare) (tbl (F := F)) ∗ Pipeline.scopedRest spec1 c) : sProp 𝕄) ⊢ (D c).Φ 0
  hout : ∀ c, (D c).Φ (Fin.last (cfg1 (adm1 (F := F))).N) ⊢ (iprop((∃ r, prngReg c r) ∗ Pipeline.scopedRest spec1 c) : sProp 𝕄)

theorem V3_tbl (c : Dev nD) : ∀ k, V m c (pre1.ref k) = tbl (F := F) k := by
  intro k
  fin_cases k
  · exact (V3_of m c main_c (by decide)).trans <| (V2_of m c main_c (by decide)).trans (by
      show StableHlo.after Gen.hostOps0 (fun b => m (c, b)) main_c = _
      entry_read; rfl)
  · exact (V3_of m c main_c_0 (by decide)).trans <| (V2_of m c main_c_0 (by decide)).trans (by
      show StableHlo.after Gen.hostOps0 (fun b => m (c, b)) main_c_0 = _
      entry_read; rfl)

variable (h : Good m D)

/-- The main call. -/
def region1 : RegionSeg (pcfgs (F := F)) adm (dats m D) () defs₀ 𝒱₀ noL noLv 1 where
  win := (Gen.launch₀1 (F := F)).win
  block_pos := (Gen.launch₀1 (F := F)).block_pos
  stage_whole := (Gen.launch₀1 (F := F)).stage_whole
  K := PEmpty
  osem k := k.elim
  ho := Pipeline.OwnSemFacts.none _
  hbody c := h.hbody c
  hwaits c := Pipeline.RDat.hwaits_of_owed_zero _ _ _ _ _ _ 1 h.howed c
  pre c := iprop(StableHlo.held (c : Thread nD τ) (Pipeline.ucRefs τ sig) (V3 m c) ∗ Rest c)
  post c := iprop((((D c).arraysAt (cfg1 (adm1 (F := F))).N : sProp 𝕄) ∗ Pipeline.unscopedRestP pre1 spec1 c (V m c)) ∗ ∃ W, owes (c.tc : Thread nD τ) (0 : CellTallies nD τ sig Unit) W)
  X c := iprop(∃ r, prngReg c r)
  Y c := iprop(∃ r, prngReg c r)
  Z c := Pipeline.unscopedRestP pre1 spec1 c (V m c)
  hentry c := by
    have hs : ((Pipeline.arrBufs spec1 c (V m c)) : sProp 𝕄) ⊢ (D c).arrays (D c).A :=
      (D c).arrays_split_shared (Gen.launch₀1 (F := F)).sharedIn (Gen.launch₀1 (F := F)).arr_whole (h.hq c) (V m c) _ (h.hA c)
    rw [← Pipeline.unscopedBufs_held (Ix := Unit) (Name := ℕ) (U := UR sig nD τ) (Lvl := ℕ) c (V3 m c),
      Pipeline.unscopedBufs_split₀ (Pipeline.pin (pcfgs (F := F)) adm) 1 (Gen.launch₀1 (F := F)).win.arr_unscoped c (V m c)]
    have hr : (Pipeline.unscopedRest (Ix := Unit) (Name := ℕ) (U := UR sig nD τ) (Lvl := ℕ) spec1 c (V m c) : sProp 𝕄)
        ⊢ iprop(Pipeline.prefHeld pre1 c (fun _ => fullShare) (tbl (F := F)) ∗ Pipeline.unscopedRestP pre1 spec1 c (V m c)) := by
      rw [Pipeline.unscopedRest_split Gen.preFacts1 c (V m c), show (fun k => V m c (pre1.ref k)) = tbl (F := F) from funext (V3_tbl m c)]
    have ho : (iprop(∃ W, owes (c.tc : Thread nD τ) (0 : CellTallies nD τ sig Unit) W) : sProp 𝕄) ⊢ (D c).owesAt () 0 := by
      unfold RDat.owesAt Pipeline.owesWithin RDat.bound
      rw [h.howed c 0, h.hrec c]
      iintro ⟨%W, HO⟩
      iexists W; isplitr; · ipureintro; exact fun _ _ => Or.inl trivial
      iexact HO
    iintro ⟨⟨⟨Ha, Hr⟩, HO, Hp⟩, -, -⟩
    ihave Ha := hs $$ Ha
    ihave Hr := hr $$ Hr
    ihave HO := ho $$ HO
    icases Hr with ⟨Ht, Hr⟩
    imodintro
    isplitl [Ha]; · iexact Ha
    isplitl [Ht]; · iexact Ht
    isplitl [HO]; · iexact HO
    isplitl [Hp]; · iexact Hp
    iexact Hr
  hin c := h.hin c
  hout c := (h.hout c).trans (by
    rw [Pipeline.ownSems0_none]
    iintro ⟨Hp, Hr⟩
    isplitl [Hp]; · iexact Hp
    isplitr; · iempintro
    iexact Hr)
  hexit c := by
    show iprop((D c).arraysAt _ ∗ (D c).owesAt () (Fin.last _) ∗ _ ∗ _) ⊢ _
    unfold RDat.owesAt Pipeline.owesWithin
    rw [h.howed c (Fin.last _)]
    iintro ⟨Ha, ⟨%W, -, HO⟩, -, Hr⟩
    imodintro
    isplitl [Ha Hr]
    · isplitl [Ha]; · iexact Ha
      iexact Hr
    iexists W; iexact HO

/-- The host operations before the first call. -/
def host0 : HostSeg (Ix := Unit) (Name := ℕ) (U := UR sig nD τ) (Lvl := ℕ) (pcfgs (F := F)) defs₀ 𝒱₀ noL noLv :=
  Pipeline.HostSeg.ofOps _ _ _ _ _ (Pipeline.ucRefs τ sig) Gen.hostOps0
    (fun op h => Pipeline.sub_ucRefs op ((List.forall_iff_forall_mem.mp Gen.hostOps0_sub) op h))
    (fun op h => (List.forall_iff_forall_mem.mp Gen.hostOps0_fresh) op h) (Gen.V0 m) Rest
/-- The host operations between the calls. -/
def host1 : HostSeg (Ix := Unit) (Name := ℕ) (U := UR sig nD τ) (Lvl := ℕ) (pcfgs (F := F)) defs₀ 𝒱₀ noL noLv :=
  Pipeline.HostSeg.ofOps _ _ _ _ _ (Pipeline.ucRefs τ sig) Gen.hostOps1
    (fun op h => Pipeline.sub_ucRefs op ((List.forall_iff_forall_mem.mp Gen.hostOps1_sub) op h))
    (fun op h => (List.forall_iff_forall_mem.mp Gen.hostOps1_fresh) op h) (V2 m) Rest

/-- The program's parts. -/
abbrev parts : List (Seg (pcfgs (F := F)) adm (dats m D) () defs₀ 𝒱₀ noL noLv) :=
  [.host (host0 m), .region (region0 m D), .host (host1 m), .region (region1 m D h)]

include h in
set_option backward.isDefEq.respectTransparency.types false in
/-- The whole program's run: the results stand to the main call's proof data as its write-backs leave them; the other buffers hold what
    they held when the main call started. -/
theorem run (g : Dev nD → PrngReg) {Q : PUnit × MemSt nD τ sig (Elt F) → Prop}
    (hQ : ∀ s : MemSt nD τ sig (Elt F), (∀ c : Dev nD, (∀ w, (D c).ArrAt w (cfg1 (adm1 (F := F))).N (s.mem ((spec1 w).arr.view.loc (c.tc : Thread nD τ))))
        ∧ ∀ b ∈ Pipeline.restRefsP sig pre1 spec1, s.mem ((c.tc : Thread nD τ).loc b) = V m c b) → s.sem = (fun _ => 0) → Q (⟨⟩, s)) :
    θ_run (defs (F := F)) (onTc (τ := τ) (main (F := F))) ⟨m, fun _ => 0, g⟩ Q := by
  refine Pipeline.RDat.θ_run_regions_kit_sems (pcfgs (F := F)) adm (dats m D) () (Gen.cellOf_inj adm) emb₁ defs₀ 𝒱₀ noL noLv m g main
    (parts m D h)
    (fun c Q => by
      rewrite [Gen.main_chain c, Seg.run_eq_chain,
        show (parts m D h).map Seg.prog = [
          StableHlo.seq Gen.hostOps0,
          Prog.lift (.customCall (Pipeline.entry 0) ()),
          StableHlo.seq Gen.hostOps1,
          Prog.lift (.customCall (Pipeline.entry 1) ()) ] from rfl]
      dsimp (config := { failIfUnchanged := false }) only
      exact .rfl)
    (by simp only [parts, Seg.pipes_host, Seg.pipes_region, Seg.pipes_nil]; decide) (fun _ => 0) (fun _ _ => rfl)
    (fun _ => iprop(emp)) (initOf (Pipeline.cells (Pipeline.pin (pcfgs (F := F)) adm) (Gen.cellOf_inj adm)) (Pipeline.launchToks (Pipeline.pin (pcfgs (F := F)) adm) (Gen.cellOf_inj adm)))
    (by
      iintro Hu; imodintro
      isplitl [Hu]
      · iapply (show (ownU _ : sProp 𝕄) ⊢ BI.own (emb₁ (initOf (Pipeline.cells (Pipeline.pin (pcfgs (F := F)) adm) (Gen.cellOf_inj adm)) (Pipeline.launchToks (Pipeline.pin (pcfgs (F := F)) adm) (Gen.cellOf_inj adm)))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => iprop((D c).arraysAt (cfg1 (adm1 (F := F))).N ∗ Pipeline.unscopedRestP pre1 spec1 c (V m c)))
    (hch := ⟨fun _ => .rfl, fun _ => .rfl, fun _ => .rfl, fun _ => .rfl, fun _ => .rfl⟩)
    (hinit := ?_)
    (QY := fun c s => (∀ w, (D c).ArrAt w (cfg1 (adm1 (F := F))).N (s.mem ((spec1 w).arr.view.loc (c.tc : Thread nD τ))))
        ∧ ∀ b ∈ Pipeline.restRefsP sig pre1 spec1, s.mem ((c.tc : Thread nD τ).loc b) = V m c b)
    (hfin := fun c s' => ?_) (hQ := fun s h' hz => hQ s h' (funext fun g => hz g (.inr (Gen.regions_no_unscoped g.2))))
  · have hs : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (g c) ∗ emp))
        ⊢ (bigSep Finset.univ fun c : Dev nD => iprop(StableHlo.held (c : Thread nD τ) (Pipeline.ucRefs τ sig) (Gen.V0 m c) ∗ Rest c) : sProp 𝕄) :=
      bigSep_mono fun c _ => by
        rw [← Pipeline.unscopedBufs_held (Ix := Unit) (Name := ℕ) (U := UR sig nD τ) (Lvl := ℕ) c (Gen.V0 m c)]
        show (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (g c) ∗ emp) : sProp 𝕄)
          ⊢ iprop(unscopedBufs c (fun b => m ((c.tc : Thread nD τ).loc b)) ∗ Rest c)
        iintro ⟨HU, -, HO, -, Hp, -⟩
        isplitl [HU]; · iexact HU
        isplitl [HO]; · iexists _; iexact HO
        iexists _; iexact Hp
    iintro ⟨H, -⟩
    ihave H := hs $$ H
    imodintro
    iexact H
  · iintro ⟨⟨Ha, HU⟩, HSI⟩
    ihave Hr := (Pipeline.RDat.arraysAt_read (pcfgs (F := F)) adm (dats m D) 1 c (Gen.launch₀1 (F := F)).arr_whole (cfg1 (adm1 (F := F))).N s') $$ [Ha HSI]
    · isplitl [Ha]; · iexact Ha
      iexact HSI
    icases Hr with ⟨%h₀, HSI⟩
    unfold Pipeline.unscopedRestP
    ihave Hr := (pointsTo_read_all (Pipeline.restRefsP sig pre1 spec1) (fun b => (c.tc : Thread nD τ).loc b) (V m c) s') $$ [HU HSI]
    · isplitl [HU] <;> iassumption
    icases Hr with ⟨%h', HSI⟩
    imodintro
    isplitr
    · ipureintro; exact ⟨h₀, h'⟩
    · iexact HSI
end

end Cert.Proof.Kernel
-- ==== Proof.K.Body.lean ====
/- The kernel body at one grid point. -/
module

public import proofs.«01_k».proof.Proof.K.Trip

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The checks the body makes of the two tile numbers hold for numbers below 12. -/
theorem chk_of_tile (v1 v3 : BitVec 32) (h1 : Tile v1) (h3 : Tile v3) : k1_chk1 v1 v3 := by
  have hd (v : BitVec 32) (h : v.toNat < 12) : 1024 ∣ (Scalar.muli v 1024#32).toNat := by
    simp only [Scalar.muli, IntOp.muli, BitVec.toNat_mul, BitVec.toNat_ofNat]; omega
  have hm (v : BitVec 32) (h : v.toNat < 12) : (Scalar.muli v 1024#32).toNat ≤ 11264 := by
    simp only [Scalar.muli, IntOp.muli, BitVec.toNat_mul, BitVec.toNat_ofNat]; omega
  refine ⟨hd v3 h3.lt, ?_, fun _ => hd v1 h1.lt, fun _ => ?_⟩
  · intro r a
    have := h3.lt; have := r.isLt
    rw [off11_eq v3 h3.lt _ (by omega)]
    fin_cases a
    · show 0 + 8 ≤ 8; omega
    · show 1024 * v3.toNat + 128 * r.val + 128 ≤ 12288; omega
  · intro a
    have := hm v1 h1.lt
    fin_cases a
    · show 0 + 8 ≤ 8; omega
    · show (Scalar.muli v1 1024#32).toNat + 1024 ≤ 12288; omega

section Body
variable (c : Dev nD) (i : grid1.Coords) (arg1 : Memref sig .tc .smem S78 .i32) (harg1 : arg1.IsWhole) (arg2 : Memref sig .tc .smem S78 .i32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1024x128 .i32) (harg5 : arg5.IsWhole) (arg6 : Memref sig .tc .vmem S1x1024 .i32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .i32) (harg9 : arg9.IsWhole) (arg10 : Memref sig .tc .vmem S1024x1024 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S8x12288 .f32) (harg15 : arg15.IsWhole) (arg16 : Memref sig .tc .vmem S8x12288 .f32) (harg16 : arg16.IsWhole) (arg17 : Memref sig .tc .vmem S8x12288 .f32) (harg17 : arg17.IsWhole) (arg18 : Memref sig .tc .vmem S8x12288 .f32) (harg18 : arg18.IsWhole)

/-- The word a table's cell of point `i` holds. -/
abbrev cell (a : Memref sig .tc .smem S78 .i32) (f : Buf (Elt F) (a.view.loc (c : Thread nD τ))) : BitVec 32 :=
  a.view.readAt (Elt F) (Rect.unit (s := S78) (k1_off1 i) S1.size (Gen.k1_off1_inb i)).toLoadRect f (Shape.Idx.first (show 0 < S1.numel by decide))

theorem body (q : PosShare TreeShare) (f1 : Buf (Elt F) (arg1.view.loc (c : Thread nD τ))) (f2 : Buf (Elt F) (arg2.view.loc (c : Thread nD τ)))
    (h1 : Tile (cell c i arg1 f1)) (h2 : Tile (cell c i arg2 f2)) :
    (iprop((arg1.view.loc (c : Thread nD τ) ↦[arg1.view.set]{q} f1) ∗ (arg2.view.loc (c : Thread nD τ) ↦[arg2.view.set]{q} f2)
      ∗ Held c arg3 ∗ Held c arg4 ∗ Held c arg7 ∗ Held c arg8 ∗ Held c arg9 ∗ LoopRes c arg5 arg6 arg10 arg11 arg12 arg13 arg14 arg15 arg16 arg17 arg18) : sProp 𝕄)
      ⊢ wp frame (wpE (defs₀ (F := F)) 𝒱₀ (c : Thread nD τ) none) Set.univ
        (cc1_supcon (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop((arg1.view.loc (c : Thread nD τ) ↦[arg1.view.set]{q} f1) ∗ (arg2.view.loc (c : Thread nD τ) ↦[arg2.view.set]{q} f2)
      ∗ Held c arg3 ∗ Held c arg4 ∗ Held c arg7 ∗ Held c arg8 ∗ Held c arg9 ∗ LoopRes c arg5 arg6 arg10 arg11 arg12 arg13 arg14 arg15 arg16 arg17 arg18)) := by
  have hchk := chk_of_tile _ _ h1 h2
  sl_unfold [cc1_supcon]
  iintro ⟨H1, H2, ⟨%f3, H3⟩, ⟨%f4, H4⟩, ⟨%f7, H7⟩, ⟨%f8, H8⟩, ⟨%f9, H9⟩, ⟨%f5, H5⟩, ⟨%f6, H6⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  by_cases hA : Scalar.cmpi .ne (Scalar.extui (Scalar.cmpi .eq (BitVec.ofNat 32 (i 0).val) 0#32) : BitVec 32) 0#32 = 1#1 <;>
  by_cases hB : Scalar.cmpi .ne (Scalar.extui (Scalar.cmpi .eq (cell c i arg2 f2) (cell c i arg1 f1)) : BitVec 32) 0#32 = 1#1 <;>
  by_cases hC : k1_cond3 (cell c i arg2 f2) = 1#1
  all_goals
    sl_exec
    sl_step
    isplitl [H1]; · iexact H1
    isplitl [H2]; · iexact H2
    isplitl [H3]; · iexists _; iexact H3
    isplitl [H4]; · iexists _; iexact H4
    isplitl [H7]; · iexists _; iexact H7
    isplitl [H8]; · iexists _; iexact H8
    isplitl [H9]; · iexists _; iexact H9
    isplitl [H5]; · iexists _; iexact H5
    isplitl [H6]; · iexists _; iexact H6
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18
end Body

end Cert.Proof.Kernel
-- ==== Proof.K.Launch.lean ====
/- The main call's body obligation and the run's frame. -/
module

public import proofs.«01_k».proof.Proof.K.Regions
public import proofs.«01_k».proof.Proof.K.Body
public import Idealize.ShloMosaic.Lib.Pipeline.Frame
public import Idealize.ShloMosaic.Lib.Claim

@[expose] public section

noncomputable section

namespace Cert.Proof.Kernel

open Cert.Kernel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F]

local notation "𝕄" => MT nD τ sig Unit (Elt F) ℕ (UR sig nD τ) ℕ

theorem tile0 (c : Dev nD) (i : grid1.Coords) : Tile (cell (F := F) c i (Memref.whole main_c) (tbl 0)) := ⟨lit0_lt _⟩
theorem tile1 (c : Dev nD) (i : grid1.Coords) : Tile (cell (F := F) c i (Memref.whole main_c_0) (tbl 1)) := ⟨lit1_lt _⟩

/-- The first call's block buffers, which the main call leaves alone. -/
def Idle (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))
/-- What the main call's body never touches: those buffers and the generator's register. -/
def Aside (c : Dev nD) : sProp 𝕄 := iprop((∃ r, prngReg c r) ∗ Idle (F := F) c)
/-- The scratch buffers. -/
def Scratch (c : Dev nD) : sProp 𝕄 := iprop(Held c (Memref.whole cc1_scratch0) ∗ Held c (Memref.whole cc1_scratch1) ∗ Held c (Memref.whole cc1_scratch2) ∗ Held c (Memref.whole cc1_scratch3) ∗ Held c (Memref.whole cc1_scratch4) ∗ Held c (Memref.whole cc1_scratch5) ∗ Held c (Memref.whole cc1_scratch6) ∗ Held c (Memref.whole cc1_scratch7) ∗ Held c (Memref.whole cc1_scratch8))
/-- The tables. -/
def Tables (c : Dev nD) : sProp 𝕄 := iprop(((Memref.whole main_c).view.loc (c : Thread nD τ) ↦[(Memref.whole main_c).view.set]{fullShare} tbl (F := F) 0)
      ∗ ((Memref.whole main_c_0).view.loc (c : Thread nD τ) ↦[(Memref.whole main_c_0).view.set]{fullShare} tbl (F := F) 1))

/-- The proof data of the frame: nothing said of what the body leaves in its windows. -/
def rdat (m : (ℓ : Loc nD τ sig) → Buf (Elt F) ℓ) (c : Dev nD) : RDat τ (Elt F) Unit ℕ (UR sig nD τ) ℕ (cfg1 (adm1 (F := F))) c where
  A w := V m c (Pipeline.arrRef spec1 w)
  after _ _ _ _ := True
  Φ _ := iprop((Scratch (F := F) c ∗ Aside c) ∗ Tables c)
  q w := Pipeline.shareOf spec1 w
  owed _ := 0

/-- The tables, one by one. -/
theorem bigSep_T0 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

theorem scratch_in (c : Dev nD) : (Pipeline.scopedRest (Ix := Unit) (Name := ℕ) (U := UR sig nD τ) (Lvl := ℕ) (Val := Elt F) spec1 c : sProp 𝕄) ⊢ iprop(Scratch (F := F) c ∗ Idle c) := by
  rw [Gen.scopedRest1_eq]; unfold Scratch Idle; simp only [Held, Memref.view_whole, View.set_whole]
  iintro ⟨G0, G1, G2, G3, G4, G5, S⟩
  isplitl [S]; · iexact S
  isplitl [G0]; · iexact G0
  isplitl [G1]; · iexact G1
  isplitl [G2]; · iexact G2
  isplitl [G3]; · iexact G3
  isplitl [G4]; · iexact G4
  iexact G5

theorem scratch_out (c : Dev nD) : iprop(Scratch (F := F) c ∗ Idle c) ⊢ (Pipeline.scopedRest (Ix := Unit) (Name := ℕ) (U := UR sig nD τ) (Lvl := ℕ) (Val := Elt F) spec1 c : sProp 𝕄) := by
  rw [Gen.scopedRest1_eq]; unfold Scratch Idle; simp only [Held, Memref.view_whole, View.set_whole]
  iintro ⟨S, G0, G1, G2, G3, G4, G5⟩
  isplitl [G0]; · iexact G0
  isplitl [G1]; · iexact G1
  isplitl [G2]; · iexact G2
  isplitl [G3]; · iexact G3
  isplitl [G4]; · iexact G4
  isplitl [G5]; · iexact G5
  iexact S

/-- The tables, in the form the body holds them. -/
theorem tables_eq (c : Dev nD) : (Pipeline.prefHeld pre1 c (fun _ => fullShare) (tbl (F := F)) : sProp 𝕄) = Tables c := by
  unfold Pipeline.prefHeld Tables
  rw [bigSep_T0]; simp only [Memref.view_whole, View.set_whole]; rfl

/-- What the main call is entered with. -/
theorem entry (c : Dev nD) : (iprop((∃ r, prngReg c r) ∗ Pipeline.prefHeld pre1 c (fun _ => fullShare) (tbl (F := F)) ∗ Pipeline.scopedRest spec1 c) : sProp 𝕄)
    ⊢ iprop((Scratch (F := F) c ∗ Aside c) ∗ Tables c) := by
  rw [tables_eq]
  unfold Aside
  iintro ⟨Hp, Ht, Hr⟩
  ihave Hr := (scratch_in c) $$ Hr
  icases Hr with ⟨S, G⟩
  isplitr [Ht]; swap; · iexact Ht
  isplitl [S]; · iexact S
  isplitl [Hp]; · iexact Hp
  iexact G

/-- What it gives back. -/
theorem leave (c : Dev nD) : iprop((Scratch (F := F) c ∗ Aside c) ∗ Tables c) ⊢ (iprop((∃ r, prngReg c r) ∗ Pipeline.scopedRest spec1 c) : sProp 𝕄) := by
  unfold Aside
  iintro ⟨⟨S, Hp, G⟩, -⟩
  isplitl [Hp]; · iexact Hp
  iapply (scratch_out (F := F) c)
  isplitl [S]; · iexact S
  iexact G

theorem obligation (m : (ℓ : Loc nD τ sig) → Buf (Elt F) ℓ) (c : Dev nD) : (rdat m c).BodyObligation defs₀ 𝒱₀ () Set.univ := by
  intro t Y _
  rw [Gen.bigSep_W1, Gen.bigSep_W1]
  unfold RDat.owesAt Pipeline.owesWithin
  rw [show (rdat m c).Φ t.succ = iprop((Scratch (F := F) c ∗ Aside c) ∗ Tables c) from rfl,
    show (rdat m c).Φ t.castSucc = iprop((Scratch (F := F) c ∗ Aside c) ∗ Tables c) from rfl,
    show (rdat m c).owed t.castSucc = 0 from rfl, show (rdat m c).owed t.succ = 0 from rfl]
  unfold Scratch Tables
  unfold owns defs₀; rw [Defs.onTc_tc]
  iintro ⟨⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, Hp⟩, T0, T1⟩, HO, ⟨%f0, -, W0⟩, ⟨%f1, -, W1⟩, ⟨%f2, -, W2⟩, ⟨%f3, -, W3⟩, ⟨%f4, -, W4⟩, ⟨%f5, -, W5⟩, ⟨%f6, -, W6⟩⟩
  iapply (wp_wand_r Idealize.ShloMosaic.frame (wpE (defs₀ (F := F)) 𝒱₀ (c : Thread nD τ) none) Set.univ)
  isplitl [S0 S1 S2 S3 S4 S5 S6 S7 S8 T0 T1 W0 W1 W2 W3 W4 W5 W6]
  · iapply (body c (grid1.coords t) _ _ _ _ _ _ _ _ _ _ _ _ _ _ _ _ _ _ _ _ _ _ _ _ _ _ _ _ _ _ _ _ _ _ _ _ fullShare (tbl 0) (tbl 1) (tile0 c _) (tile1 c _))
    isplitl [T0]; · iexact T0
    isplitl [T1]; · iexact T1
    isplitl [W0]; · iexists _; iexact W0
    isplitl [W1]; · iexists _; iexact W1
    isplitl [W4]; · iexists _; iexact W4
    isplitl [W5]; · iexists _; iexact W5
    isplitl [W6]; · iexists _; iexact W6
    isplitl [W2]; · iexists _; iexact W2
    isplitl [W3]; · iexists _; iexact W3
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    iexists _; iexact S8
  · iintro %_ ⟨T0, T1, ⟨%f0, W0⟩, ⟨%f1, W1⟩, ⟨%f4, W4⟩, ⟨%f5, W5⟩, ⟨%f6, W6⟩, ⟨%f2, W2⟩, ⟨%f3, W3⟩, ⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩
    isplitl [S0 S1 S2 S3 S4 S5 S6 S7 S8 Hp T0 T1]
    · isplitr [T0 T1]
      · isplitr [Hp]
        · isplitl [S0]; · iexists _; iexact S0
          isplitl [S1]; · iexists _; iexact S1
          isplitl [S2]; · iexists _; iexact S2
          isplitl [S3]; · iexists _; iexact S3
          isplitl [S4]; · iexists _; iexact S4
          isplitl [S5]; · iexists _; iexact S5
          isplitl [S6]; · iexists _; iexact S6
          isplitl [S7]; · iexists _; iexact S7
          iexists _; iexact S8
        iexact Hp
      isplitl [T0]; · iexact T0
      iexact T1
    isplitl [HO]; · iexact HO
    isplitl [W0]
    · iexists _; isplitr; swap
      · iexists _; isplitr; swap; · iexact W0
        ipureintro; rfl
      ipureintro; trivial
    isplitl [W1]
    · iexists _; isplitr; swap
      · iexists _; isplitr; swap; · iexact W1
        ipureintro; rfl
      ipureintro; trivial
    isplitl [W2]
    · iexists _; isplitr; swap
      · iexists _; isplitr; swap; · iexact W2
        ipureintro; rfl
      ipureintro; trivial
    isplitl [W3]
    · iexists _; isplitr; swap
      · iexists _; isplitr; swap; · iexact W3
        ipureintro; rfl
      ipureintro; trivial
    isplitl [W4]
    · iexists _; isplitr; swap
      · iexists _; isplitr; swap; · iexact W4
        ipureintro; rfl
      ipureintro; trivial
    isplitl [W5]
    · iexists _; isplitr; swap
      · iexists _; isplitr; swap; · iexact W5
        ipureintro; rfl
      ipureintro; trivial
    iexists _; isplitr; swap
    · iexists _; isplitr; swap; · iexact W6
      ipureintro; rfl
    ipureintro; trivial

/-- The buffers that no call writes and no operation between the calls. -/
theorem V_of (m : (ℓ : Loc nD τ sig) → Buf (Elt F) ℓ) (c : Dev nD) (r : Ref sig .tc) (h1 : r ∉ Gen.hostOps1_W) (h2 : r ≠ main_v2) (h0 : r ∉ Gen.hostOps0_W) :
    V m c r = m ((c : Thread nD τ).loc r) :=
  (V3_of m c r h1).trans <| (V2_of m c r h2).trans <| (Gen.V1_of m c r h0).trans rfl

/-- What the run leaves of the arguments. -/
theorem args_kept (m : (ℓ : Loc nD τ sig) → Buf (Elt F) ℓ) (c : Dev nD) (s : MemSt nD τ sig (Elt F))
    (h : ∀ b ∈ Pipeline.restRefsP sig pre1 spec1, s.mem ((c.tc : Thread nD τ).loc b) = V m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2) :=
  ⟨(h main_arg0 (by decide)).trans (V_of m c _ (by decide) (by decide) (by decide)),
    (h main_arg1 (by decide)).trans (V_of m c _ (by decide) (by decide) (by decide)),
    (h main_arg2 (by decide)).trans (V_of m c _ (by decide) (by decide) (by decide))⟩

theorem good (m : (ℓ : Loc nD τ sig) → Buf (Elt F) ℓ) : Good m (rdat m) where
  hA _ _ := rfl
  hq _ _ _ := rfl
  howed _ _ := rfl
  hrec _ := rfl
  hbody := obligation m
  hin c := entry c
  hout c := leave c

/-- The run ends, its argument arrays unchanged, every counter at zero. -/
theorem frame_run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  run m (rdat m) (good m) g fun s h hz => ⟨fun c => args_kept m c s (h c).2, hz⟩

end Cert.Proof.Kernel
-- ==== Proof.KF.Trip.lean ====
/- One trip of the counted loop: a weak triple. -/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch

@[expose] public section

noncomputable section

namespace Cert.Proof.KernelIdeal.Frame

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ
abbrev 𝒱₀ : Variants := Variants.none

/-- A buffer held whole, at contents nothing names. -/
abbrev Held (c : Dev nD) {sp : Space} {s : Shape} {e : EltTy} (a : Memref sig .tc sp s e) : sProp 𝕄 :=
  iprop(∃ f : Buf (Elt F) (a.view.loc (c : Thread nD τ)), a.view.loc (c : Thread nD τ) ↦[a.view.set]{fullShare} f)

/-- The column offset of chunk `r` of tile `v3`, its number at most 11. -/
theorem off11_eq (v3 : BitVec 32) (h : v3.toNat < 12) (n : Nat) (hn : n < 1024) :
    k1_off11 v3 (BitVec.ofNat 32 n) = ![0, 1024 * v3.toNat + n] := by
  have e : (Scalar.addi (Scalar.muli v3 1024#32) (BitVec.ofNat 32 n)).toNat = 1024 * v3.toNat + n := by
    simp only [Scalar.addi, Scalar.muli, IntOp.addi, IntOp.muli, BitVec.toNat_add, BitVec.toNat_mul, BitVec.toNat_ofNat]
    omega
  show ![0, (Scalar.addi (Scalar.muli v3 1024#32) (BitVec.ofNat 32 n)).toNat] = _
  rw [e]

/-- The column tile's number is at most 11, as instances read it. -/
class Tile (v : BitVec 32) : Prop where
  lt : v.toNat < 12

instance off11_0 (v3 : BitVec 32) [h : Tile v3] : ClosedOff (k1_off11 v3 0#32) := ⟨![0, 1024 * v3.toNat], off11_eq v3 h.lt 0 (by omega)⟩
instance off11_1 (v3 : BitVec 32) [h : Tile v3] : ClosedOff (k1_off11 v3 128#32) := ⟨![0, 1024 * v3.toNat + 128], off11_eq v3 h.lt 128 (by omega)⟩
instance off11_2 (v3 : BitVec 32) [h : Tile v3] : ClosedOff (k1_off11 v3 256#32) := ⟨![0, 1024 * v3.toNat + 256], off11_eq v3 h.lt 256 (by omega)⟩
instance off11_3 (v3 : BitVec 32) [h : Tile v3] : ClosedOff (k1_off11 v3 384#32) := ⟨![0, 1024 * v3.toNat + 384], off11_eq v3 h.lt 384 (by omega)⟩
instance off11_4 (v3 : BitVec 32) [h : Tile v3] : ClosedOff (k1_off11 v3 512#32) := ⟨![0, 1024 * v3.toNat + 512], off11_eq v3 h.lt 512 (by omega)⟩
instance off11_5 (v3 : BitVec 32) [h : Tile v3] : ClosedOff (k1_off11 v3 640#32) := ⟨![0, 1024 * v3.toNat + 640], off11_eq v3 h.lt 640 (by omega)⟩
instance off11_6 (v3 : BitVec 32) [h : Tile v3] : ClosedOff (k1_off11 v3 768#32) := ⟨![0, 1024 * v3.toNat + 768], off11_eq v3 h.lt 768 (by omega)⟩
instance off11_7 (v3 : BitVec 32) [h : Tile v3] : ClosedOff (k1_off11 v3 896#32) := ⟨![0, 1024 * v3.toNat + 896], off11_eq v3 h.lt 896 (by omega)⟩

section Trip
variable (c : Dev nD) (i : grid1.Coords) (arg1 : Memref sig .tc .smem S78 .i32) (harg1 : arg1.IsWhole) (arg2 : Memref sig .tc .smem S78 .i32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1024x128 .i32) (harg5 : arg5.IsWhole) (arg6 : Memref sig .tc .vmem S1x1024 .i32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .i32) (harg9 : arg9.IsWhole) (arg10 : Memref sig .tc .vmem S1024x1024 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S8x12288 .f32) (harg15 : arg15.IsWhole) (arg16 : Memref sig .tc .vmem S8x12288 .f32) (harg16 : arg16.IsWhole) (arg17 : Memref sig .tc .vmem S8x12288 .f32) (harg17 : arg17.IsWhole) (arg18 : Memref sig .tc .vmem S8x12288 .f32) (harg18 : arg18.IsWhole) (v1 : Elt F .i32) (v3 : Elt F .i32) (k1_hw1 : k1_chk1 v1 v3) (v17 : BitVec 32)

/-- What the loop's trips hold: the eight accumulators, the products and the labels. -/
abbrev LoopRes : sProp 𝕄 :=
  iprop(Held c arg5 ∗ Held c arg6 ∗ Held c arg10 ∗ Held c arg11 ∗ Held c arg12 ∗ Held c arg13 ∗ Held c arg14 ∗ Held c arg15 ∗ Held c arg16 ∗ Held c arg17 ∗ Held c arg18)

theorem trip [Tile v3] (k : Fin k1_t1_loop.trips) :
    (LoopRes c arg5 arg6 arg10 arg11 arg12 arg13 arg14 arg15 arg16 arg17 arg18 : sProp 𝕄)
      ⊢ wp frame (wpE (defs₀ (F := F)) 𝒱₀ (c : Thread nD τ) none) Set.univ
        (Gen.k1_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 k1_hw1 v17 k ())
        (fun _ => LoopRes c arg5 arg6 arg10 arg11 arg12 arg13 arg14 arg15 arg16 arg17 arg18) := by
  unfold Gen.k1_t1_body
  iintro ⟨⟨%f5, H5⟩, ⟨%f6, H6⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  sl_exec_parts
  sl_step
  isplitl [H5]; · iexists _; iexact H5
  isplitl [H6]; · iexists _; iexact H6
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

set_option warn.classDefReducibility false in
/-- The loop's invariant: its buffers held, the column tile's number at most 11. -/
@[sl_loop] def loopInv_k1_t1 :
    Gen.LoopInvTy_k1_t1 (F := F) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 k1_hw1 v17 where
  inv := fun _ _ => iprop(⌜Tile v3⌝ ∗ LoopRes c arg5 arg6 arg10 arg11 arg12 arg13 arg14 arg15 arg16 arg17 arg18)
  step := fun k acc => by
    iintro ⟨%hT, H⟩
    haveI := hT
    iapply (wp_wand_r Idealize.ShloMosaic.frame (wpE (defs₀ (F := F)) 𝒱₀ (c : Thread nD τ) none) Set.univ)
    isplitl [H]
    · iapply (trip (c := c) (i := i)); iexact H
    · iintro %_ H'
      isplitr; · ipureintro; exact hT
      iexact H'
end Trip

end Cert.Proof.KernelIdeal.Frame
-- ==== Proof.KF.Dequant.lean ====
/- The dequantising kernel's body at one grid point: what it leaves in the output block, at any arithmetic. -/
module

public import proofs.«01_k».proof.Proof.KF.Trip
public import Idealize.ShloMosaic.Lib.Writes
public import Idealize.ShloMosaic.Lib.Pointwise
public import Idealize.ShloMosaic.Lib.VecWindow

@[expose] public section

set_option maxRecDepth 65536

noncomputable section

namespace Cert.Proof.KernelIdeal.Frame

open Cert.KernelIdeal Cert.KernelIdeal.Facts₀ Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The block number of column `k`: thirty-two columns share a scale. -/
def blockOf (y : S512x4096.Idx) : S512x128.Idx := ix2 (y 0) (⟨(y 1).val / 32, by have : (y 1).val < 4096 := (y 1).isLt; omega⟩ : Fin 128)

/-- The scales: each exponent's bits placed in the exponent field of a float. -/
def scaleBits (E : Vec F S512x128 .i8) : FVec F S512x128 .f32 := bitcastToFloat .f32 (shli (extui 32 E natLt_8_32) (broadcast S512x128 23#32))

/-- The dequantised block: each code times its block's scale. -/
def deq (C : Vec F S512x4096 .fp8e4m3) (E : Vec F S512x128 .i8) : FVec F S512x4096 .bf16 :=
  fun y => FloatOps.mulf (FloatOps.extf .bf16 bitsLt_fp8e4m3_bf16 (C y)) (FloatOps.truncf .bf16 bitsLt_bf16_f32 (scaleBits E (blockOf y)))

/-- The block number the kernel computes for each lane of a chunk whose first block is `w`. -/
def lanes (v6 : IVec S512x128 32) (w : BitVec 32) : IVec S512x128 32 :=
  let q := divsi v6 (broadcast S512x128 32#32)
  let sgn := subi (extui 32 (cmpi .sgt v6 (broadcast S512x128 0#32)) natLt_1_32) (extui 32 (cmpi .slt v6 (broadcast S512x128 0#32)) natLt_1_32)
  let one := Scalar.subi (Scalar.extui (Scalar.cmpi .sgt 32#32 0#32) : BitVec 32) (Scalar.extui (Scalar.cmpi .slt 32#32 0#32))
  let adj := andi (cmpi .ne sgn (broadcast S512x128 one)) (cmpi .ne (remsi v6 (broadcast S512x128 32#32)) (broadcast S512x128 0#32))
  let b := addi (select adj (subi q (broadcast S512x128 1#32)) q) (broadcast S512x128 w)
  select (cmpi .slt b (broadcast S512x128 0#32)) (addi b (broadcast S512x128 128#32)) b

/-- The lane number. -/
abbrev lane : IVec S512x128 32 := iota .tc S512x128 32 [1] iota_S512x128_d1_w32

/-- What the kernel stores of one chunk. -/
def chunk (E : Vec F S512x128 .i8) (w : BitVec 32) (C : Vec F S512x128 .fp8e4m3) : FVec F S512x128 .bf16 :=
  mulf (extf .bf16 (shapeCast S512x128 C shapeCasts_S512x128_S512x128) bitsLt_fp8e4m3_bf16)
    (truncf .bf16 (dynamicGather 1 (scaleBits (shapeCast S512x128 E shapeCasts_S512x128_S512x128))
      (shapeCast S512x128 (shapeCast S512x128x1 (lanes lane w) shapeCasts_S512x128_S512x128x1) shapeCasts_S512x128x1_S512x128)) bitsLt_bf16_f32)

section
variable {arg1 : Memref sig .tc .vmem S512x4096 .fp8e4m3} {arg2 : Memref sig .tc .vmem S512x128 .i8} {arg3 : Memref sig .tc .vmem S512x4096 .bf16}

/-- A store of one chunk. -/
def Piece (c : Dev nD) (f1 : Buf (Elt F) (arg1.view.loc (c : Thread nD τ))) (E : Vec F S512x128 .i8) (n : ℕ) (p : View.Piece (Elt F) S512x4096 .bf16) : Prop :=
  ∃ h : ∀ a, (![0, 128 * n] : Fin 2 → ℕ) a + S512x128.size a ≤ S512x4096.size a,
    p = ⟨Rect.unit (s := S512x4096) ![0, 128 * n] S512x128.size h, chunk E (BitVec.ofNat 32 (4 * n))
      (arg1.view.readAt (Elt F) (Rect.unit (s := S512x4096) ![0, 128 * n] S512x128.size h).toLoadRect f1)⟩
end

/-- The kernel's lane arithmetic at lane `l` of a chunk. -/
def laneWord (l w : BitVec 32) : BitVec 32 :=
  let q := IntOp.divsi .vector l 32#32
  let sgn := IntOp.subi ((IntOp.cmpi .sgt l 0#32).setWidth 32) ((IntOp.cmpi .slt l 0#32).setWidth 32)
  let one := Scalar.subi (Scalar.extui (Scalar.cmpi .sgt 32#32 0#32) : BitVec 32) (Scalar.extui (Scalar.cmpi .slt 32#32 0#32))
  let adj := IntOp.andi (IntOp.cmpi .ne sgn one) (IntOp.cmpi .ne (IntOp.remsi .vector l 32#32) 0#32)
  let b := IntOp.addi (Scalar.select adj (IntOp.subi q 1#32) q) w
  Scalar.select (IntOp.cmpi .slt b 0#32) (IntOp.addi b 128#32) b

theorem laneWord_eq : ∀ (n : Fin 32) (l : Fin 128), (laneWord (BitVec.ofNat 32 l.val) (BitVec.ofNat 32 (4 * n.val))).toNat = l.val / 32 + 4 * n.val := by
  decide +kernel

theorem lanes_apply (w : BitVec 32) (r : Fin 512) (l : Fin 128) : lanes lane w (ix2 r l) = laneWord (BitVec.ofNat 32 l.val) w := by
  unfold lanes laneWord lane
  pointwise

/-- Chunk `n` is the dequantised block's columns from `128 n` on. -/
theorem chunk_apply (C : Vec F S512x4096 .fp8e4m3) (E : Vec F S512x128 .i8) (B : Vec F S512x128 .fp8e4m3) (n : Fin 32)
    (hB : ∀ (r : Fin 512) (l : Fin 128), B (ix2 r l) = C (ix2 r (⟨128 * n.val + l.val, by omega⟩ : Fin 4096))) (r : Fin 512) (l : Fin 128) :
    chunk E (BitVec.ofNat 32 (4 * n.val)) B (ix2 r l) = deq C E (ix2 r (⟨128 * n.val + l.val, by omega⟩ : Fin 4096)) := by
  unfold chunk deq
  pointwise
  rw [hB r l, lanes_apply, Fin.mk_eq_mk.2 (show (laneWord (BitVec.ofNat 32 l.val) (BitVec.ofNat 32 (4 * n.val))).toNat % 128 = (128 * n.val + l.val) / 32 by
    rw [laneWord_eq]; omega)]
  rfl

/-- Of two lists related element by element, each element has its partner. -/
theorem forall₂_exists_left {α β : Type} {R : α → β → Prop} {l : List α} {L : List β} (h : List.Forall₂ R l L) {b : β} (hb : b ∈ L) : ∃ a ∈ l, R a b := by
  induction h with
  | nil => exact absurd hb List.not_mem_nil
  | cons hr _ ih =>
    rcases List.mem_cons.1 hb with rfl | hb
    · exact ⟨_, List.mem_cons_self, hr⟩
    · obtain ⟨a, ha, h⟩ := ih hb; exact ⟨a, List.mem_cons_of_mem _ ha, h⟩
theorem forall₂_exists_right {α β : Type} {R : α → β → Prop} {l : List α} {L : List β} (h : List.Forall₂ R l L) {a : α} (ha : a ∈ l) : ∃ b ∈ L, R a b := by
  induction h with
  | nil => exact absurd ha List.not_mem_nil
  | cons hr _ ih =>
    rcases List.mem_cons.1 ha with rfl | ha
    · exact ⟨_, List.mem_cons_self, hr⟩
    · obtain ⟨b, hb, h⟩ := ih ha; exact ⟨b, List.mem_cons_of_mem _ hb, h⟩

/-- What the chunks' stores leave is the dequantised block. -/
theorem read_pieces (c : Dev nD) {arg1 : Memref sig .tc .vmem S512x4096 .fp8e4m3} (arg3 : Memref sig .tc .vmem S512x4096 .bf16)
    (f1 : Buf (Elt F) (arg1.view.loc (c : Thread nD τ))) (f3 : Buf (Elt F) (arg3.view.loc (c : Thread nD τ))) (E : Vec F S512x128 .i8)
    (L : List (View.Piece (Elt F) S512x4096 .bf16)) (h : List.Forall₂ (Piece c f1 E) (List.range 32).reverse L) :
    arg3.view.read (Elt F) (arg3.view.writes (Elt F) f3 L) = deq (arg1.view.read (Elt F) f1) E := by
  funext y
  refine View.read_writes_apply_of_pieces (Val := Elt F) arg3.view f3 (deq (arg1.view.read (Elt F) f1) E) L ?_ y ?_
  · intro p hp x
    obtain ⟨n, hn, hin, rfl⟩ := forall₂_exists_left h hp
    have hn' : n < 32 := by simpa using hn
    obtain ⟨r, l, rfl⟩ : ∃ (r : Fin 512) (l : Fin 128), x = ix2 r l := ⟨x 0, x 1, funext (Fin.forall_fin_two.2 ⟨rfl, rfl⟩)⟩
    refine (chunk_apply (arg1.view.read (Elt F) f1) E _ ⟨n, hn'⟩ (fun r l => ?_) r l).trans ?_
    · rw [View.readAt_apply]
      congr 1; funext a; apply Fin.ext; revert a
      exact Fin.forall_fin_two.2 ⟨by show 0 + 1 * r.val = r.val; omega, by show 128 * n + 1 * l.val = 128 * n + l.val; omega⟩
    · congr 1; funext a; apply Fin.ext; revert a
      exact Fin.forall_fin_two.2 ⟨by show r.val = 0 + 1 * r.val; omega, by show 128 * n + l.val = 128 * n + 1 * l.val; omega⟩
  · have hy0 : (y 0).val < 512 := (y 0).isLt
    have hy1 : (y 1).val < 4096 := (y 1).isLt
    obtain ⟨p, hp, hin, rfl⟩ := forall₂_exists_right h (show (y 1).val / 128 ∈ (List.range 32).reverse by simp; omega)
    refine ⟨_, hp, ?_⟩
    rw [Rect.mem_set_unit]
    exact Fin.forall_fin_two.2 ⟨⟨Nat.zero_le _, by show (y 0).val < 0 + 512; omega⟩,
      ⟨by show 128 * ((y 1).val / 128) ≤ (y 1).val; omega, by show (y 1).val < 128 * ((y 1).val / 128) + 128; omega⟩⟩

theorem dequant_body (c : Dev nD) (i : grid0.Coords) (arg1 : Memref sig .tc .vmem S512x4096 .fp8e4m3) (harg1 : arg1.IsWhole) (arg2 : Memref sig .tc .vmem S512x128 .i8) (harg2 : arg2.IsWhole)
    (arg3 : Memref sig .tc .vmem S512x4096 .bf16) (harg3 : arg3.IsWhole)
    (f1 : Buf (Elt F) (arg1.view.loc (c : Thread nD τ))) (f2 : Buf (Elt F) (arg2.view.loc (c : Thread nD τ))) (f3 : Buf (Elt F) (arg3.view.loc (c : Thread nD τ))) :
    (iprop((arg1.view.loc (c : Thread nD τ) ↦[arg1.view.set]{fullShare} f1) ∗ (arg2.view.loc (c : Thread nD τ) ↦[arg2.view.set]{fullShare} f2)
      ∗ (arg3.view.loc (c : Thread nD τ) ↦[arg3.view.set]{fullShare} f3)) : sProp 𝕄)
      ⊢ wp frame (wpE (defs₀ (F := F)) 𝒱₀ (c : Thread nD τ) none) Set.univ
        (cc0_dequant (F := F) i arg1 harg1 arg2 harg2 arg3 harg3)
        (fun _ => iprop((arg1.view.loc (c : Thread nD τ) ↦[arg1.view.set]{fullShare} f1) ∗ (arg2.view.loc (c : Thread nD τ) ↦[arg2.view.set]{fullShare} f2)
      ∗ ∃ g, ⌜arg3.view.read (Elt F) g = deq (arg1.view.read (Elt F) f1) (arg2.view.read (Elt F) f2)⌝ ∗ (arg3.view.loc (c : Thread nD τ) ↦[arg3.view.set]{fullShare} g))) := by
  sl_unfold [cc0_dequant]
  iintro ⟨H1, H2, H3⟩
  sl_exec_parts
  sl_step
  isplitl [H1]; · iexact H1
  isplitl [H2]; · iexact H2
  iexists _
  isplitr; swap; · iexact H3
  ipureintro
  refine (read_pieces (arg1 := arg1) c arg3 f1 f3 (arg2.view.readAt (Elt F) (Rect.unit (s := S512x128) ![0, 0] S512x128.size Gen.inb_S512x128_S512x128_0_0).toLoadRect f2) _ ?_).trans
    (by rw [View.readAt_full (s := S512x128)])
  sl_unfold_run_names
  rw [show (List.range 32).reverse = [31, 30, 29, 28, 27, 26, 25, 24, 23, 22, 21, 20, 19, 18, 17, 16, 15, 14, 13, 12, 11, 10, 9, 8, 7, 6, 5, 4, 3, 2, 1, 0] from rfl]
  repeat' refine List.Forall₂.cons ⟨_, rfl⟩ ?_
  exact List.Forall₂.nil

end Cert.Proof.KernelIdeal.Frame
-- ==== Proof.KF.Regions.lean ====
/- The two kernel calls one after the other: the dequantising call's blocks, and the whole program's run from the main call's proof data. -/
module

public import proofs.«01_k».proof.Proof.KF.Dequant
public import proofs.«01_k».proof.Proof.Gen.KernelIdeal.Regions
public import proofs.«01_k».proof.Proof.Gen.KernelIdeal.Points
public import Idealize.ShloMosaic.Lib.Pipeline.Frame
public import Idealize.ShloMosaic.Lib.Pipeline.ArrRel
public import Idealize.ShloMosaic.Lib.Pipeline.RegionArrays
public import Idealize.ShloMosaic.Lib.Claim

@[expose] public section

set_option maxRecDepth 16384

noncomputable section

namespace Cert.Proof.KernelIdeal.Frame

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat HostSeg)
open Idealize.ShloMosaic.Pipeline.RDat (Seg RegionSeg)

variable {F : FTy → Type} [FloatOps F] [Named F]

local notation "𝕄" => MT nD τ sig Unit (Elt F) ℕ (UR sig nD τ) ℕ

/-- What the two prefetched tables hold: the row tile's and the column tile's number, point by point. -/
def tbl : pre1.Contents (Elt F)
  | ⟨0, _⟩ => fun i => lit0 (S78.rowMajor i)
  | ⟨1, _⟩ => fun i => lit1 (S78.rowMajor i)

theorem lit0_lt : ∀ n, (lit0 n).toNat < 12 := by decide +kernel
theorem lit1_lt : ∀ n, (lit1 n).toNat < 12 := by decide +kernel

theorem ok_tbl : ok1 (tbl (F := F)) := of_decide_eq_true (by chain_rfl)

/-- The tables' contents, admissible. -/
abbrev adm1 : (pcfg1 (F := F)).Adm := ⟨tbl, ok_tbl⟩
/-- The first call has no table. -/
abbrev adm : (p : Fin 2) → (pcfgs (F := F) p).Adm
  | ⟨0, _⟩ => cfg0.toPCfg_adm
  | ⟨1, _⟩ => adm1

/-! ## The dequantising call -/

/-- Row `r` of block `t`. -/
def row (t : Fin 24) (r : Fin 512) : Fin 12288 := ⟨512 * t.val + r.val, by omega⟩
/-- The codes' block `t`. -/
def blkC (C : Vec F S12288x4096 .fp8e4m3) (t : Fin 24) : Vec F S512x4096 .fp8e4m3 := fun r => C (ix2 (row t (r 0)) (r 1))
/-- The exponents' block `t`. -/
def blkE (E : Vec F S12288x128 .i8) (t : Fin 24) : Vec F S512x128 .i8 := fun r => E (ix2 (row t (r 0)) (r 1))

/-- The whole dequantised array. -/
def deqAll (C : Vec F S12288x4096 .fp8e4m3) (E : Vec F S12288x128 .i8) : FVec F S12288x4096 .bf16 := fun y =>
  have h : (y 0).val < 12288 := (y 0).isLt
  let t : Fin 24 := ⟨(y 0).val / 512, by omega⟩
  deq (blkC C t) (blkE E t) (ix2 (⟨(y 0).val % 512, by omega⟩ : Fin 512) (y 1))

variable (m : (ℓ : Loc nD τ sig) → Buf (Elt F) ℓ)

/-- The buffers' contents when the first call starts. -/
abbrev V1 (c : Dev nD) : Valuation τ sig (Elt F) := Gen.V1 m c
/-- After the first call. -/
def V2 (c : Dev nD) : Valuation τ sig (Elt F) := Function.update (V1 m c) main_v2 (deqAll (V1 m c main_v0) (V1 m c main_v1))
/-- When the main call starts. -/
def V3 (c : Dev nD) : Valuation τ sig (Elt F) := StableHlo.after Gen.hostOps1 (V2 m c)
/-- `V3` at a buffer. -/
abbrev V (c : Dev nD) (b : Ref sig .tc) : Buf (Elt F) ((c : Thread nD τ).loc b) := V3 m c b

theorem V2_of (c : Dev nD) (r : Ref sig .tc) (h : r ≠ main_v2) : V2 m c r = V1 m c r := by
  unfold V2; rw [Function.update_of_ne (StableHlo.devRef_ne_of_ne h)]
theorem V2_x (c : Dev nD) : V2 m c main_v2 = deqAll (V1 m c main_v0) (V1 m c main_v1) := by
  unfold V2; rw [Function.update_self]
theorem V3_of (c : Dev nD) (r : Ref sig .tc) (h : r ∉ Gen.hostOps1_W) : V3 m c r = V2 m c r :=
  StableHlo.after_of_writes_sub Gen.hostOps1 _ Gen.hostOps1_writes h

/-- What the dequantising body may leave in a window. -/
def left0 (c : Dev nD) : (w : Fin 3) → (t : Fin 24) → (Y X : (spec0 w).block.Idx → Elt F (spec0 w).elt) → Prop
  | 0 => fun _ Y X => X = Y
  | 1 => fun _ Y X => X = Y
  | 2 => fun t _ X => X = deq (blkC (V1 m c main_v0) t) (blkE (V1 m c main_v1) t)

/-- The dequantising call's proof data. -/
def dat0 (c : Dev nD) : RDat τ (Elt F) Unit ℕ (UR sig nD τ) ℕ cfg0 c where
  A w := V1 m c (Pipeline.arrRef spec0 w)
  after w t Y X := left0 m c w t Y X
  Φ _ := iprop(Pipeline.scopedRest spec0 c ∗ ∃ r, prngReg c r)
  q _ := fullShare
  owed _ := 0

theorem ix0_0 : ∀ t : Fin 24, (cfg0.win 0).index t = ![t.val, 0] := fun t => by fin_cases t <;> rfl
theorem ix0_1 : ∀ t : Fin 24, (cfg0.win 1).index t = ![t.val, 0] := fun t => by fin_cases t <;> rfl
theorem ix0_2 : ∀ t : Fin 24, (cfg0.win 2).index t = ![t.val, 0] := fun t => by fin_cases t <;> rfl

theorem found0 (c : Dev nD) (t : Fin 24) (Y) (h : (dat0 m c).Finds 0 t Y) : Y = blkC (V1 m c main_v0) t := by
  obtain ⟨d, rfl⟩ := ((dat0 m c).finds_of_fetch (w := 0) (t := t) (Gen.fetch0_0 t) Y).1 h
  refine funext fun r => ?_
  show V1 m c main_v0 (((cfg0.win 0).rect t).emb r) = V1 m c main_v0 (ix2 (row t (r 0)) (r 1))
  refine congrArg (V1 m c main_v0) (funext fun a => Fin.ext ?_)
  refine (Pipeline.Window.rect_emb_val _ _ _ a rfl).trans ?_
  fin_cases a
  · exact (congrArg (fun n => n * 512 + (r 0).val) (congrFun (ix0_0 t) 0)).trans (by show t.val * 512 + (r 0).val = 512 * t.val + (r 0).val; omega)
  · exact (congrArg (fun n => n * 4096 + (r 1).val) (congrFun (ix0_0 t) 1)).trans (by show 0 * 4096 + (r 1).val = (r 1).val; omega)

theorem found1 (c : Dev nD) (t : Fin 24) (Y) (h : (dat0 m c).Finds 1 t Y) : Y = blkE (V1 m c main_v1) t := by
  obtain ⟨d, rfl⟩ := ((dat0 m c).finds_of_fetch (w := 1) (t := t) (Gen.fetch0_1 t) Y).1 h
  refine funext fun r => ?_
  show V1 m c main_v1 (((cfg0.win 1).rect t).emb r) = V1 m c main_v1 (ix2 (row t (r 0)) (r 1))
  refine congrArg (V1 m c main_v1) (funext fun a => Fin.ext ?_)
  refine (Pipeline.Window.rect_emb_val _ _ _ a rfl).trans ?_
  fin_cases a
  · exact (congrArg (fun n => n * 512 + (r 0).val) (congrFun (ix0_1 t) 0)).trans (by show t.val * 512 + (r 0).val = 512 * t.val + (r 0).val; omega)
  · exact (congrArg (fun n => n * 128 + (r 1).val) (congrFun (ix0_1 t) 1)).trans (by show 0 * 128 + (r 1).val = (r 1).val; omega)

theorem obligation0 (c : Dev nD) : (dat0 m c).BodyObligation defs₀ 𝒱₀ () Set.univ := by
  intro t Y hY
  have h0 := found0 m c t _ (hY 0)
  have h1 := found1 m c t _ (hY 1)
  rw [Gen.bigSep_W0, Gen.bigSep_W0]
  unfold RDat.owesAt Pipeline.owesWithin
  rw [show (dat0 m c).Φ t.succ = (dat0 m c).Φ t.castSucc from rfl,
    show (dat0 m c).owed t.castSucc = 0 from rfl, show (dat0 m c).owed t.succ = 0 from rfl]
  unfold owns defs₀; rw [Defs.onTc_tc]
  iintro ⟨HP, HO, ⟨%f0, %e0, W0⟩, ⟨%f1, %e1, W1⟩, ⟨%f2, -, W2⟩⟩
  iapply (wp_wand_r Idealize.ShloMosaic.frame (wpE (defs₀ (F := F)) 𝒱₀ (c : Thread nD τ) none) Set.univ)
  isplitl [W0 W1 W2]
  · iapply (dequant_body c (grid0.coords t) _ _ _ _ _ _ f0 f1 f2)
    isplitl [W0]; · iexact W0
    isplitl [W1]; · iexact W1
    iexact W2
  · iintro %_ ⟨W0, W1, ⟨%g, %hg, W2⟩⟩
    isplitl [HP]; · iexact HP
    isplitl [HO]; · iexact HO
    isplitl [W0]
    · iexists _; isplitr; swap
      · iexists _; isplitr; swap; · iexact W0
        ipureintro; exact e0
      ipureintro; exact rfl
    isplitl [W1]
    · iexists _; isplitr; swap
      · iexists _; isplitr; swap; · iexact W1
        ipureintro; exact e1
      ipureintro; exact rfl
    iexists _; isplitr; swap
    · iexists _; isplitr; swap; · iexact W2
      ipureintro; rfl
    ipureintro
    exact hg.trans (congrArg₂ deq (e0.trans h0) (e1.trans h1))

/-- What holds of each element of each block that a result array takes, holds of each of the array's elements. -/
theorem arr_forall {nD : Nat} {τ : Topo} {sig : RefSig} {Val : EltTy → Type} {Λ₀ : Idealize.SL.Sem.Labels} [∀ e, Nonempty (Val e)]
    {Ix : Type} [DecidableEq Ix] {Name : Type} [DecidableEq Name] {U : Type} [URA U] {Lvl : Type}
    {cfg : Pipeline.Cfg sig Λ₀} {c : Dev nD} (rd : RDat τ Val Ix Name U Lvl cfg c)
    (w : Fin cfg.W) (G : Buf Val ((cfg.win w).arr.view.loc (c.tc : Thread nD τ))) (hG : rd.ArrAt w cfg.N G)
    (P : ((cfg.win w).arr.view.loc (c.tc : Thread nD τ)).2.ty.Idx → Val ((cfg.win w).arr.view.loc (c.tc : Thread nD τ)).2.ty.elt → Prop)
    (hP : ∀ t, (cfg.win w).flush t = true → ∀ X, rd.Leaves w t X → ∀ y : ((cfg.win w).xblock (cfg.grid.coords t)).Idx,
      P (((cfg.win w).blk t).view.emb y) (_root_.cast (congrArg Val ((cfg.win w).blk t).view.elt_eq.symm) ((cfg.win w).cut (cfg.grid.coords t) X y)))
    (hcover : ∀ i : ((cfg.win w).arr.view.loc (c.tc : Thread nD τ)).2.ty.Idx,
      ∃ t : Fin cfg.N, (cfg.win w).flush t = true ∧ i ∈ ((cfg.win w).blk t).view.set) (i) : P i (G i) := by
  obtain ⟨X, hX, hA⟩ := RDat.ArrAt.exists_exact hG
  rw [hA (Function.update (fun _ _ _ => Classical.arbitrary _) w X) fun u _ _ => by rw [Function.update_self]]
  refine Dat.arrAt_forall_of_cover _ w P (fun t hf y => ?_) hcover i
  have e : (rd.withAfter (Function.update (fun _ _ _ => Classical.arbitrary _) w X)).after w t = X t := by
    rw [RDat.withAfter_after, Function.update_self]
  have h := hP t hf (X t) (hX t t.isLt hf) y
  rw [← e] at h
  exact h

theorem emb0_2 (t : Fin 24) (y : S512x4096.Idx) : ((cfg0.win 2).rect t).emb y = (ix2 (row t (y 0)) (y 1) : S12288x4096.Idx) := by
  refine funext fun a => Fin.ext ?_
  refine (Pipeline.Window.rect_emb_val _ _ _ a rfl).trans ?_
  fin_cases a
  · exact (congrArg (fun n => n * 512 + (y 0).val) (congrFun (ix0_2 t) 0)).trans (by show t.val * 512 + (y 0).val = 512 * t.val + (y 0).val; omega)
  · exact (congrArg (fun n => n * 4096 + (y 1).val) (congrFun (ix0_2 t) 1)).trans (by show 0 * 4096 + (y 1).val = (y 1).val; omega)

theorem deqAll_row (C : Vec F S12288x4096 .fp8e4m3) (E : Vec F S12288x128 .i8) (t : Fin 24) (y : S512x4096.Idx) :
    deqAll C E (ix2 (row t (y 0)) (y 1)) = deq (blkC C t) (blkE E t) y := by
  have h0 : (y 0).val < 512 := (y 0).isLt
  have e : ((512 * t.val + (y 0).val) / 512) = t.val := by omega
  have e' : ((512 * t.val + (y 0).val) % 512) = (y 0).val := by omega
  have ht : (⟨(512 * t.val + (y 0).val) / 512, by omega⟩ : Fin 24) = t := Fin.ext e
  have hr : (ix2 (⟨(512 * t.val + (y 0).val) % 512, by omega⟩ : Fin 512) (y 1) : S512x4096.Idx) = y := by
    refine funext fun a => Fin.ext ?_
    fin_cases a
    · exact e'
    · rfl
  show deq (blkC C ⟨(512 * t.val + (y 0).val) / 512, _⟩) (blkE E ⟨(512 * t.val + (y 0).val) / 512, _⟩) (ix2 (⟨(512 * t.val + (y 0).val) % 512, _⟩ : Fin 512) (y 1)) = _
  rw [ht, hr]

theorem cover0 (i : S12288x4096.Idx) : ∃ t : Fin 24, (cfg0.win 2).flush t = true ∧ i ∈ ((cfg0.win 2).blk t).view.set := by
  have h0 : (i 0).val < 12288 := (i 0).isLt
  obtain ⟨t, ht⟩ : ∃ t : Fin 24, t.val = (i 0).val / 512 := ⟨⟨(i 0).val / 512, by omega⟩, rfl⟩
  obtain ⟨r, hr⟩ : ∃ r : Fin 512, r.val = (i 0).val % 512 := ⟨⟨(i 0).val % 512, by omega⟩, rfl⟩
  refine ⟨t, Gen.flush0_2 t, ?_⟩
  have e : (((cfg0.win 2).blk t).view.emb (ix2 r (i 1) : S512x4096.Idx)) = i := by
    refine (emb0_2 t (ix2 r (i 1))).trans (funext fun a => Fin.ext ?_)
    fin_cases a
    · show 512 * t.val + r.val = (i 0).val; omega
    · rfl
  rw [← e]; exact ((cfg0.win 2).blk t).view.emb_mem_set _

theorem out0 (c : Dev nD) (G : FVec F S12288x4096 .bf16) (hG : (dat0 m c).ArrAt 2 cfg0.N G) : G = deqAll (V1 m c main_v0) (V1 m c main_v1) := by
  refine funext fun i => ?_
  refine arr_forall (dat0 m c) 2 G hG (fun i v => v = deqAll (V1 m c main_v0) (V1 m c main_v1) i) (fun t hf X hX y => ?_) (fun i => ?_) i
  · obtain ⟨_, -, hX⟩ := hX
    have hX : X = deq (blkC (V1 m c main_v0) t) (blkE (V1 m c main_v1) t) := hX
    have he := emb0_2 t y
    show X _ = deqAll _ _ (((cfg0.win 2).rect t).emb y)
    refine Eq.trans ?_ (congrArg (deqAll (V1 m c main_v0) (V1 m c main_v1)) he).symm
    refine Eq.trans ?_ (deqAll_row (V1 m c main_v0) (V1 m c main_v1) t y).symm
    exact congrFun hX y
  · exact cover0 i

/-! ## The run -/

/-- What is carried from one part of the program to the next. -/
abbrev Rest (c : Dev nD) : sProp 𝕄 := iprop((∃ W, owes (c.tc : Thread nD τ) (0 : CellTallies nD τ sig Unit) W) ∗ ∃ r, prngReg c r)

section
variable (D : (c : Dev nD) → RDat τ (Elt F) Unit ℕ (UR sig nD τ) ℕ (cfg1 (adm1 (F := F))) c)

/-- The two calls' proof data. -/
def dats : (p : Fin 2) → (c : Dev nD) → RDat τ (Elt F) Unit ℕ (UR sig nD τ) ℕ (Pipeline.pin (pcfgs (F := F)) adm p) c
  | ⟨0, _⟩ => fun c => dat0 m c
  | ⟨1, _⟩ => fun c => D c

/-- No level is assigned. -/
abbrev noL : GSem nD τ sig → Finset Unit := fun _ => ∅
abbrev noLv : GSem nD τ sig → Unit → ℕ := fun _ _ => 0

/-- The dequantising call. -/
def region0 : RegionSeg (pcfgs (F := F)) adm (dats m D) () defs₀ 𝒱₀ noL noLv 0 where
  win := (Gen.launch0 (F := F)).win.to₀
  block_pos := (Gen.launch0 (F := F)).block_pos
  stage_whole := (Gen.launch0 (F := F)).stage_whole
  K := PEmpty
  osem k := k.elim
  ho := Pipeline.OwnSemFacts.none _
  hbody c := obligation0 m c
  hwaits c := Pipeline.RDat.hwaits_of_owed_zero _ _ _ _ _ _ 0 (fun _ _ => rfl) c
  pre c := iprop(StableHlo.held (c : Thread nD τ) (Pipeline.ucRefs τ sig) (V1 m c) ∗ Rest c)
  post c := iprop(StableHlo.held (c : Thread nD τ) (Pipeline.ucRefs τ sig) (V2 m c) ∗ Rest c)
  X c := iprop(∃ r, prngReg c r)
  Y c := iprop(∃ r, prngReg c r)
  Z c := Pipeline.unscopedRest spec0 c (fun b => V1 m c b)
  hentry c := by
    rw [← Pipeline.unscopedBufs_held (Ix := Unit) (Name := ℕ) (U := UR sig nD τ) (Lvl := ℕ) c (V1 m c)]
    iintro ⟨⟨HU, HO, Hp⟩, -, -⟩
    ihave Ha := (Pipeline.RDat.arrays_of_unscopedBufs (pcfgs (F := F)) adm (dats m D) (p := 0) (Gen.launch0 (F := F)).win (Gen.launch0 (F := F)).arr_whole c
      (fun w => by fin_cases w <;> rfl) (fun b => V1 m c b) (fun w => rfl)) $$ HU
    icases Ha with ⟨Ha, Hr⟩
    imodintro
    isplitl [Ha]; · iexact Ha
    isplitr; · rw [Pipeline.prefHeld_of_none _ rfl]; iempintro
    isplitl [HO]
    · unfold RDat.owesAt Pipeline.owesWithin
      icases HO with ⟨%W, HO⟩; iexists W; isplitr; · ipureintro; exact fun _ _ => Or.inl trivial
      iexact HO
    isplitl [Hp]; · iexact Hp
    iexact Hr
  hin c := by
    show _ ⊢ iprop(Pipeline.scopedRest spec0 c ∗ ∃ r, prngReg c r)
    iintro ⟨Hp, -, Hr⟩
    isplitl [Hr]; · iexact Hr
    iexact Hp
  hout c := by
    rw [Pipeline.ownSems0_none]
    show iprop(Pipeline.scopedRest spec0 c ∗ ∃ r, prngReg c r) ⊢ _
    iintro ⟨Hr, Hp⟩
    isplitl [Hp]; · iexact Hp
    isplitr; · iempintro
    iexact Hr
  hexit c := by
    have hex : ((dats m D 0 c).arraysAt (Pipeline.pin (pcfgs (F := F)) adm 0).N : sProp 𝕄)
        ⊢ bigSep Finset.univ fun w => (((c.tc : Thread nD τ).loc (Pipeline.arrRef spec0 w)) ↦{fullShare} V2 m c (Pipeline.arrRef spec0 w) : sProp 𝕄) := by
      rw [Pipeline.RDat.arraysAt_eq (pcfgs (F := F)) adm (dats m D) 0 c (Gen.launch0 (F := F)).arr_whole (fun w => by fin_cases w <;> rfl)]
      refine bigSep_mono fun w _ => ?_
      show (iprop(∃ G, ⌜(dat0 m c).ArrAt w cfg0.N G⌝ ∗ ((c.tc : Thread nD τ).loc (Pipeline.arrRef spec0 w)) ↦{fullShare} G) : sProp 𝕄)
        ⊢ (((c.tc : Thread nD τ).loc (Pipeline.arrRef spec0 w)) ↦{fullShare} V2 m c (Pipeline.arrRef spec0 w))
      iintro ⟨%G, %hG, H⟩
      have e : G = V2 m c (Pipeline.arrRef spec0 w) := by
        fin_cases w
        · exact (Eq.mp (congrFun ((dat0 m c).ArrAt_in 0 rfl cfg0.N) G) hG).trans (V2_of m c main_v0 (by decide)).symm
        · exact (Eq.mp (congrFun ((dat0 m c).ArrAt_in 1 rfl cfg0.N) G) hG).trans (V2_of m c main_v1 (by decide)).symm
        · exact (out0 m c G hG).trans (V2_x m c).symm
      subst e
      iexact H
    have hrest : (Pipeline.unscopedRest (Ix := Unit) (Name := ℕ) (U := UR sig nD τ) (Lvl := ℕ) spec0 c (fun b => V1 m c b) : sProp 𝕄) = Pipeline.unscopedRest spec0 c (fun b => V2 m c b) := by
      unfold Pipeline.unscopedRest
      refine bigSep_congr fun b hb => ?_
      have e := V2_of m c b (fun h => (Finset.mem_sdiff.mp hb).2 (Finset.mem_image.mpr ⟨2, Finset.mem_univ _, h.symm⟩))
      show (((c.tc : Thread nD τ).loc b) ↦{fullShare} V1 m c b : sProp 𝕄) = (((c.tc : Thread nD τ).loc b) ↦{fullShare} V2 m c b)
      rw [e]
    show iprop(_ ∗ _ ∗ _ ∗ Pipeline.unscopedRest spec0 c (fun b => V1 m c b)) ⊢ _
    rw [← Pipeline.unscopedBufs_held (Ix := Unit) (Name := ℕ) (U := UR sig nD τ) (Lvl := ℕ) c (V2 m c), hrest,
      Pipeline.unscopedBufs_split (Pipeline.pin (pcfgs (F := F)) adm) 0 (Gen.launch0 (F := F)).win.arr_unscoped (Gen.launch0 (F := F)).win.arr_inj c (fun b => V2 m c b)]
    iintro ⟨Ha, HO, Hp, Hr⟩
    ihave Ha := hex $$ Ha
    imodintro
    isplitl [Ha Hr]
    · isplitl [Ha]; · iexact Ha
      iexact Hr
    isplitl [HO]
    · unfold RDat.owesAt Pipeline.owesWithin
      icases HO with ⟨%W, -, HO⟩; iexists W; iexact HO
    iexact Hp

/-- What the main call's proof data must give. -/
structure Good : Prop where
  hA : ∀ c w, (D c).A w = V m c (Pipeline.arrRef spec1 w)
  hq : ∀ c w, (spec1 w).isOut = false → (D c).q w = Pipeline.shareOf spec1 w
  howed : ∀ c t, (D c).owed t = 0
  hrec : ∀ c, (D c).recorded 0 = Set.univ
  hbody : ∀ c, (D c).BodyObligation defs₀ 𝒱₀ () Set.univ
  hin : ∀ c : Dev nD, (iprop((∃ r, prngReg c r) ∗ Pipeline.prefHeld pre1 c (fun _ => fullShare) (tbl (F := F)) ∗ Pipeline.scopedRest spec1 c) : sProp 𝕄) ⊢ (D c).Φ 0
  hout : ∀ c, (D c).Φ (Fin.last (cfg1 (adm1 (F := F))).N) ⊢ (iprop((∃ r, prngReg c r) ∗ Pipeline.scopedRest spec1 c) : sProp 𝕄)

theorem V3_tbl (c : Dev nD) : ∀ k, V m c (pre1.ref k) = tbl (F := F) k := by
  intro k
  fin_cases k
  · exact (V3_of m c main_c (by decide)).trans <| (V2_of m c main_c (by decide)).trans (by
      show StableHlo.after Gen.hostOps0 (fun b => m (c, b)) main_c = _
      entry_read; rfl)
  · exact (V3_of m c main_c_0 (by decide)).trans <| (V2_of m c main_c_0 (by decide)).trans (by
      show StableHlo.after Gen.hostOps0 (fun b => m (c, b)) main_c_0 = _
      entry_read; rfl)

variable (h : Good m D)

/-- The main call. -/
def region1 : RegionSeg (pcfgs (F := F)) adm (dats m D) () defs₀ 𝒱₀ noL noLv 1 where
  win := (Gen.launch₀1 (F := F)).win
  block_pos := (Gen.launch₀1 (F := F)).block_pos
  stage_whole := (Gen.launch₀1 (F := F)).stage_whole
  K := PEmpty
  osem k := k.elim
  ho := Pipeline.OwnSemFacts.none _
  hbody c := h.hbody c
  hwaits c := Pipeline.RDat.hwaits_of_owed_zero _ _ _ _ _ _ 1 h.howed c
  pre c := iprop(StableHlo.held (c : Thread nD τ) (Pipeline.ucRefs τ sig) (V3 m c) ∗ Rest c)
  post c := iprop((((D c).arraysAt (cfg1 (adm1 (F := F))).N : sProp 𝕄) ∗ Pipeline.unscopedRestP pre1 spec1 c (V m c)) ∗ ∃ W, owes (c.tc : Thread nD τ) (0 : CellTallies nD τ sig Unit) W)
  X c := iprop(∃ r, prngReg c r)
  Y c := iprop(∃ r, prngReg c r)
  Z c := Pipeline.unscopedRestP pre1 spec1 c (V m c)
  hentry c := by
    have hs : ((Pipeline.arrBufs spec1 c (V m c)) : sProp 𝕄) ⊢ (D c).arrays (D c).A :=
      (D c).arrays_split_shared (Gen.launch₀1 (F := F)).sharedIn (Gen.launch₀1 (F := F)).arr_whole (h.hq c) (V m c) _ (h.hA c)
    rw [← Pipeline.unscopedBufs_held (Ix := Unit) (Name := ℕ) (U := UR sig nD τ) (Lvl := ℕ) c (V3 m c),
      Pipeline.unscopedBufs_split₀ (Pipeline.pin (pcfgs (F := F)) adm) 1 (Gen.launch₀1 (F := F)).win.arr_unscoped c (V m c)]
    have hr : (Pipeline.unscopedRest (Ix := Unit) (Name := ℕ) (U := UR sig nD τ) (Lvl := ℕ) spec1 c (V m c) : sProp 𝕄)
        ⊢ iprop(Pipeline.prefHeld pre1 c (fun _ => fullShare) (tbl (F := F)) ∗ Pipeline.unscopedRestP pre1 spec1 c (V m c)) := by
      rw [Pipeline.unscopedRest_split Gen.preFacts1 c (V m c), show (fun k => V m c (pre1.ref k)) = tbl (F := F) from funext (V3_tbl m c)]
    have ho : (iprop(∃ W, owes (c.tc : Thread nD τ) (0 : CellTallies nD τ sig Unit) W) : sProp 𝕄) ⊢ (D c).owesAt () 0 := by
      unfold RDat.owesAt Pipeline.owesWithin RDat.bound
      rw [h.howed c 0, h.hrec c]
      iintro ⟨%W, HO⟩
      iexists W; isplitr; · ipureintro; exact fun _ _ => Or.inl trivial
      iexact HO
    iintro ⟨⟨⟨Ha, Hr⟩, HO, Hp⟩, -, -⟩
    ihave Ha := hs $$ Ha
    ihave Hr := hr $$ Hr
    ihave HO := ho $$ HO
    icases Hr with ⟨Ht, Hr⟩
    imodintro
    isplitl [Ha]; · iexact Ha
    isplitl [Ht]; · iexact Ht
    isplitl [HO]; · iexact HO
    isplitl [Hp]; · iexact Hp
    iexact Hr
  hin c := h.hin c
  hout c := (h.hout c).trans (by
    rw [Pipeline.ownSems0_none]
    iintro ⟨Hp, Hr⟩
    isplitl [Hp]; · iexact Hp
    isplitr; · iempintro
    iexact Hr)
  hexit c := by
    show iprop((D c).arraysAt _ ∗ (D c).owesAt () (Fin.last _) ∗ _ ∗ _) ⊢ _
    unfold RDat.owesAt Pipeline.owesWithin
    rw [h.howed c (Fin.last _)]
    iintro ⟨Ha, ⟨%W, -, HO⟩, -, Hr⟩
    imodintro
    isplitl [Ha Hr]
    · isplitl [Ha]; · iexact Ha
      iexact Hr
    iexists W; iexact HO

/-- The host operations before the first call. -/
def host0 : HostSeg (Ix := Unit) (Name := ℕ) (U := UR sig nD τ) (Lvl := ℕ) (pcfgs (F := F)) defs₀ 𝒱₀ noL noLv :=
  Pipeline.HostSeg.ofOps _ _ _ _ _ (Pipeline.ucRefs τ sig) Gen.hostOps0
    (fun op h => Pipeline.sub_ucRefs op ((List.forall_iff_forall_mem.mp Gen.hostOps0_sub) op h))
    (fun op h => (List.forall_iff_forall_mem.mp Gen.hostOps0_fresh) op h) (Gen.V0 m) Rest
/-- The host operations between the calls. -/
def host1 : HostSeg (Ix := Unit) (Name := ℕ) (U := UR sig nD τ) (Lvl := ℕ) (pcfgs (F := F)) defs₀ 𝒱₀ noL noLv :=
  Pipeline.HostSeg.ofOps _ _ _ _ _ (Pipeline.ucRefs τ sig) Gen.hostOps1
    (fun op h => Pipeline.sub_ucRefs op ((List.forall_iff_forall_mem.mp Gen.hostOps1_sub) op h))
    (fun op h => (List.forall_iff_forall_mem.mp Gen.hostOps1_fresh) op h) (V2 m) Rest

/-- The program's parts. -/
abbrev parts : List (Seg (pcfgs (F := F)) adm (dats m D) () defs₀ 𝒱₀ noL noLv) :=
  [.host (host0 m), .region (region0 m D), .host (host1 m), .region (region1 m D h)]

include h in
set_option backward.isDefEq.respectTransparency.types false in
/-- The whole program's run: the results stand to the main call's proof data as its write-backs leave them; the other buffers hold what
    they held when the main call started. -/
theorem run (g : Dev nD → PrngReg) {Q : PUnit × MemSt nD τ sig (Elt F) → Prop}
    (hQ : ∀ s : MemSt nD τ sig (Elt F), (∀ c : Dev nD, (∀ w, (D c).ArrAt w (cfg1 (adm1 (F := F))).N (s.mem ((spec1 w).arr.view.loc (c.tc : Thread nD τ))))
        ∧ ∀ b ∈ Pipeline.restRefsP sig pre1 spec1, s.mem ((c.tc : Thread nD τ).loc b) = V m c b) → s.sem = (fun _ => 0) → Q (⟨⟩, s)) :
    θ_run (defs (F := F)) (onTc (τ := τ) (main (F := F))) ⟨m, fun _ => 0, g⟩ Q := by
  refine Pipeline.RDat.θ_run_regions_kit_sems (pcfgs (F := F)) adm (dats m D) () (Gen.cellOf_inj adm) emb₁ defs₀ 𝒱₀ noL noLv m g main
    (parts m D h)
    (fun c Q => by
      rewrite [Gen.main_chain c, Seg.run_eq_chain,
        show (parts m D h).map Seg.prog = [
          StableHlo.seq Gen.hostOps0,
          Prog.lift (.customCall (Pipeline.entry 0) ()),
          StableHlo.seq Gen.hostOps1,
          Prog.lift (.customCall (Pipeline.entry 1) ()) ] from rfl]
      dsimp (config := { failIfUnchanged := false }) only
      exact .rfl)
    (by simp only [parts, Seg.pipes_host, Seg.pipes_region, Seg.pipes_nil]; decide) (fun _ => 0) (fun _ _ => rfl)
    (fun _ => iprop(emp)) (initOf (Pipeline.cells (Pipeline.pin (pcfgs (F := F)) adm) (Gen.cellOf_inj adm)) (Pipeline.launchToks (Pipeline.pin (pcfgs (F := F)) adm) (Gen.cellOf_inj adm)))
    (by
      iintro Hu; imodintro
      isplitl [Hu]
      · iapply (show (ownU _ : sProp 𝕄) ⊢ BI.own (emb₁ (initOf (Pipeline.cells (Pipeline.pin (pcfgs (F := F)) adm) (Gen.cellOf_inj adm)) (Pipeline.launchToks (Pipeline.pin (pcfgs (F := F)) adm) (Gen.cellOf_inj adm)))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rest c))
    (Tₙ := fun c => iprop((D c).arraysAt (cfg1 (adm1 (F := F))).N ∗ Pipeline.unscopedRestP pre1 spec1 c (V m c)))
    (hch := ⟨fun _ => .rfl, fun _ => .rfl, fun _ => .rfl, fun _ => .rfl, fun _ => .rfl⟩)
    (hinit := ?_)
    (QY := fun c s => (∀ w, (D c).ArrAt w (cfg1 (adm1 (F := F))).N (s.mem ((spec1 w).arr.view.loc (c.tc : Thread nD τ))))
        ∧ ∀ b ∈ Pipeline.restRefsP sig pre1 spec1, s.mem ((c.tc : Thread nD τ).loc b) = V m c b)
    (hfin := fun c s' => ?_) (hQ := fun s h' hz => hQ s h' (funext fun g => hz g (.inr (Gen.regions_no_unscoped g.2))))
  · have hs : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (g c) ∗ emp))
        ⊢ (bigSep Finset.univ fun c : Dev nD => iprop(StableHlo.held (c : Thread nD τ) (Pipeline.ucRefs τ sig) (Gen.V0 m c) ∗ Rest c) : sProp 𝕄) :=
      bigSep_mono fun c _ => by
        rw [← Pipeline.unscopedBufs_held (Ix := Unit) (Name := ℕ) (U := UR sig nD τ) (Lvl := ℕ) c (Gen.V0 m c)]
        show (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (g c) ∗ emp) : sProp 𝕄)
          ⊢ iprop(unscopedBufs c (fun b => m ((c.tc : Thread nD τ).loc b)) ∗ Rest c)
        iintro ⟨HU, -, HO, -, Hp, -⟩
        isplitl [HU]; · iexact HU
        isplitl [HO]; · iexists _; iexact HO
        iexists _; iexact Hp
    iintro ⟨H, -⟩
    ihave H := hs $$ H
    imodintro
    iexact H
  · iintro ⟨⟨Ha, HU⟩, HSI⟩
    ihave Hr := (Pipeline.RDat.arraysAt_read (pcfgs (F := F)) adm (dats m D) 1 c (Gen.launch₀1 (F := F)).arr_whole (cfg1 (adm1 (F := F))).N s') $$ [Ha HSI]
    · isplitl [Ha]; · iexact Ha
      iexact HSI
    icases Hr with ⟨%h₀, HSI⟩
    unfold Pipeline.unscopedRestP
    ihave Hr := (pointsTo_read_all (Pipeline.restRefsP sig pre1 spec1) (fun b => (c.tc : Thread nD τ).loc b) (V m c) s') $$ [HU HSI]
    · isplitl [HU] <;> iassumption
    icases Hr with ⟨%h', HSI⟩
    imodintro
    isplitr
    · ipureintro; exact ⟨h₀, h'⟩
    · iexact HSI
end

end Cert.Proof.KernelIdeal.Frame
-- ==== Proof.KF.Body.lean ====
/- The kernel body at one grid point. -/
module

public import proofs.«01_k».proof.Proof.KF.Trip

@[expose] public section

noncomputable section

namespace Cert.Proof.KernelIdeal.Frame

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The checks the body makes of the two tile numbers hold for numbers below 12. -/
theorem chk_of_tile (v1 v3 : BitVec 32) (h1 : Tile v1) (h3 : Tile v3) : k1_chk1 v1 v3 := by
  have hd (v : BitVec 32) (h : v.toNat < 12) : 1024 ∣ (Scalar.muli v 1024#32).toNat := by
    simp only [Scalar.muli, IntOp.muli, BitVec.toNat_mul, BitVec.toNat_ofNat]; omega
  have hm (v : BitVec 32) (h : v.toNat < 12) : (Scalar.muli v 1024#32).toNat ≤ 11264 := by
    simp only [Scalar.muli, IntOp.muli, BitVec.toNat_mul, BitVec.toNat_ofNat]; omega
  refine ⟨hd v3 h3.lt, ?_, fun _ => hd v1 h1.lt, fun _ => ?_⟩
  · intro r a
    have := h3.lt; have := r.isLt
    rw [off11_eq v3 h3.lt _ (by omega)]
    fin_cases a
    · show 0 + 8 ≤ 8; omega
    · show 1024 * v3.toNat + 128 * r.val + 128 ≤ 12288; omega
  · intro a
    have := hm v1 h1.lt
    fin_cases a
    · show 0 + 8 ≤ 8; omega
    · show (Scalar.muli v1 1024#32).toNat + 1024 ≤ 12288; omega

section Body
variable (c : Dev nD) (i : grid1.Coords) (arg1 : Memref sig .tc .smem S78 .i32) (harg1 : arg1.IsWhole) (arg2 : Memref sig .tc .smem S78 .i32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1024x128 .i32) (harg5 : arg5.IsWhole) (arg6 : Memref sig .tc .vmem S1x1024 .i32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .i32) (harg9 : arg9.IsWhole) (arg10 : Memref sig .tc .vmem S1024x1024 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S8x12288 .f32) (harg15 : arg15.IsWhole) (arg16 : Memref sig .tc .vmem S8x12288 .f32) (harg16 : arg16.IsWhole) (arg17 : Memref sig .tc .vmem S8x12288 .f32) (harg17 : arg17.IsWhole) (arg18 : Memref sig .tc .vmem S8x12288 .f32) (harg18 : arg18.IsWhole)

/-- The word a table's cell of point `i` holds. -/
abbrev cell (a : Memref sig .tc .smem S78 .i32) (f : Buf (Elt F) (a.view.loc (c : Thread nD τ))) : BitVec 32 :=
  a.view.readAt (Elt F) (Rect.unit (s := S78) (k1_off1 i) S1.size (Gen.k1_off1_inb i)).toLoadRect f (Shape.Idx.first (show 0 < S1.numel by decide))

theorem body (q : PosShare TreeShare) (f1 : Buf (Elt F) (arg1.view.loc (c : Thread nD τ))) (f2 : Buf (Elt F) (arg2.view.loc (c : Thread nD τ)))
    (h1 : Tile (cell c i arg1 f1)) (h2 : Tile (cell c i arg2 f2)) :
    (iprop((arg1.view.loc (c : Thread nD τ) ↦[arg1.view.set]{q} f1) ∗ (arg2.view.loc (c : Thread nD τ) ↦[arg2.view.set]{q} f2)
      ∗ Held c arg3 ∗ Held c arg4 ∗ Held c arg7 ∗ Held c arg8 ∗ Held c arg9 ∗ LoopRes c arg5 arg6 arg10 arg11 arg12 arg13 arg14 arg15 arg16 arg17 arg18) : sProp 𝕄)
      ⊢ wp frame (wpE (defs₀ (F := F)) 𝒱₀ (c : Thread nD τ) none) Set.univ
        (cc1_supcon (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop((arg1.view.loc (c : Thread nD τ) ↦[arg1.view.set]{q} f1) ∗ (arg2.view.loc (c : Thread nD τ) ↦[arg2.view.set]{q} f2)
      ∗ Held c arg3 ∗ Held c arg4 ∗ Held c arg7 ∗ Held c arg8 ∗ Held c arg9 ∗ LoopRes c arg5 arg6 arg10 arg11 arg12 arg13 arg14 arg15 arg16 arg17 arg18)) := by
  have hchk := chk_of_tile _ _ h1 h2
  sl_unfold [cc1_supcon]
  iintro ⟨H1, H2, ⟨%f3, H3⟩, ⟨%f4, H4⟩, ⟨%f7, H7⟩, ⟨%f8, H8⟩, ⟨%f9, H9⟩, ⟨%f5, H5⟩, ⟨%f6, H6⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  by_cases hA : Scalar.cmpi .ne (Scalar.extui (Scalar.cmpi .eq (BitVec.ofNat 32 (i 0).val) 0#32) : BitVec 32) 0#32 = 1#1 <;>
  by_cases hB : Scalar.cmpi .ne (Scalar.extui (Scalar.cmpi .eq (cell c i arg2 f2) (cell c i arg1 f1)) : BitVec 32) 0#32 = 1#1 <;>
  by_cases hC : k1_cond3 (cell c i arg2 f2) = 1#1
  all_goals
    sl_exec
    sl_step
    isplitl [H1]; · iexact H1
    isplitl [H2]; · iexact H2
    isplitl [H3]; · iexists _; iexact H3
    isplitl [H4]; · iexists _; iexact H4
    isplitl [H7]; · iexists _; iexact H7
    isplitl [H8]; · iexists _; iexact H8
    isplitl [H9]; · iexists _; iexact H9
    isplitl [H5]; · iexists _; iexact H5
    isplitl [H6]; · iexists _; iexact H6
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    iexists _; iexact H18
end Body

end Cert.Proof.KernelIdeal.Frame
-- ==== Proof.KF.Launch.lean ====
/- The main call's body obligation and the run's frame. -/
module

public import proofs.«01_k».proof.Proof.KF.Regions
public import proofs.«01_k».proof.Proof.KF.Body
public import Idealize.ShloMosaic.Lib.Pipeline.Frame
public import Idealize.ShloMosaic.Lib.Claim

@[expose] public section

noncomputable section

namespace Cert.Proof.KernelIdeal.Frame

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [FloatOps F] [Named F]

local notation "𝕄" => MT nD τ sig Unit (Elt F) ℕ (UR sig nD τ) ℕ

theorem tile0 (c : Dev nD) (i : grid1.Coords) : Tile (cell (F := F) c i (Memref.whole main_c) (tbl 0)) := ⟨lit0_lt _⟩
theorem tile1 (c : Dev nD) (i : grid1.Coords) : Tile (cell (F := F) c i (Memref.whole main_c_0) (tbl 1)) := ⟨lit1_lt _⟩

/-- The first call's block buffers, which the main call leaves alone. -/
def Idle (c : Dev nD) : sProp 𝕄 := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f))
/-- What the main call's body never touches: those buffers and the generator's register. -/
def Aside (c : Dev nD) : sProp 𝕄 := iprop((∃ r, prngReg c r) ∗ Idle (F := F) c)
/-- The scratch buffers. -/
def Scratch (c : Dev nD) : sProp 𝕄 := iprop(Held c (Memref.whole cc1_scratch0) ∗ Held c (Memref.whole cc1_scratch1) ∗ Held c (Memref.whole cc1_scratch2) ∗ Held c (Memref.whole cc1_scratch3) ∗ Held c (Memref.whole cc1_scratch4) ∗ Held c (Memref.whole cc1_scratch5) ∗ Held c (Memref.whole cc1_scratch6) ∗ Held c (Memref.whole cc1_scratch7) ∗ Held c (Memref.whole cc1_scratch8))
/-- The tables. -/
def Tables (c : Dev nD) : sProp 𝕄 := iprop(((Memref.whole main_c).view.loc (c : Thread nD τ) ↦[(Memref.whole main_c).view.set]{fullShare} tbl (F := F) 0)
      ∗ ((Memref.whole main_c_0).view.loc (c : Thread nD τ) ↦[(Memref.whole main_c_0).view.set]{fullShare} tbl (F := F) 1))

/-- The proof data of the frame: nothing said of what the body leaves in its windows. -/
def rdat (m : (ℓ : Loc nD τ sig) → Buf (Elt F) ℓ) (c : Dev nD) : RDat τ (Elt F) Unit ℕ (UR sig nD τ) ℕ (cfg1 (adm1 (F := F))) c where
  A w := V m c (Pipeline.arrRef spec1 w)
  after _ _ _ _ := True
  Φ _ := iprop((Scratch (F := F) c ∗ Aside c) ∗ Tables c)
  q w := Pipeline.shareOf spec1 w
  owed _ := 0

/-- The tables, one by one. -/
theorem bigSep_T0 {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

theorem scratch_in (c : Dev nD) : (Pipeline.scopedRest (Ix := Unit) (Name := ℕ) (U := UR sig nD τ) (Lvl := ℕ) (Val := Elt F) spec1 c : sProp 𝕄) ⊢ iprop(Scratch (F := F) c ∗ Idle c) := by
  rw [Gen.scopedRest1_eq]; unfold Scratch Idle; simp only [Held, Memref.view_whole, View.set_whole]
  iintro ⟨G0, G1, G2, G3, G4, G5, S⟩
  isplitl [S]; · iexact S
  isplitl [G0]; · iexact G0
  isplitl [G1]; · iexact G1
  isplitl [G2]; · iexact G2
  isplitl [G3]; · iexact G3
  isplitl [G4]; · iexact G4
  iexact G5

theorem scratch_out (c : Dev nD) : iprop(Scratch (F := F) c ∗ Idle c) ⊢ (Pipeline.scopedRest (Ix := Unit) (Name := ℕ) (U := UR sig nD τ) (Lvl := ℕ) (Val := Elt F) spec1 c : sProp 𝕄) := by
  rw [Gen.scopedRest1_eq]; unfold Scratch Idle; simp only [Held, Memref.view_whole, View.set_whole]
  iintro ⟨S, G0, G1, G2, G3, G4, G5⟩
  isplitl [G0]; · iexact G0
  isplitl [G1]; · iexact G1
  isplitl [G2]; · iexact G2
  isplitl [G3]; · iexact G3
  isplitl [G4]; · iexact G4
  isplitl [G5]; · iexact G5
  iexact S

/-- The tables, in the form the body holds them. -/
theorem tables_eq (c : Dev nD) : (Pipeline.prefHeld pre1 c (fun _ => fullShare) (tbl (F := F)) : sProp 𝕄) = Tables c := by
  unfold Pipeline.prefHeld Tables
  rw [bigSep_T0]; simp only [Memref.view_whole, View.set_whole]; rfl

/-- What the main call is entered with. -/
theorem entry (c : Dev nD) : (iprop((∃ r, prngReg c r) ∗ Pipeline.prefHeld pre1 c (fun _ => fullShare) (tbl (F := F)) ∗ Pipeline.scopedRest spec1 c) : sProp 𝕄)
    ⊢ iprop((Scratch (F := F) c ∗ Aside c) ∗ Tables c) := by
  rw [tables_eq]
  unfold Aside
  iintro ⟨Hp, Ht, Hr⟩
  ihave Hr := (scratch_in c) $$ Hr
  icases Hr with ⟨S, G⟩
  isplitr [Ht]; swap; · iexact Ht
  isplitl [S]; · iexact S
  isplitl [Hp]; · iexact Hp
  iexact G

/-- What it gives back. -/
theorem leave (c : Dev nD) : iprop((Scratch (F := F) c ∗ Aside c) ∗ Tables c) ⊢ (iprop((∃ r, prngReg c r) ∗ Pipeline.scopedRest spec1 c) : sProp 𝕄) := by
  unfold Aside
  iintro ⟨⟨S, Hp, G⟩, -⟩
  isplitl [Hp]; · iexact Hp
  iapply (scratch_out (F := F) c)
  isplitl [S]; · iexact S
  iexact G

theorem obligation (m : (ℓ : Loc nD τ sig) → Buf (Elt F) ℓ) (c : Dev nD) : (rdat m c).BodyObligation defs₀ 𝒱₀ () Set.univ := by
  intro t Y _
  rw [Gen.bigSep_W1, Gen.bigSep_W1]
  unfold RDat.owesAt Pipeline.owesWithin
  rw [show (rdat m c).Φ t.succ = iprop((Scratch (F := F) c ∗ Aside c) ∗ Tables c) from rfl,
    show (rdat m c).Φ t.castSucc = iprop((Scratch (F := F) c ∗ Aside c) ∗ Tables c) from rfl,
    show (rdat m c).owed t.castSucc = 0 from rfl, show (rdat m c).owed t.succ = 0 from rfl]
  unfold Scratch Tables
  unfold owns defs₀; rw [Defs.onTc_tc]
  iintro ⟨⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, Hp⟩, T0, T1⟩, HO, ⟨%f0, -, W0⟩, ⟨%f1, -, W1⟩, ⟨%f2, -, W2⟩, ⟨%f3, -, W3⟩, ⟨%f4, -, W4⟩, ⟨%f5, -, W5⟩, ⟨%f6, -, W6⟩⟩
  iapply (wp_wand_r Idealize.ShloMosaic.frame (wpE (defs₀ (F := F)) 𝒱₀ (c : Thread nD τ) none) Set.univ)
  isplitl [S0 S1 S2 S3 S4 S5 S6 S7 S8 T0 T1 W0 W1 W2 W3 W4 W5 W6]
  · iapply (body c (grid1.coords t) _ _ _ _ _ _ _ _ _ _ _ _ _ _ _ _ _ _ _ _ _ _ _ _ _ _ _ _ _ _ _ _ _ _ _ _ fullShare (tbl 0) (tbl 1) (tile0 c _) (tile1 c _))
    isplitl [T0]; · iexact T0
    isplitl [T1]; · iexact T1
    isplitl [W0]; · iexists _; iexact W0
    isplitl [W1]; · iexists _; iexact W1
    isplitl [W4]; · iexists _; iexact W4
    isplitl [W5]; · iexists _; iexact W5
    isplitl [W6]; · iexists _; iexact W6
    isplitl [W2]; · iexists _; iexact W2
    isplitl [W3]; · iexists _; iexact W3
    isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    iexists _; iexact S8
  · iintro %_ ⟨T0, T1, ⟨%f0, W0⟩, ⟨%f1, W1⟩, ⟨%f4, W4⟩, ⟨%f5, W5⟩, ⟨%f6, W6⟩, ⟨%f2, W2⟩, ⟨%f3, W3⟩, ⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩
    isplitl [S0 S1 S2 S3 S4 S5 S6 S7 S8 Hp T0 T1]
    · isplitr [T0 T1]
      · isplitr [Hp]
        · isplitl [S0]; · iexists _; iexact S0
          isplitl [S1]; · iexists _; iexact S1
          isplitl [S2]; · iexists _; iexact S2
          isplitl [S3]; · iexists _; iexact S3
          isplitl [S4]; · iexists _; iexact S4
          isplitl [S5]; · iexists _; iexact S5
          isplitl [S6]; · iexists _; iexact S6
          isplitl [S7]; · iexists _; iexact S7
          iexists _; iexact S8
        iexact Hp
      isplitl [T0]; · iexact T0
      iexact T1
    isplitl [HO]; · iexact HO
    isplitl [W0]
    · iexists _; isplitr; swap
      · iexists _; isplitr; swap; · iexact W0
        ipureintro; rfl
      ipureintro; trivial
    isplitl [W1]
    · iexists _; isplitr; swap
      · iexists _; isplitr; swap; · iexact W1
        ipureintro; rfl
      ipureintro; trivial
    isplitl [W2]
    · iexists _; isplitr; swap
      · iexists _; isplitr; swap; · iexact W2
        ipureintro; rfl
      ipureintro; trivial
    isplitl [W3]
    · iexists _; isplitr; swap
      · iexists _; isplitr; swap; · iexact W3
        ipureintro; rfl
      ipureintro; trivial
    isplitl [W4]
    · iexists _; isplitr; swap
      · iexists _; isplitr; swap; · iexact W4
        ipureintro; rfl
      ipureintro; trivial
    isplitl [W5]
    · iexists _; isplitr; swap
      · iexists _; isplitr; swap; · iexact W5
        ipureintro; rfl
      ipureintro; trivial
    iexists _; isplitr; swap
    · iexists _; isplitr; swap; · iexact W6
      ipureintro; rfl
    ipureintro; trivial

/-- The buffers that no call writes and no operation between the calls. -/
theorem V_of (m : (ℓ : Loc nD τ sig) → Buf (Elt F) ℓ) (c : Dev nD) (r : Ref sig .tc) (h1 : r ∉ Gen.hostOps1_W) (h2 : r ≠ main_v2) (h0 : r ∉ Gen.hostOps0_W) :
    V m c r = m ((c : Thread nD τ).loc r) :=
  (V3_of m c r h1).trans <| (V2_of m c r h2).trans <| (Gen.V1_of m c r h0).trans rfl

/-- What the run leaves of the arguments. -/
theorem args_kept (m : (ℓ : Loc nD τ sig) → Buf (Elt F) ℓ) (c : Dev nD) (s : MemSt nD τ sig (Elt F))
    (h : ∀ b ∈ Pipeline.restRefsP sig pre1 spec1, s.mem ((c.tc : Thread nD τ).loc b) = V m c b) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2) :=
  ⟨(h main_arg0 (by decide)).trans (V_of m c _ (by decide) (by decide) (by decide)),
    (h main_arg1 (by decide)).trans (V_of m c _ (by decide) (by decide) (by decide)),
    (h main_arg2 (by decide)).trans (V_of m c _ (by decide) (by decide) (by decide))⟩

theorem good (m : (ℓ : Loc nD τ sig) → Buf (Elt F) ℓ) : Good m (rdat m) where
  hA _ _ := rfl
  hq _ _ _ := rfl
  howed _ _ := rfl
  hrec _ := rfl
  hbody := obligation m
  hin c := entry c
  hout c := leave c

/-- The run ends, its argument arrays unchanged, every counter at zero. -/
theorem frame_run (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  run m (rdat m) (good m) g fun s h hz => ⟨fun c => args_kept m c s (h c).2, hz⟩

end Cert.Proof.KernelIdeal.Frame
-- ==== Proof.Math.Acc.lean ====
/- The arithmetic of a running log-sum-exp: what one accumulator stands for, and what one step adds to it. -/
module

public import Idealize.ShloMosaic.PureOps.Ideal

@[expose] public section

noncomputable section

namespace Cert.Proof.Math

open Idealize.ShloMosaic

/-- An accumulator: `s * 2 ^ m` is the sum of powers `E` so far, `p` the sum `P` over the positives, `n` their number `N`. An infinite
logit makes the sum infinite; the maximum is then infinite too, and every power is taken to be zero. -/
def Acc (m s p n E P N : EReal) : Prop :=
  ((∃ M S : ℝ, m = (M : EReal) ∧ s = (S : EReal) ∧ 0 ≤ S ∧ E = ((S * (2 : ℝ) ^ M : ℝ) : EReal)) ∨ (m = ⊤ ∧ s = 0 ∧ E = ⊤)) ∧ p = P ∧ n = N

theorem Acc.zero {m : EReal} (h : ∃ M : ℝ, m = (M : EReal)) : Acc m 0 0 0 0 0 0 := by
  obtain ⟨M, rfl⟩ := h
  exact ⟨.inl ⟨M, 0, rfl, by simp, le_rfl, by simp⟩, rfl, rfl⟩

/-- A sum of reals, read in the extended reals. -/
theorem coe_sum {ι : Type*} (T : Finset ι) (f : ι → ℝ) : ((∑ i ∈ T, f i : ℝ) : EReal) = ∑ i ∈ T, (f i : EReal) := by
  classical
  induction T using Finset.induction_on with
  | empty => simp
  | insert a T ha ih => rw [Finset.sum_insert ha, Finset.sum_insert ha, EReal.coe_add, ih]

theorem sum_eq_coe {ι : Type*} (T : Finset ι) (e : ι → EReal) (f : ι → ℝ) (h : ∀ i, e i = (f i : EReal)) :
    ∑ i ∈ T, e i = ((∑ i ∈ T, f i : ℝ) : EReal) := by
  rw [coe_sum]; exact Finset.sum_congr rfl fun i _ => h i

/-- A sum of nonnegative terms, one of them infinite. -/
theorem sum_eq_top {ι : Type*} (T : Finset ι) (f : ι → EReal) (h : ∀ i, 0 ≤ f i) {i : ι} (hi : i ∈ T) (ht : f i = ⊤) : ∑ i ∈ T, f i = ⊤ := by
  classical
  rw [← Finset.add_sum_erase T f hi, ht]
  exact EReal.top_add_of_ne_bot (ne_bot_of_le_ne_bot EReal.zero_ne_bot (Finset.sum_nonneg fun i _ => h i))

/-- A positive real factor goes into a sum of extended reals. -/
theorem sum_mul_pos {ι : Type*} (T : Finset ι) (f : ι → EReal) {c : ℝ} (hc : 0 < c) : (∑ i ∈ T, f i) * (c : EReal) = ∑ i ∈ T, f i * (c : EReal) := by
  classical
  induction T using Finset.induction_on with
  | empty => simp
  | insert a T ha ih =>
    rw [Finset.sum_insert ha, Finset.sum_insert ha, ← ih]
    exact EReal.right_distrib_of_nonneg_of_ne_top (by exact_mod_cast hc.le) (EReal.coe_ne_top c) _ _

/-- A positive real factor keeps infinities. -/
theorem mul_pos_eq_top {x : EReal} {c : ℝ} (hc : 0 < c) (h : x * (c : EReal) = ⊤) : x = ⊤ := by
  induction x with
  | bot => rw [EReal.bot_mul_coe_of_pos hc] at h; exact h
  | top => rfl
  | coe r => rw [← EReal.coe_mul] at h; exact absurd h (EReal.coe_ne_top _)

theorem sub_top (x : EReal) : x - ⊤ = ⊥ := by
  rw [sub_eq_add_neg, EReal.neg_top, EReal.add_bot]

theorem exp2_bot : Ideal.exp2 ⊥ = 0 := rfl
theorem exp2_top : Ideal.exp2 ⊤ = ⊤ := rfl
theorem exp_bot : Ideal.exp ⊥ = 0 := rfl

theorem exp2_real (a : ℝ) : Ideal.exp2 (a : EReal) = (((2 : ℝ) ^ a : ℝ) : EReal) := Ideal.exp2_coe a

theorem exp2_nonneg (x : EReal) : 0 ≤ Ideal.exp2 x := by
  induction x with
  | bot => exact le_rfl
  | top => exact le_top
  | coe r => rw [exp2_real]; exact_mod_cast (Real.rpow_pos_of_pos two_pos r).le

theorem exp2_sub (a b : ℝ) : Ideal.exp2 ((a : EReal) - (b : EReal)) = (((2 : ℝ) ^ (a - b) : ℝ) : EReal) := by
  rw [← EReal.coe_sub, exp2_real]

theorem rpow_shift (a b : ℝ) : (2 : ℝ) ^ (a - b) * (2 : ℝ) ^ b = (2 : ℝ) ^ a := by
  rw [← Real.rpow_add (by norm_num : (0 : ℝ) < 2)]; congr 1; ring

/-- A power relative to a real maximum is a real number, and times the maximum's power it is the power. -/
theorem exp2_rel {x : EReal} {M : ℝ} (h : x ≠ ⊤) :
    ∃ t : ℝ, 0 ≤ t ∧ Ideal.exp2 (x - (M : EReal)) = (t : EReal) ∧ Ideal.exp2 x = ((t * (2 : ℝ) ^ M : ℝ) : EReal) := by
  induction x with
  | bot => exact ⟨0, le_rfl, by rw [EReal.bot_sub]; rfl, by rw [zero_mul]; rfl⟩
  | top => exact absurd rfl h
  | coe r => exact ⟨(2 : ℝ) ^ (r - M), (Real.rpow_pos_of_pos two_pos _).le, exp2_sub r M, by rw [rpow_shift, exp2_real]⟩

/-- Sums of powers relative to a real maximum. -/
theorem sum_rel {ι : Type*} (T : Finset ι) (x : ι → EReal) (M : ℝ) (h : ∀ i, x i ≠ ⊤) :
    ∃ t : ℝ, 0 ≤ t ∧ ∑ i ∈ T, Ideal.exp2 (x i - (M : EReal)) = (t : EReal) ∧ ∑ i ∈ T, Ideal.exp2 (x i) = ((t * (2 : ℝ) ^ M : ℝ) : EReal) := by
  choose t h0 h1 h2 using fun i => exp2_rel (M := M) (h i)
  exact ⟨∑ i ∈ T, t i, Finset.sum_nonneg fun i _ => h0 i, sum_eq_coe _ _ _ h1, by rw [Finset.sum_mul]; exact sum_eq_coe _ _ _ h2⟩

/-- What is used of the new maximum: it bounds the old one and the new entries, and is infinite only with one of them. -/
structure NewMax {ι : Type*} (m : EReal) (x : ι → EReal) (m' : EReal) : Prop where
  old : m ≤ m'
  new : ∀ i, x i ≤ m'
  top : m' = ⊤ → m = ⊤ ∨ ∃ i, x i = ⊤

/-- A maximum taken at once of all the new entries. -/
theorem NewMax.fold {ι : Type*} [Fintype ι] (m : EReal) (x : ι → EReal) : NewMax m x (max m (Finset.univ.fold max ⊥ x)) := by
  refine ⟨le_max_left _ _, fun i => le_max_of_le_right (Finset.le_sup (f := x) (Finset.mem_univ i)), fun h => (max_eq_top.1 h).imp id fun h => ?_⟩
  by_contra hc
  exact absurd h ((Finset.sup_lt_iff (f := x) bot_lt_top).2 fun i _ => lt_top_iff_ne_top.2 fun e => hc ⟨i, e⟩).ne

/-- A maximum taken of eight new entries one by one. -/
theorem NewMax.eight (m : EReal) (x : Fin 8 → EReal) :
    NewMax m x (max (max (max (max (max (max (max (max m (x 0)) (x 1)) (x 2)) (x 3)) (x 4)) (x 5)) (x 6)) (x 7)) := by
  refine ⟨by simp only [le_max_iff, le_refl, true_or], fun i => ?_, fun h => ?_⟩
  · fin_cases i <;> simp only [le_max_iff, le_refl, true_or, or_true, Fin.zero_eta, Fin.mk_one, Fin.reduceFinMk]
  · simp only [max_eq_top] at h
    rcases h with (((((((h | h) | h) | h) | h) | h) | h) | h) | h
    exacts [.inl h, .inr ⟨_, h⟩, .inr ⟨_, h⟩, .inr ⟨_, h⟩, .inr ⟨_, h⟩, .inr ⟨_, h⟩, .inr ⟨_, h⟩, .inr ⟨_, h⟩, .inr ⟨_, h⟩]

/-- One step of the running log-sum-exp: entries masked to −∞ add nothing. -/
theorem Acc.step {ι : Type*} [Fintype ι] {m s p n E P N : EReal} (h : Acc m s p n E P N)
    (y : ι → EReal) (q r : ι → Prop) [DecidablePred q] [DecidablePred r] (x px pn : ι → EReal)
    (hx : ∀ i, x i = if q i then y i else ⊥)
    (hp : ∀ i, px i = if r i ∧ q i then y i else 0)
    (hn : ∀ i, pn i = if r i ∧ q i then 1 else 0)
    {m' : EReal} (hm' : NewMax m x m') :
    Acc m' (s * Ideal.exp2 (m - m') + ∑ i, Ideal.exp2 (x i - m')) (p + ∑ i, px i) (n + ∑ i, pn i)
      (E + ∑ i, if q i then Ideal.exp2 (y i) else 0) (P + ∑ i, if q i then (if r i then y i else 0) else 0)
      (N + ∑ i, if q i then (if r i then 1 else 0) else 0) := by
  obtain ⟨hE, rfl, rfl⟩ := h
  have hb : m ≠ ⊥ := by
    rcases hE with ⟨M, S, rfl, -⟩ | ⟨rfl, -⟩
    · exact EReal.coe_ne_bot M
    · exact top_ne_bot
  have e : (fun i => if q i then Ideal.exp2 (y i) else 0) = fun i => Ideal.exp2 (x i) := by
    funext i; rw [hx]; by_cases h : q i
    · rw [if_pos h, if_pos h]
    · rw [if_neg h, if_neg h]; rfl
  refine ⟨?_, congrArg _ (Finset.sum_congr rfl fun i _ => ?_), congrArg _ (Finset.sum_congr rfl fun i _ => ?_)⟩
  · rw [e]
    by_cases ht : m' = ⊤
    · refine .inr ⟨ht, ?_, ?_⟩
      · rw [ht, sub_top, exp2_bot, mul_zero, zero_add]
        exact Finset.sum_eq_zero fun i _ => by rw [sub_top, exp2_bot]
      · have hs : 0 ≤ ∑ i, Ideal.exp2 (x i) := Finset.sum_nonneg fun i _ => exp2_nonneg _
        rcases hm'.top ht with h | ⟨i, h⟩
        · rcases hE with ⟨M, S, rfl, -⟩ | ⟨-, -, rfl⟩
          · exact absurd h (EReal.coe_ne_top M)
          · exact EReal.top_add_of_ne_bot (ne_bot_of_le_ne_bot EReal.zero_ne_bot hs)
        · rw [sum_eq_top _ _ (fun i => exp2_nonneg _) (Finset.mem_univ i) (by rw [h]; rfl)]
          refine EReal.add_top_of_ne_bot ?_
          rcases hE with ⟨M, S, -, -, -, rfl⟩ | ⟨-, -, rfl⟩
          · exact EReal.coe_ne_bot _
          · exact top_ne_bot
    · have hmt : m ≠ ⊤ := fun h => ht (top_le_iff.1 (h ▸ hm'.old))
      rcases hE with ⟨M, S, rfl, rfl, h0, rfl⟩ | ⟨h, -⟩
      · obtain ⟨M', rfl⟩ : ∃ M' : ℝ, m' = (M' : EReal) := ⟨m'.toReal, (EReal.coe_toReal ht (ne_bot_of_le_ne_bot hb hm'.old)).symm⟩
        obtain ⟨t, t0, t1, t2⟩ := sum_rel Finset.univ x M' fun i h => ht (top_le_iff.1 (h ▸ hm'.new i))
        refine .inl ⟨M', S * (2 : ℝ) ^ (M - M') + t, rfl, ?_, add_nonneg (mul_nonneg h0 (Real.rpow_pos_of_pos two_pos _).le) t0, ?_⟩
        · rw [EReal.coe_add, EReal.coe_mul, exp2_sub, t1]
        · rw [t2, ← EReal.coe_add, add_mul, mul_assoc, rpow_shift]
      · exact absurd h hmt
  · rw [hp]; by_cases hq : q i <;> by_cases hr : r i <;> simp [hq, hr]
  · rw [hn]; by_cases hq : q i <;> by_cases hr : r i <;> simp [hq, hr]

/-- Several accumulators, two families of them, brought to one maximum and added up. -/
theorem Acc.gather {ι κ : Type*} [Fintype ι] [Fintype κ] [Nonempty ι] {m s p n E P N : ι → EReal} {m' s' p' n' E' P' N' : κ → EReal}
    (h : ∀ i, Acc (m i) (s i) (p i) (n i) (E i) (P i) (N i)) (h' : ∀ i, Acc (m' i) (s' i) (p' i) (n' i) (E' i) (P' i) (N' i)) :
    Acc (max (Finset.univ.fold max ⊥ m) (Finset.univ.fold max ⊥ m'))
      (∑ i, s i * Ideal.exp2 (m i - max (Finset.univ.fold max ⊥ m) (Finset.univ.fold max ⊥ m'))
        + ∑ i, s' i * Ideal.exp2 (m' i - max (Finset.univ.fold max ⊥ m) (Finset.univ.fold max ⊥ m')))
      (∑ i, p i + ∑ i, p' i) (∑ i, n i + ∑ i, n' i) (∑ i, E i + ∑ i, E' i) (∑ i, P i + ∑ i, P' i) (∑ i, N i + ∑ i, N' i) := by
  classical
  have nonneg {m s p n E P N : EReal} (h : Acc m s p n E P N) : 0 ≤ E := by
    rcases h.1 with ⟨M, S, -, -, h0, rfl⟩ | ⟨-, -, rfl⟩
    · exact_mod_cast mul_nonneg h0 (Real.rpow_pos_of_pos two_pos M).le
    · exact le_top
  have rel {m s p n E P N : EReal} (h : Acc m s p n E P N) (M' : ℝ) (hm : m ≠ ⊤) :
      ∃ t : ℝ, 0 ≤ t ∧ s * Ideal.exp2 (m - (M' : EReal)) = (t : EReal) ∧ E = ((t * (2 : ℝ) ^ M' : ℝ) : EReal) := by
    rcases h.1 with ⟨M, S, rfl, rfl, h0, rfl⟩ | ⟨h, -⟩
    · exact ⟨S * (2 : ℝ) ^ (M - M'), mul_nonneg h0 (Real.rpow_pos_of_pos two_pos _).le, by rw [exp2_sub, EReal.coe_mul], by rw [mul_assoc, rpow_shift]⟩
    · exact absurd h hm
  have isTop {m s p n E P N : EReal} (h : Acc m s p n E P N) (hm : m = ⊤) : E = ⊤ := by
    rcases h.1 with ⟨M, S, h, -⟩ | ⟨-, -, h⟩
    · exact absurd (h.symm.trans hm) (EReal.coe_ne_top M)
    · exact h
  have notBot {m s p n E P N : EReal} (h : Acc m s p n E P N) : m ≠ ⊥ := by
    rcases h.1 with ⟨M, S, rfl, -⟩ | ⟨rfl, -⟩
    · exact EReal.coe_ne_bot M
    · exact top_ne_bot
  have hN := NewMax.fold (Finset.univ.fold max ⊥ m) m'
  have hN0 := NewMax.fold ⊥ m
  rw [max_eq_right bot_le] at hN0
  refine ⟨?_, congrArg₂ _ (Finset.sum_congr rfl fun i _ => (h i).2.1) (Finset.sum_congr rfl fun i _ => (h' i).2.1),
    congrArg₂ _ (Finset.sum_congr rfl fun i _ => (h i).2.2) (Finset.sum_congr rfl fun i _ => (h' i).2.2)⟩
  generalize max (Finset.univ.fold max ⊥ m) (Finset.univ.fold max ⊥ m') = T at hN ⊢
  have le i : m i ≤ T := (hN0.new i).trans hN.old
  have le' i : m' i ≤ T := hN.new i
  by_cases ht : T = ⊤
  · refine .inr ⟨ht, ?_, ?_⟩
    · rw [ht]
      simp only [sub_top, exp2_bot, mul_zero, Finset.sum_const_zero, add_zero]
    · have z : (0 : EReal) ≤ ∑ i, E i := Finset.sum_nonneg fun i _ => nonneg (h i)
      have z' : (0 : EReal) ≤ ∑ i, E' i := Finset.sum_nonneg fun i _ => nonneg (h' i)
      rcases hN.top ht with e | ⟨i, e⟩
      · rcases hN0.top e with e | ⟨i, e⟩
        · exact absurd e bot_ne_top
        · rw [sum_eq_top _ _ (fun i => nonneg (h i)) (Finset.mem_univ i) (isTop (h i) e)]
          exact EReal.top_add_of_ne_bot (ne_bot_of_le_ne_bot EReal.zero_ne_bot z')
      · rw [sum_eq_top _ _ (fun i => nonneg (h' i)) (Finset.mem_univ i) (isTop (h' i) e)]
        exact EReal.add_top_of_ne_bot (ne_bot_of_le_ne_bot EReal.zero_ne_bot z)
  · obtain ⟨i₀⟩ := ‹Nonempty ι›
    obtain ⟨M, rfl⟩ : ∃ M : ℝ, T = (M : EReal) := ⟨T.toReal, (EReal.coe_toReal ht (ne_bot_of_le_ne_bot (notBot (h i₀)) (le i₀))).symm⟩
    choose t t0 t1 t2 using fun i => rel (h i) M fun e => ht (top_le_iff.1 (e ▸ le i))
    choose u u0 u1 u2 using fun i => rel (h' i) M fun e => ht (top_le_iff.1 (e ▸ le' i))
    refine .inl ⟨M, ∑ i, t i + ∑ i, u i, rfl, ?_, add_nonneg (Finset.sum_nonneg fun i _ => t0 i) (Finset.sum_nonneg fun i _ => u0 i), ?_⟩
    · rw [sum_eq_coe _ _ _ t1, sum_eq_coe _ _ _ u1, EReal.coe_add]
    · rw [sum_eq_coe _ _ _ t2, sum_eq_coe _ _ _ u2, ← EReal.coe_add, add_mul, Finset.sum_mul, Finset.sum_mul]

/-- The log of a sum lowered by `T`, and `T` back. -/
theorem add_log (T S : ℝ) (h : 0 ≤ S) : (T : EReal) + Ideal.log (S : EReal) = Ideal.log ((S * Real.exp T : ℝ) : EReal) := by
  have he := Real.exp_pos T
  rcases h.eq_or_lt with rfl | h
  · rw [zero_mul, Ideal.log_coe, if_pos le_rfl, EReal.add_bot]
  · rw [Ideal.log_coe, Ideal.log_coe, if_neg (not_le.2 h), if_neg (not_le.2 (mul_pos h he)), ← EReal.coe_add, Real.log_mul h.ne' he.ne',
      Real.log_exp, add_comm]

/-- The log-sum-exp as both programs give it: with an infinite sum the programs' maxima are infinite and the result is −∞. -/
def lseOf (E : EReal) : EReal := if E = ⊤ then ⊥ else Ideal.log E

/-- An accumulator's log-sum-exp. -/
theorem Acc.lse {m s p n E P N : EReal} (h : Acc m s p n E P N) : m * ((Real.log 2 : ℝ) : EReal) + Ideal.log s = lseOf E := by
  rcases h.1 with ⟨M, S, rfl, rfl, h0, rfl⟩ | ⟨rfl, rfl, rfl⟩
  · rw [lseOf, if_neg (EReal.coe_ne_top _), ← EReal.coe_mul, add_log _ _ h0, Real.rpow_def_of_pos two_pos, mul_comm M]
  · rw [lseOf, if_pos rfl, show Ideal.log 0 = ⊥ from by rw [← EReal.coe_zero, Ideal.log_coe, if_pos le_rfl], EReal.add_bot]

/-- The same with natural exponentials: a maximum over entries, and the sum of their exponentials lowered by it. -/
theorem lse_natural {ι : Type*} [Fintype ι] (y u : ι → EReal) (hu : ∀ i, u i = y i * ((Real.log 2 : ℝ) : EReal)) :
    Finset.univ.fold max ⊥ u + Ideal.log (∑ i, Ideal.exp (u i - Finset.univ.fold max ⊥ u)) = lseOf (∑ i, Ideal.exp2 (y i)) := by
  have hl := Real.log_pos one_lt_two
  have hN := NewMax.fold ⊥ u
  rw [max_eq_right bot_le] at hN
  have log0 : Ideal.log 0 = ⊥ := by rw [← EReal.coe_zero, Ideal.log_coe, if_pos le_rfl]
  generalize Finset.univ.fold max ⊥ u = T at hN ⊢
  by_cases ht : T = ⊤
  · obtain ⟨i, hi⟩ := (hN.top ht).resolve_left bot_ne_top
    rw [hu] at hi
    rw [ht, sum_eq_top (f := fun i => Ideal.exp2 (y i)) _ (fun i => exp2_nonneg _) (Finset.mem_univ i) (by rw [mul_pos_eq_top hl hi]; rfl), lseOf, if_pos rfl]
    simp only [sub_top, exp_bot, Finset.sum_const_zero, log0, EReal.add_bot]
  · induction T with
    | top => exact absurd rfl ht
    | bot =>
      have hy i : y i = ⊥ := by
        have h : y i * ((Real.log 2 : ℝ) : EReal) = ⊥ := (hu i).symm.trans (le_bot_iff.1 (hN.new i))
        induction hc : y i with
        | bot => rfl
        | top => rw [hc, EReal.top_mul_coe_of_pos hl] at h; exact h
        | coe r => rw [hc, ← EReal.coe_mul] at h; exact absurd h (EReal.coe_ne_bot _)
      simp only [hy, exp2_bot, Finset.sum_const_zero, EReal.bot_add, lseOf, if_neg EReal.zero_ne_top, log0]
    | coe T =>
      have key i : ∃ t : ℝ, 0 ≤ t ∧ Ideal.exp (u i - (T : EReal)) = (t : EReal) ∧ Ideal.exp2 (y i) = ((t * Real.exp T : ℝ) : EReal) := by
        have hi := hN.new i
        rw [hu] at hi ⊢
        generalize y i = z at hi ⊢
        induction z with
        | bot => exact ⟨0, le_rfl, by rw [EReal.bot_mul_coe_of_pos hl, EReal.bot_sub]; rfl, by rw [zero_mul]; rfl⟩
        | top => rw [EReal.top_mul_coe_of_pos hl] at hi; exact absurd (top_le_iff.1 hi) (EReal.coe_ne_top _)
        | coe r =>
          refine ⟨Real.exp (r * Real.log 2 - T), (Real.exp_pos _).le, by rw [← EReal.coe_mul, ← EReal.coe_sub, Ideal.exp_coe], ?_⟩
          rw [exp2_real, ← Real.exp_add, sub_add_cancel, Real.rpow_def_of_pos two_pos, mul_comm]
      choose t t0 t1 t2 using key
      rw [sum_eq_coe _ _ _ t1, sum_eq_coe _ _ _ t2, add_log _ _ (Finset.sum_nonneg fun i _ => t0 i), Finset.sum_mul, lseOf, if_neg (EReal.coe_ne_top _)]

/-! ### Strided sums -/

/-- A sum over the numbers of one residue, extended by `n` whole periods. -/
theorem sum_stride (d n l B : ℕ) (hl : l < d) (hB : d ∣ B) (g : ℕ → EReal) :
    ∑ b ∈ Finset.range (B + d * n), (if b % d = l then g b else 0)
      = ∑ b ∈ Finset.range B, (if b % d = l then g b else 0) + ∑ c : Fin n, g (B + d * c.val + l) := by
  rw [Fin.sum_univ_eq_sum_range (fun c => g (B + d * c + l)) n]
  induction n with
  | zero => simp
  | succ n ih =>
    rw [show B + d * (n + 1) = (B + d * n) + d by ring, Finset.sum_range_add, ih, Finset.sum_range_succ, add_assoc]
    congr 2
    rw [Finset.sum_eq_single_of_mem l (Finset.mem_range.2 hl)]
    · rw [if_pos]
      obtain ⟨k, rfl⟩ := hB
      rw [show d * k + d * n + l = l + d * (k + n) by ring, Nat.add_mul_mod_self_left, Nat.mod_eq_of_lt hl]
    · intro b hb hne
      rw [if_neg]
      obtain ⟨k, rfl⟩ := hB
      rw [show d * k + d * n + b = b + d * (k + n) by ring, Nat.add_mul_mod_self_left, Nat.mod_eq_of_lt (Finset.mem_range.1 hb)]
      exact hne

/-- The part of row `A`'s sum right of the diagonal kept in lane `l`, over the columns below `B`. -/
def rowSum (f : ℕ → ℕ → EReal) (A l B : ℕ) : EReal := ∑ b ∈ Finset.range B, if b % 128 = l then (if A < b then f A b else 0) else 0

/-- The part of column `C`'s sum above the diagonal kept in sublane `s`, over the rows below `B`. -/
def colSum (f : ℕ → ℕ → EReal) (C s B : ℕ) : EReal := ∑ a ∈ Finset.range B, if a % 8 = s then (if a < C then f a C else 0) else 0

theorem rowSum_step (f : ℕ → ℕ → EReal) (A l B : ℕ) (hl : l < 128) (hB : 128 ∣ B) :
    rowSum f A l (B + 1024) = rowSum f A l B + ∑ c : Fin 8, if A < B + 128 * c.val + l then f A (B + 128 * c.val + l) else 0 :=
  sum_stride 128 8 l B hl hB fun b => if A < b then f A b else 0

theorem colSum_step (f : ℕ → ℕ → EReal) (C s B : ℕ) (hs : s < 8) (hB : 8 ∣ B) :
    colSum f C s (B + 128) = colSum f C s B + ∑ u : Fin 16, if B + 8 * u.val + s < C then f (B + 8 * u.val + s) C else 0 :=
  sum_stride 8 16 s B hs hB fun a => if a < C then f a C else 0

theorem rowSum_eq_zero (f : ℕ → ℕ → EReal) (A l B : ℕ) (h : B ≤ A + 1) : rowSum f A l B = 0 := by
  refine Finset.sum_eq_zero fun b hb => ?_
  have := Finset.mem_range.1 hb
  rw [if_neg (by omega : ¬ A < b), ite_self]

theorem colSum_zero (f : ℕ → ℕ → EReal) (C s : ℕ) : colSum f C s 0 = 0 := rfl

/-- Rows at or below the diagonal add nothing. -/
theorem colSum_of_le (f : ℕ → ℕ → EReal) (C s B B' : ℕ) (h : C ≤ B) (h' : B ≤ B') : colSum f C s B' = colSum f C s B := by
  unfold colSum
  refine (Finset.sum_subset (Finset.range_subset_range.2 h') fun a _ ha => ?_).symm
  have := mt Finset.mem_range.2 ha
  rw [if_neg (by omega : ¬ a < C), ite_self]

theorem sum_residues (d : ℕ) (hd : 0 < d) (B : ℕ) (g : ℕ → EReal) :
    ∑ l : Fin d, ∑ b ∈ Finset.range B, (if b % d = l.val then g b else 0) = ∑ b ∈ Finset.range B, g b := by
  rw [Finset.sum_comm]
  refine Finset.sum_congr rfl fun b _ => ?_
  rw [Finset.sum_eq_single_of_mem (⟨b % d, Nat.mod_lt _ hd⟩ : Fin d) (Finset.mem_univ _)]
  · rw [if_pos rfl]
  · intro l _ hne
    rw [if_neg]; intro e; exact hne (Fin.ext e.symm)

/-- Both parts of row `A` together: every other row once. -/
theorem total (f : ℕ → ℕ → EReal) (hf : ∀ a b, f a b = f b a) (A B n : ℕ) (hB : A ≤ B) (hn : B ≤ n) :
    ∑ l : Fin 128, rowSum f A l.val n + ∑ s : Fin 8, colSum f A s.val B = ∑ b ∈ Finset.range n, if b = A then 0 else f A b := by
  rw [Finset.sum_congr rfl fun (s : Fin 8) _ => (colSum_of_le f A s.val B n hB hn).symm]
  unfold rowSum colSum
  rw [sum_residues 128 (by norm_num), sum_residues 8 (by norm_num), ← Finset.sum_add_distrib]
  refine Finset.sum_congr rfl fun b _ => ?_
  rcases lt_trichotomy b A with h | h | h
  · rw [if_neg (by omega), if_pos h, if_neg (by omega), hf, zero_add]
  · rw [if_neg (by omega), if_neg (by omega), if_pos h, zero_add]
  · rw [if_pos h, if_neg (by omega), if_neg (by omega), add_zero]

end Cert.Proof.Math
-- ==== Proof.KI.Chunk.lean ====
/- What one trip of the loop computes of its loads: the vectors of one column chunk, each read at an index. -/
module

public import proofs.«01_k».proof.Proof.Gen.KernelIdeal
public import proofs.«01_k».proof.Proof.Gen.KernelIdeal.Skeleton
public import Idealize.ShloMosaic.Lib.Pointwise
public import proofs.«01_k».proof.Proof.Math.Acc

@[expose] public section

noncomputable section

namespace Cert.Proof.KernelIdeal

open Cert.KernelIdeal Cert.KernelIdeal.Facts₀ Cert.KernelIdeal.Facts
open Idealize.ShloMosaic

abbrev VF : Type := FVec Ideal S128x128 .f32
abbrev VS : Type := FVec Ideal S8x128 .f32

/-- The rows' numbers. -/
def ri (v1 kk : BitVec 32) : IVec S128x128 32 :=
  addi (iota .tc S128x128 32 [0] iota_S128x128_d0_w32) (broadcast S128x128 (Scalar.addi (Scalar.muli v1 1024#32) kk))

/-- The columns' numbers of chunk 0. -/
def ci (v3 : BitVec 32) : IVec S128x128 32 :=
  addi (iota .tc S128x128 32 [1] iota_S128x128_d1_w32) (broadcast S128x128 (Scalar.muli v3 1024#32))

/-- Where a column lies right of the diagonal. -/
def up (v1 v3 kk n : BitVec 32) : IVec S128x128 1 := cmpi .slt (ri v1 kk) (addi (ci v3) (broadcast S128x128 n))

/-- A chunk's products in bits, −∞ left of the diagonal. -/
def xv (v1 v3 kk n : BitVec 32) (g : VF) : VF :=
  select (up v1 v3 kk n) (mulf g (broadcast S128x128 (Named.named κ "to_bits" 0x4166D4CA#32))) (broadcast S128x128 (Scalar.ofBits .f32 0xFF800000#32))

/-- The rows' labels, a negative one replaced by −2. -/
def lrv (lr : IVec S128x128 32) : IVec S128x128 32 :=
  select (cmpi .slt (shapeCast S128x128 lr shapeCasts_S128x128_S128x128) (broadcast S128x128 0#32)) (broadcast S128x128 4294967294#32)
    (shapeCast S128x128 lr shapeCasts_S128x128_S128x128)

/-- Where a pair is positive. -/
def posv (v1 v3 kk n : BitVec 32) (lr : IVec S128x128 32) (lc : IVec S1x128 32) : IVec S128x128 1 :=
  andi (cmpi .eq (lrv lr) (broadcastTo S128x128 (shapeCast S1x128 lc shapeCasts_S1x128_S1x128) broadcasts_S1x128_S128x128)) (up v1 v3 kk n)

def pxv (v1 v3 kk n : BitVec 32) (g : VF) (lr : IVec S128x128 32) (lc : IVec S1x128 32) : VF :=
  select (posv v1 v3 kk n lr lc) (xv v1 v3 kk n g) (broadcast S128x128 (Scalar.ofBits .f32 0x00000000#32))

def pcv (v1 v3 kk n : BitVec 32) (lr : IVec S128x128 32) (lc : IVec S1x128 32) : VF :=
  select (posv v1 v3 kk n lr lc) (broadcast S128x128 (Scalar.ofBits .f32 0x3F800000#32)) (broadcast S128x128 (Scalar.ofBits .f32 0x00000000#32))

def x3 (x : VF) : FVec Ideal S16x8x128 .f32 := shapeCast S16x8x128 x shapeCasts_S128x128_S16x8x128

/-- A column chunk's new maxima. -/
def colM (m : VS) (x : VF) : VS := maximumf m (multiReduction .maximumf [0] S8x128 (x3 x) 0xFF800000#32 reduces_S16x8x128_S8x128 (.inl rfl) rfl)

/-- A column chunk's new sums of powers. -/
def colS (m s : VS) (x : VF) : VS :=
  shapeCast S8x128 (addf (mulf s (exp2 (subf m (colM m x)))) (multiReduction .add [0] S8x128
    (exp2 (subf (x3 x) (broadcastTo S16x8x128 (shapeCast S1x8x128 (colM m x) shapeCasts_S8x128_S1x8x128) broadcasts_S1x8x128_S16x8x128)))
    0x00000000#32 reduces_S16x8x128_S8x128 (.inl rfl) rfl)) shapeCasts_S8x128_S8x128

/-- A column chunk's plain sums. -/
def colA (s : VS) (x : VF) : VS :=
  shapeCast S8x128 (addf s (multiReduction .add [0] S8x128 (x3 x) 0x00000000#32 reduces_S16x8x128_S8x128 (.inl rfl) rfl)) shapeCasts_S8x128_S8x128

/-- A column chunk's new maxima as stored. -/
def colM' (m : VS) (x : VF) : VS := shapeCast S8x128 (colM m x) shapeCasts_S8x128_S8x128

/-- The rows' new maxima. -/
def rowM (m : VF) (x : Fin 8 → VF) : VF :=
  maximumf (maximumf (maximumf (maximumf (maximumf (maximumf (maximumf (maximumf m (x 0)) (x 1)) (x 2)) (x 3)) (x 4)) (x 5)) (x 6)) (x 7)

/-- The sum of eight chunks onto a vector. -/
def rowA (s : VF) (x : Fin 8 → VF) : VF :=
  addf (addf (addf (addf (addf (addf (addf (addf s (x 0)) (x 1)) (x 2)) (x 3)) (x 4)) (x 5)) (x 6)) (x 7)

/-- The rows' new sums of powers. -/
def rowS (m s : VF) (x : Fin 8 → VF) : VF := rowA (mulf s (exp2 (subf m (rowM m x)))) fun c => exp2 (subf (x c) (rowM m x))

/-! ### Read at an index -/

set_option maxRecDepth 16384

theorem ninf : (Ideal.ofBits .f32 0xFF800000#32 : EReal) = ⊥ := by
  simp [Ideal.ofBits, Ideal.ieee]

theorem rowM_apply (m : VF) (x : Fin 8 → VF) (r l : Fin 128) : rowM m x (ix2 r l) =
    max (max (max (max (max (max (max (max (m (ix2 r l)) (x 0 (ix2 r l))) (x 1 (ix2 r l))) (x 2 (ix2 r l))) (x 3 (ix2 r l))) (x 4 (ix2 r l))) (x 5 (ix2 r l))) (x 6 (ix2 r l))) (x 7 (ix2 r l)) := rfl

theorem rowA_apply (s : VF) (x : Fin 8 → VF) (r l : Fin 128) : rowA s x (ix2 r l) = s (ix2 r l) + ∑ c : Fin 8, x c (ix2 r l) := by
  rw [Fin.sum_univ_eight]
  show ((((((((s (ix2 r l) + x 0 (ix2 r l) : EReal) + _) + _) + _) + _) + _) + _) + _ : EReal) = _
  simp only [add_assoc]

theorem rowS_apply (m s : VF) (x : Fin 8 → VF) (r l : Fin 128) : rowS m s x (ix2 r l)
    = s (ix2 r l) * Ideal.exp2 (m (ix2 r l) - rowM m x (ix2 r l)) + ∑ c : Fin 8, Ideal.exp2 (x c (ix2 r l) - rowM m x (ix2 r l)) := by
  unfold rowS; rw [rowA_apply]; rfl

theorem x3_apply (x : VF) (u : Fin 16) (s : Fin 8) (l : Fin 128) : x3 x (ix3 u s l) = x (ix2 ⟨u.val * 8 + s.val, by omega⟩ l) := by
  pointwise [x3]

theorem colM_apply (m : VS) (x : VF) (s : Fin 8) (l : Fin 128) : colM m x (ix2 s l)
    = max (m (ix2 s l)) (Finset.univ.fold max ⊥ fun u : Fin 16 => x (ix2 ⟨u.val * 8 + s.val, by omega⟩ l)) := by
  pointwise [colM, x3_apply]
  simp only [ninf, x3_apply]

theorem colM'_apply (m : VS) (x : VF) (s : Fin 8) (l : Fin 128) : colM' m x (ix2 s l) = colM m x (ix2 s l) := by
  pointwise [colM']

theorem colA_apply (a : VS) (x : VF) (s : Fin 8) (l : Fin 128) : colA a x (ix2 s l)
    = a (ix2 s l) + ∑ u : Fin 16, x (ix2 ⟨u.val * 8 + s.val, by omega⟩ l) := by
  pointwise [colA, x3_apply]

theorem colS_apply (m a : VS) (x : VF) (s : Fin 8) (l : Fin 128) : colS m a x (ix2 s l)
    = a (ix2 s l) * Ideal.exp2 (m (ix2 s l) - colM m x (ix2 s l))
      + ∑ u : Fin 16, Ideal.exp2 (x (ix2 ⟨u.val * 8 + s.val, by omega⟩ l) - colM m x (ix2 s l)) := by
  pointwise [colS, x3_apply]
  rfl

/-- Numbers of a trip: row tile `i`, column tile `j`, row chunk `k`, column chunk `c`. -/
structure Nums (v1 v3 kk n : BitVec 32) (i j k c : ℕ) : Prop where
  h1 : v1.toNat = i
  h3 : v3.toNat = j
  hk : kk.toNat = 128 * k
  hn : n.toNat = 128 * c
  i12 : i < 12
  j12 : j < 12
  k8 : k < 8
  c8 : c < 8

theorem Nums.slt {v1 v3 kk n : BitVec 32} {i j k c : ℕ} (h : Nums v1 v3 kk n i j k c) (r l : Fin 128) :
    IntOp.cmpi CmpIPredicate.slt (IntOp.addi (BitVec.ofNat 32 r.val) (Scalar.addi (Scalar.muli v1 1024#32) kk))
      (IntOp.addi (IntOp.addi (BitVec.ofNat 32 l.val) (Scalar.muli v3 1024#32)) n) =
    BitVec.ofBool (decide (1024 * i + 128 * k + r.val < 1024 * j + 128 * c + l.val)) := by
  obtain ⟨rfl, rfl, hk, hn, hi, hj, hk8, hc8⟩ := h
  have hr := r.isLt
  have hl := l.isLt
  have e1 : (IntOp.addi (BitVec.ofNat 32 r.val) (Scalar.addi (Scalar.muli v1 1024#32) kk)).toNat = 1024 * v1.toNat + 128 * k + r.val := by
    simp only [Scalar.addi, Scalar.muli, IntOp.addi, IntOp.muli, BitVec.toNat_add, BitVec.toNat_mul, BitVec.toNat_ofNat]
    omega
  have e2 : (IntOp.addi (IntOp.addi (BitVec.ofNat 32 l.val) (Scalar.muli v3 1024#32)) n).toNat = 1024 * v3.toNat + 128 * c + l.val := by
    simp only [Scalar.muli, IntOp.addi, IntOp.muli, BitVec.toNat_add, BitVec.toNat_mul, BitVec.toNat_ofNat]
    omega
  have e1' := BitVec.toInt_eq_toNat_of_lt (x := IntOp.addi (BitVec.ofNat 32 r.val) (Scalar.addi (Scalar.muli v1 1024#32) kk)) (by omega)
  have e2' := BitVec.toInt_eq_toNat_of_lt (x := IntOp.addi (IntOp.addi (BitVec.ofNat 32 l.val) (Scalar.muli v3 1024#32)) n) (by omega)
  show BitVec.ofBool (BitVec.slt _ _) = _
  rw [BitVec.slt, e1', e2', e1, e2]
  congr 2
  exact propext Int.ofNat_lt

theorem up_apply {v1 v3 kk n : BitVec 32} {i j k c : ℕ} (h : Nums v1 v3 kk n i j k c) (r l : Fin 128) :
    up v1 v3 kk n (ix2 r l) = BitVec.ofBool (decide (1024 * i + 128 * k + r.val < 1024 * j + 128 * c + l.val)) := by
  pointwise [up, ri, ci]
  exact h.slt r l

/-- What one pair of labels says: positive or not, as the rows' labels are read. -/
def Q (lab : ℕ → BitVec 32) (a b : ℕ) : Prop := (if (lab a).slt 0#32 then 4294967294#32 else lab a) = lab b

instance (lab : ℕ → BitVec 32) (a b : ℕ) : Decidable (Q lab a b) := by unfold Q; infer_instance

theorem sel_ofBool {α : Type} (p : Prop) [Decidable p] (x y : α) : Scalar.select (BitVec.ofBool (decide p)) x y = if p then x else y := by
  by_cases h : p <;> simp [h, Scalar.select]

theorem sel_and {α : Type} (p q : Prop) [Decidable p] [Decidable q] (x y : α) :
    Scalar.select (IntOp.andi (BitVec.ofBool (decide p)) (BitVec.ofBool (decide q))) x y = if p ∧ q then x else y := by
  by_cases h : p <;> by_cases h' : q <;> simp [h, h', Scalar.select, IntOp.andi]

theorem cmpi_eq (a b : BitVec 32) : IntOp.cmpi .eq a b = BitVec.ofBool (decide (a = b)) := by
  show BitVec.ofBool (a == b) = _
  congr 1

theorem sel_slt (a : BitVec 32) : Scalar.select (IntOp.cmpi .slt a 0#32) 4294967294#32 a = if a.slt 0#32 then 4294967294#32 else a := by
  show Scalar.select (BitVec.ofBool (a.slt 0#32)) _ _ = _
  cases a.slt 0#32 <;> rfl

/-- What the loop's trips read: the pairs' logits in bits and the rows' labels. -/
structure Env where
  y : ℕ → ℕ → EReal
  lab : ℕ → BitVec 32

def Env.fE (e : Env) (a b : ℕ) : EReal := Ideal.exp2 (e.y a b)
def Env.fP (e : Env) (a b : ℕ) : EReal := if Q e.lab a b then e.y a b else 0
def Env.fN (e : Env) (a b : ℕ) : EReal := if Q e.lab a b then 1 else 0

/-- The loads of one chunk are the environment's. -/
structure Loads (e : Env) (i j k c : ℕ) (g : VF) (lr : IVec S128x128 32) (lc : IVec S1x128 32) : Prop where
  g : ∀ r l : Fin 128, g (ix2 r l) * ((10 * (Real.log 2)⁻¹ : ℝ) : EReal) = e.y (1024 * i + 128 * k + r.val) (1024 * j + 128 * c + l.val)
  lr : ∀ r l : Fin 128, lr (ix2 r l) = e.lab (1024 * i + 128 * k + r.val)
  lc : ∀ l : Fin 128, lc (ix2 0 l) = e.lab (1024 * j + 128 * c + l.val)

section
variable {v1 v3 kk n : BitVec 32} {i j k c : ℕ} {g : VF} {lr : IVec S128x128 32} {lc : IVec S1x128 32} {e : Env}

theorem xv_apply (h : Nums v1 v3 kk n i j k c) (hl : Loads e i j k c g lr lc) (r l : Fin 128) :
    xv v1 v3 kk n g (ix2 r l) = if 1024 * i + 128 * k + r.val < 1024 * j + 128 * c + l.val then
      e.y (1024 * i + 128 * k + r.val) (1024 * j + 128 * c + l.val) else ⊥ := by
  rw [← hl.g]
  pointwise [xv, up_apply h]
  rw [ninf]; rfl

theorem pxv_apply (h : Nums v1 v3 kk n i j k c) (hl : Loads e i j k c g lr lc) (r l : Fin 128) :
    pxv v1 v3 kk n g lr lc (ix2 r l) = if Q e.lab (1024 * i + 128 * k + r.val) (1024 * j + 128 * c + l.val)
        ∧ 1024 * i + 128 * k + r.val < 1024 * j + 128 * c + l.val then
      e.y (1024 * i + 128 * k + r.val) (1024 * j + 128 * c + l.val) else 0 := by
  pointwise [pxv, posv, lrv, xv_apply h hl, up_apply h, hl.lr r l, hl.lc l]
  rw [sel_slt, cmpi_eq, sel_and]
  unfold Q
  by_cases hh : 1024 * i + 128 * k + r.val < 1024 * j + 128 * c + l.val
  · simp only [if_pos hh]
  · simp only [hh, and_false, if_false]

theorem pcv_apply (h : Nums v1 v3 kk n i j k c) (hl : Loads e i j k c g lr lc) (r l : Fin 128) :
    pcv v1 v3 kk n lr lc (ix2 r l) = if Q e.lab (1024 * i + 128 * k + r.val) (1024 * j + 128 * c + l.val)
        ∧ 1024 * i + 128 * k + r.val < 1024 * j + 128 * c + l.val then (1 : EReal) else 0 := by
  pointwise [pcv, posv, lrv, up_apply h, hl.lr r l, hl.lc l]
  rw [sel_slt, cmpi_eq, sel_and]
  rfl
end

open Cert.Proof.Math

/-- The word of chunk `c`'s offset. -/
abbrev off (c : Fin 8) : BitVec 32 := BitVec.ofNat 32 (128 * c.val)

section
variable {v1 v3 kk : BitVec 32} {i j k : ℕ} {g : Fin 8 → VF} {lr : IVec S128x128 32} {lc : Fin 8 → IVec S1x128 32} {e : Env}

/-- A trip extends a row's accumulator by the tile's columns. -/
theorem row_step (h : ∀ c : Fin 8, Nums v1 v3 kk (off c) i j k c.val) (hl : ∀ c : Fin 8, Loads e i j k c.val (g c) lr (lc c))
    (m s p n : VF) (r l : Fin 128)
    (ha : Acc (m (ix2 r l)) (s (ix2 r l)) (p (ix2 r l)) (n (ix2 r l)) (rowSum e.fE (1024 * i + 128 * k + r.val) l.val (1024 * j))
      (rowSum e.fP (1024 * i + 128 * k + r.val) l.val (1024 * j)) (rowSum e.fN (1024 * i + 128 * k + r.val) l.val (1024 * j))) :
    Acc (rowM m (fun c => xv v1 v3 kk (off c) (g c)) (ix2 r l)) (rowS m s (fun c => xv v1 v3 kk (off c) (g c)) (ix2 r l))
      (rowA p (fun c => pxv v1 v3 kk (off c) (g c) lr (lc c)) (ix2 r l)) (rowA n (fun c => pcv v1 v3 kk (off c) lr (lc c)) (ix2 r l))
      (rowSum e.fE (1024 * i + 128 * k + r.val) l.val (1024 * j + 1024))
      (rowSum e.fP (1024 * i + 128 * k + r.val) l.val (1024 * j + 1024)) (rowSum e.fN (1024 * i + 128 * k + r.val) l.val (1024 * j + 1024)) := by
  have hx c := xv_apply (h c) (hl c) r l
  have hM : NewMax (m (ix2 r l)) (fun c => xv v1 v3 kk (off c) (g c) (ix2 r l)) (rowM m (fun c => xv v1 v3 kk (off c) (g c)) (ix2 r l)) := by
    rw [rowM_apply]
    exact NewMax.eight _ fun c => xv v1 v3 kk (off c) (g c) (ix2 r l)
  have hd : 128 ∣ 1024 * j := ⟨8 * j, by omega⟩
  rw [rowS_apply, rowA_apply, rowA_apply, rowSum_step _ _ _ _ l.isLt hd, rowSum_step _ _ _ _ l.isLt hd, rowSum_step _ _ _ _ l.isLt hd]
  exact ha.step (fun c : Fin 8 => e.y (1024 * i + 128 * k + r.val) (1024 * j + 128 * c.val + l.val))
    (fun c => 1024 * i + 128 * k + r.val < 1024 * j + 128 * c.val + l.val)
    (fun c => Q e.lab (1024 * i + 128 * k + r.val) (1024 * j + 128 * c.val + l.val)) _ _ _ hx
    (fun c => pxv_apply (h c) (hl c) r l) (fun c => pcv_apply (h c) (hl c) r l) hM
end

section
variable {v1 v3 kk n : BitVec 32} {i j k c : ℕ} {g : VF} {lr : IVec S128x128 32} {lc : IVec S1x128 32} {e : Env}

/-- A trip extends a column's accumulator by the chunk's rows. -/
theorem col_step (h : Nums v1 v3 kk n i j k c) (hl : Loads e i j k c g lr lc) (m a p q : VS) (s : Fin 8) (l : Fin 128)
    (ha : Acc (m (ix2 s l)) (a (ix2 s l)) (p (ix2 s l)) (q (ix2 s l)) (colSum e.fE (1024 * j + 128 * c + l.val) s.val (1024 * i + 128 * k))
      (colSum e.fP (1024 * j + 128 * c + l.val) s.val (1024 * i + 128 * k)) (colSum e.fN (1024 * j + 128 * c + l.val) s.val (1024 * i + 128 * k))) :
    Acc (colM' m (xv v1 v3 kk n g) (ix2 s l)) (colS m a (xv v1 v3 kk n g) (ix2 s l))
      (colA p (pxv v1 v3 kk n g lr lc) (ix2 s l)) (colA q (pcv v1 v3 kk n lr lc) (ix2 s l))
      (colSum e.fE (1024 * j + 128 * c + l.val) s.val (1024 * i + 128 * k + 128))
      (colSum e.fP (1024 * j + 128 * c + l.val) s.val (1024 * i + 128 * k + 128))
      (colSum e.fN (1024 * j + 128 * c + l.val) s.val (1024 * i + 128 * k + 128)) := by
  have ix (u : Fin 16) : 1024 * i + 128 * k + (u.val * 8 + s.val) = 1024 * i + 128 * k + 8 * u.val + s.val := by omega
  have hx (u : Fin 16) := xv_apply h hl ⟨u.val * 8 + s.val, by omega⟩ l
  have hp (u : Fin 16) := pxv_apply h hl ⟨u.val * 8 + s.val, by omega⟩ l
  have hq (u : Fin 16) := pcv_apply h hl ⟨u.val * 8 + s.val, by omega⟩ l
  simp only [ix] at hx hp hq
  have hM : NewMax (m (ix2 s l)) (fun u : Fin 16 => xv v1 v3 kk n g (ix2 ⟨u.val * 8 + s.val, by omega⟩ l)) (colM m (xv v1 v3 kk n g) (ix2 s l)) := by
    rw [colM_apply]
    exact NewMax.fold _ _
  have hd : 8 ∣ 1024 * i + 128 * k := ⟨128 * i + 16 * k, by omega⟩
  rw [colM'_apply, colS_apply, colA_apply, colA_apply, colSum_step _ _ _ _ s.isLt hd, colSum_step _ _ _ _ s.isLt hd, colSum_step _ _ _ _ s.isLt hd]
  exact ha.step (fun u : Fin 16 => e.y (1024 * i + 128 * k + 8 * u.val + s.val) (1024 * j + 128 * c + l.val))
    (fun u => 1024 * i + 128 * k + 8 * u.val + s.val < 1024 * j + 128 * c + l.val)
    (fun u => Q e.lab (1024 * i + 128 * k + 8 * u.val + s.val) (1024 * j + 128 * c + l.val)) _ _ _ hx hp hq hM
end

end Cert.Proof.KernelIdeal
-- ==== Proof.KI.Step.lean ====
/- What the loop keeps of its accumulators, and that one trip's stores keep it. -/
module

public import proofs.«01_k».proof.Proof.KI.Chunk
public import Idealize.ShloMosaic.Lib.WritesUnit

@[expose] public section

noncomputable section

namespace Cert.Proof.KernelIdeal

open Cert.KernelIdeal Cert.KernelIdeal.Facts₀ Cert.KernelIdeal.Facts
open Idealize.ShloMosaic Idealize.ShloMosaic.TcCoe Cert.Proof.Math

/-- The column offset of chunk `n` of tile `v3`, its number at most 11. -/
theorem off11_eq (v3 : BitVec 32) (h : v3.toNat < 12) (n : Nat) (hn : n < 1024) :
    k1_off11 v3 (BitVec.ofNat 32 n) = ![0, 1024 * v3.toNat + n] := by
  have e : (Scalar.addi (Scalar.muli v3 1024#32) (BitVec.ofNat 32 n)).toNat = 1024 * v3.toNat + n := by
    simp only [Scalar.addi, Scalar.muli, IntOp.addi, IntOp.muli, BitVec.toNat_add, BitVec.toNat_mul, BitVec.toNat_ofNat]
    omega
  show ![0, (Scalar.addi (Scalar.muli v3 1024#32) (BitVec.ofNat 32 n)).toNat] = _
  rw [e]

/-- The column tile's number is at most 11, as instances read it. -/
class Tile (v : BitVec 32) : Prop where
  lt : v.toNat < 12

/-- An accumulator of row `A`, lane `l`, over the columns below `B`. -/
def AccRow (e : Env) (A l B : ℕ) (m s p n : EReal) : Prop := Acc m s p n (rowSum e.fE A l B) (rowSum e.fP A l B) (rowSum e.fN A l B)
/-- An accumulator of column `C`, sublane `s`, over the rows below `B`. -/
def AccCol (e : Env) (C s B : ℕ) (m a p n : EReal) : Prop := Acc m a p n (colSum e.fE C s B) (colSum e.fP C s B) (colSum e.fN C s B)

/-- How far row `r` of the tile has come at column tile `j` after `k` trips. -/
def rowB (j k r : ℕ) : ℕ := 1024 * j + if r < 128 * k then 1024 else 0
/-- How far column `C` has come at the point `(i, j)` after `k` trips. -/
def colB (i j k C : ℕ) : ℕ := 1024 * i + if C < 1024 * j then 1024 else if C < 1024 * j + 1024 then 128 * k else 0

/-- What the loop's buffers hold at the point `(i, j)` after `k` trips. -/
structure LoopOK (e : Env) (i j k : ℕ) (l5 : IVec S1024x128 32) (l6 : IVec S1x1024 32) (g : FVec Ideal S1024x1024 .f32)
    (rm rs rp rc : FVec Ideal S1024x128 .f32) (cm cs cp cc : FVec Ideal S8x12288 .f32) : Prop where
  l5 : ∀ (r : Fin 1024) (l : Fin 128), l5 (ix2 r l) = e.lab (1024 * i + r.val)
  l6 : ∀ q : Fin 1024, l6 (ix2 0 q) = e.lab (1024 * j + q.val)
  g : ∀ r q : Fin 1024, g (ix2 r q) * ((10 * (Real.log 2)⁻¹ : ℝ) : EReal) = e.y (1024 * i + r.val) (1024 * j + q.val)
  row : ∀ (r : Fin 1024) (l : Fin 128), AccRow e (1024 * i + r.val) l.val (rowB j k r.val) (rm (ix2 r l)) (rs (ix2 r l)) (rp (ix2 r l)) (rc (ix2 r l))
  col : ∀ (s : Fin 8) (C : Fin 12288), AccCol e C.val s.val (colB i j k C.val) (cm (ix2 s C)) (cs (ix2 s C)) (cp (ix2 s C)) (cc (ix2 s C))

/-- The word of trip `k`'s first row. -/
def kkw (k : Fin k1_t1_loop.trips) : BitVec 32 := Scalar.muli (Scf.iv 0#32 1#32 k) 128#32

theorem kkw_eq : ∀ k : Fin k1_t1_loop.trips, (kkw k).toNat = 128 * k.val := by decide +kernel
theorem trips_lt (k : Fin k1_t1_loop.trips) : k.val < 8 := lt_of_lt_of_eq k.isLt (by decide +kernel : k1_t1_loop.trips = 8)

theorem nums {v1 v3 : BitVec 32} (h1 : v1.toNat < 12) (h3 : v3.toNat < 12) (k : Fin k1_t1_loop.trips) (c : Fin 8) :
    Nums v1 v3 (kkw k) (off c) v1.toNat v3.toNat k.val c.val :=
  ⟨rfl, rfl, kkw_eq k, by rw [BitVec.toNat_ofNat]; omega, h1, h3, trips_lt k, c.isLt⟩

/-- Where chunk `c` of trip `k` lies in the products. -/
def gOff (k : Fin k1_t1_loop.trips) (c : Fin 8) : Fin 2 → ℕ := ![k1_off2 k 0, 128 * c.val]

theorem off2_eq (k : Fin k1_t1_loop.trips) : k1_off2 k = ![128 * k.val, 0] := Gen.k1_off2_eq k

theorem gOff_eq (k : Fin k1_t1_loop.trips) (c : Fin 8) : gOff k c = ![128 * k.val, 128 * c.val] := by
  unfold gOff; rw [off2_eq]; rfl

theorem gOff_inb (k : Fin k1_t1_loop.trips) (c : Fin 8) : ∀ a, gOff k c a + S128x128.size a ≤ S1024x1024.size a := by
  rw [gOff_eq]
  have := trips_lt k
  exact Fin.forall_fin_two.2 ⟨by show 128 * k.val + 128 ≤ 1024; omega, by show 128 * c.val + 128 ≤ 1024; omega⟩

theorem lcOff_inb (c : Fin 8) : ∀ a, (![0, 128 * c.val] : Fin 2 → ℕ) a + S1x128.size a ≤ S1x1024.size a :=
  Fin.forall_fin_two.2 ⟨by show 0 + 1 ≤ 1; omega, by show 128 * c.val + 128 ≤ 1024; omega⟩

theorem cOff_inb (v3 : BitVec 32) (h3 : v3.toNat < 12) (c : Fin 8) : ∀ a, k1_off11 v3 (off c) a + S8x128.size a ≤ S8x12288.size a := by
  rw [off11_eq v3 h3 _ (by omega)]
  exact Fin.forall_fin_two.2 ⟨by show 0 + 8 ≤ 8; omega, by show 1024 * v3.toNat + 128 * c.val + 128 ≤ 12288; omega⟩

section
variable (c : Dev nD) {arg5 : Memref sig .tc .vmem S1024x128 .i32} {arg6 : Memref sig .tc .vmem S1x1024 .i32} {arg10 : Memref sig .tc .vmem S1024x1024 .f32}
  {arg11 arg12 arg13 arg14 : Memref sig .tc .vmem S1024x128 .f32} {arg15 arg16 arg17 arg18 : Memref sig .tc .vmem S8x12288 .f32}

/-- A unit-stride load at an index, the offsets named by another form of theirs. -/
theorem readAt_unit {sp : Space} {t : Shape} {e : EltTy} (v : View sig .tc sp t e) (f : v.ty.Contents (Elt Ideal)) {o o' size : Fin t.rank → ℕ}
    (inb : ∀ a, o a + size a ≤ t.size a) (x : (Rect.unit o size inb).toLoadRect.shape.Idx) (y : t.Idx) (h : o = o') (hy : ∀ a, (y a).val = o' a + (x a).val) :
    v.readAt (Elt Ideal) (Rect.unit o size inb).toLoadRect f x = v.read (Elt Ideal) f y := by
  subst h
  rw [View.readAt_apply]
  congr 1; funext a; apply Fin.ext
  show o a + 1 * (x a).val = (y a).val
  rw [hy a, one_mul]

/-- The loads of a trip. -/
abbrev rowL (a : Memref sig .tc .vmem S1024x128 .f32) (k : Fin k1_t1_loop.trips) (f : Buf (Elt Ideal) (a.view.loc (c : Thread nD τ))) : VF :=
  a.view.readAt (Elt Ideal) (Rect.unit (s := S1024x128) (k1_off2 k) S128x128.size (Gen.k1_off2_inb k)).toLoadRect f
abbrev labL (a : Memref sig .tc .vmem S1024x128 .i32) (k : Fin k1_t1_loop.trips) (f : Buf (Elt Ideal) (a.view.loc (c : Thread nD τ))) : IVec S128x128 32 :=
  a.view.readAt (Elt Ideal) (Rect.unit (s := S1024x128) (k1_off2 k) S128x128.size (Gen.k1_off2_inb k)).toLoadRect f
abbrev lacL (a : Memref sig .tc .vmem S1x1024 .i32) (f : Buf (Elt Ideal) (a.view.loc (c : Thread nD τ))) (q : Fin 8) : IVec S1x128 32 :=
  a.view.readAt (Elt Ideal) (Rect.unit (s := S1x1024) ![0, 128 * q.val] S1x128.size (lcOff_inb q)).toLoadRect f
abbrev gL (a : Memref sig .tc .vmem S1024x1024 .f32) (k : Fin k1_t1_loop.trips) (f : Buf (Elt Ideal) (a.view.loc (c : Thread nD τ))) (q : Fin 8) : VF :=
  a.view.readAt (Elt Ideal) (Rect.unit (s := S1024x1024) (gOff k q) S128x128.size (gOff_inb k q)).toLoadRect f
abbrev colL (a : Memref sig .tc .vmem S8x12288 .f32) (v3 : BitVec 32) (h3 : v3.toNat < 12) (f : Buf (Elt Ideal) (a.view.loc (c : Thread nD τ))) (q : Fin 8) : VS :=
  a.view.readAt (Elt Ideal) (Rect.unit (s := S8x12288) (k1_off11 v3 (off q)) S8x128.size (cOff_inb v3 h3 q)).toLoadRect f

/-- A trip's store of a row vector. -/
abbrev rowW (k : Fin k1_t1_loop.trips) (w : VF) : List (View.Piece (Elt Ideal) S1024x128 .f32) :=
  [⟨Rect.unit (s := S1024x128) (k1_off2 k) S128x128.size (Gen.k1_off2_inb k), shapeCast S128x128 w shapeCasts_S128x128_S128x128⟩]
/-- A trip's eight stores of column chunks. -/
abbrev colW (v3 : BitVec 32) (h3 : v3.toNat < 12) (P : Fin 8 → VS) : List (View.Piece (Elt Ideal) S8x12288 .f32) :=
  View.tilePieces (s := S8x12288) S8x128.size (fun q : Fin 8 => k1_off11 v3 (off q)) (cOff_inb v3 h3) P 8 le_rfl

theorem rowL_apply (a : Memref sig .tc .vmem S1024x128 .f32) (k : Fin k1_t1_loop.trips) (f : Buf (Elt Ideal) (a.view.loc (c : Thread nD τ))) (r l : Fin 128) :
    rowL c a k f (ix2 r l) = a.view.read (Elt Ideal) f (ix2 (⟨128 * k.val + r.val, by have := trips_lt k; omega⟩ : Fin 1024) l) := by
  refine readAt_unit a.view f _ (ix2 r l) _ (off2_eq k) ?_
  exact Fin.forall_fin_two.2 ⟨rfl, (Nat.zero_add _).symm⟩

theorem labL_apply (a : Memref sig .tc .vmem S1024x128 .i32) (k : Fin k1_t1_loop.trips) (f : Buf (Elt Ideal) (a.view.loc (c : Thread nD τ))) (r l : Fin 128) :
    labL c a k f (ix2 r l) = a.view.read (Elt Ideal) f (ix2 (⟨128 * k.val + r.val, by have := trips_lt k; omega⟩ : Fin 1024) l) := by
  refine readAt_unit a.view f _ (ix2 r l) _ (off2_eq k) ?_
  exact Fin.forall_fin_two.2 ⟨rfl, (Nat.zero_add _).symm⟩

theorem lacL_apply (a : Memref sig .tc .vmem S1x1024 .i32) (f : Buf (Elt Ideal) (a.view.loc (c : Thread nD τ))) (q : Fin 8) (l : Fin 128) :
    lacL c a f q (ix2 0 l) = a.view.read (Elt Ideal) f (ix2 (0 : Fin 1) (⟨128 * q.val + l.val, by omega⟩ : Fin 1024)) := by
  refine readAt_unit a.view f _ (ix2 0 l) _ rfl ?_
  exact Fin.forall_fin_two.2 ⟨rfl, rfl⟩

theorem gL_apply (a : Memref sig .tc .vmem S1024x1024 .f32) (k : Fin k1_t1_loop.trips) (f : Buf (Elt Ideal) (a.view.loc (c : Thread nD τ))) (q : Fin 8) (r l : Fin 128) :
    gL c a k f q (ix2 r l) = a.view.read (Elt Ideal) f (ix2 (⟨128 * k.val + r.val, by have := trips_lt k; omega⟩ : Fin 1024) (⟨128 * q.val + l.val, by omega⟩ : Fin 1024)) := by
  refine readAt_unit a.view f _ (ix2 r l) _ (gOff_eq k q) ?_
  exact Fin.forall_fin_two.2 ⟨rfl, rfl⟩

theorem colL_apply (a : Memref sig .tc .vmem S8x12288 .f32) (v3 : BitVec 32) (h3 : v3.toNat < 12) (f : Buf (Elt Ideal) (a.view.loc (c : Thread nD τ))) (q : Fin 8) (s : Fin 8) (l : Fin 128) :
    colL c a v3 h3 f q (ix2 s l) = a.view.read (Elt Ideal) f (ix2 s (⟨1024 * v3.toNat + 128 * q.val + l.val, by omega⟩ : Fin 12288)) := by
  refine readAt_unit a.view f _ (ix2 s l) _ (off11_eq v3 h3 (128 * q.val) (by omega)) ?_
  exact Fin.forall_fin_two.2 ⟨(Nat.zero_add _).symm, rfl⟩

theorem cast128 (w : VF) : shapeCast S128x128 w shapeCasts_S128x128_S128x128 = w := by
  funext j; pointwise

theorem rowW_hit (a : Memref sig .tc .vmem S1024x128 .f32) (k : Fin k1_t1_loop.trips) (f : Buf (Elt Ideal) (a.view.loc (c : Thread nD τ))) (w : VF) (r l : Fin 128)
    (y : Fin 1024) (hy : y.val = 128 * k.val + r.val) :
    a.view.read (Elt Ideal) (a.view.writes (Elt Ideal) f (rowW k w)) (ix2 y l) = w (ix2 r l) := by
  unfold rowW
  rw [cast128]
  exact View.read_writes_cons_unit_of_mem (Val := Elt Ideal) (s := S1024x128) (e := .f32) a.view f (Gen.k1_off2_inb k) w [] (ix2 y l) (ix2 r l) (off2_eq k)
    (Fin.forall_fin_two.2 ⟨hy, (Nat.zero_add _).symm⟩)

theorem rowW_miss (a : Memref sig .tc .vmem S1024x128 .f32) (k : Fin k1_t1_loop.trips) (f : Buf (Elt Ideal) (a.view.loc (c : Thread nD τ))) (w : VF) (l : Fin 128)
    (y : Fin 1024) (hy : y.val < 128 * k.val ∨ 128 * k.val + 128 ≤ y.val) :
    a.view.read (Elt Ideal) (a.view.writes (Elt Ideal) f (rowW k w)) (ix2 y l) = a.view.read (Elt Ideal) f (ix2 y l) := by
  unfold rowW
  rw [cast128]
  exact View.read_writes_cons_unit_of_not_mem (Val := Elt Ideal) (s := S1024x128) (e := .f32) a.view f (Gen.k1_off2_inb k) w [] (ix2 y l) (off2_eq k) (0 : Fin 2) hy

theorem colW_hit (a : Memref sig .tc .vmem S8x12288 .f32) (v3 : BitVec 32) (h3 : v3.toNat < 12) (f : Buf (Elt Ideal) (a.view.loc (c : Thread nD τ))) (P : Fin 8 → VS)
    (q s : Fin 8) (l : Fin 128) (y : Fin 12288) (hy : y.val = 1024 * v3.toNat + 128 * q.val + l.val) :
    a.view.read (Elt Ideal) (a.view.writes (Elt Ideal) f (colW v3 h3 P)) (ix2 s y) = P q (ix2 s l) := by
  unfold colW
  refine View.read_tilePieces (Val := Elt Ideal) (s := S8x12288) (e := .f32) a.view f S8x128.size _ _ P 8 le_rfl (ix2 s y) q q.isLt (ix2 s l) ?_ (1 : Fin 2) ?_
  · intro x
    show _ = k1_off11 v3 (off q) x + _
    rw [off11_eq v3 h3 _ (by omega)]
    revert x
    exact Fin.forall_fin_two.2 ⟨(Nat.zero_add _).symm, hy⟩
  · intro q' hq'
    show y.val < k1_off11 v3 (off q') 1 ∨ k1_off11 v3 (off q') 1 + 128 ≤ y.val
    rw [off11_eq v3 h3 _ (by omega)]
    show y.val < 1024 * v3.toNat + 128 * q'.val ∨ 1024 * v3.toNat + 128 * q'.val + 128 ≤ y.val
    have : q'.val ≠ q.val := fun h => hq' (Fin.ext h)
    omega

theorem colW_miss (a : Memref sig .tc .vmem S8x12288 .f32) (v3 : BitVec 32) (h3 : v3.toNat < 12) (f : Buf (Elt Ideal) (a.view.loc (c : Thread nD τ))) (P : Fin 8 → VS)
    (s : Fin 8) (y : Fin 12288) (hy : y.val < 1024 * v3.toNat ∨ 1024 * v3.toNat + 1024 ≤ y.val) :
    a.view.read (Elt Ideal) (a.view.writes (Elt Ideal) f (colW v3 h3 P)) (ix2 s y) = a.view.read (Elt Ideal) f (ix2 s y) := by
  unfold colW
  refine View.read_tilePieces_miss (Val := Elt Ideal) (s := S8x12288) (e := .f32) a.view f S8x128.size _ _ P 8 le_rfl (ix2 s y) (1 : Fin 2) ?_
  intro q' _
  show y.val < k1_off11 v3 (off q') 1 ∨ k1_off11 v3 (off q') 1 + 128 ≤ y.val
  rw [off11_eq v3 h3 _ (by omega)]
  show y.val < 1024 * v3.toNat + 128 * q'.val ∨ 1024 * v3.toNat + 128 * q'.val + 128 ≤ y.val
  omega

/-- One trip's stores keep what the loop keeps. -/
theorem LoopOK.step {e : Env} {v1 v3 : BitVec 32} (h1 : v1.toNat < 12) (h3 : v3.toNat < 12) (k : Fin k1_t1_loop.trips)
    (f5 : Buf (Elt Ideal) (arg5.view.loc (c : Thread nD τ))) (f6 : Buf (Elt Ideal) (arg6.view.loc (c : Thread nD τ))) (f10 : Buf (Elt Ideal) (arg10.view.loc (c : Thread nD τ)))
    (f11 : Buf (Elt Ideal) (arg11.view.loc (c : Thread nD τ))) (f12 : Buf (Elt Ideal) (arg12.view.loc (c : Thread nD τ)))
    (f13 : Buf (Elt Ideal) (arg13.view.loc (c : Thread nD τ))) (f14 : Buf (Elt Ideal) (arg14.view.loc (c : Thread nD τ)))
    (f15 : Buf (Elt Ideal) (arg15.view.loc (c : Thread nD τ))) (f16 : Buf (Elt Ideal) (arg16.view.loc (c : Thread nD τ)))
    (f17 : Buf (Elt Ideal) (arg17.view.loc (c : Thread nD τ))) (f18 : Buf (Elt Ideal) (arg18.view.loc (c : Thread nD τ)))
    (h : LoopOK e v1.toNat v3.toNat k.val (arg5.view.read (Elt Ideal) f5) (arg6.view.read (Elt Ideal) f6) (arg10.view.read (Elt Ideal) f10)
      (arg11.view.read (Elt Ideal) f11) (arg12.view.read (Elt Ideal) f12) (arg13.view.read (Elt Ideal) f13) (arg14.view.read (Elt Ideal) f14)
      (arg15.view.read (Elt Ideal) f15) (arg16.view.read (Elt Ideal) f16) (arg17.view.read (Elt Ideal) f17) (arg18.view.read (Elt Ideal) f18)) :
    LoopOK e v1.toNat v3.toNat (k.val + 1) (arg5.view.read (Elt Ideal) f5) (arg6.view.read (Elt Ideal) f6) (arg10.view.read (Elt Ideal) f10)
      (arg11.view.read (Elt Ideal) (arg11.view.writes (Elt Ideal) f11 (rowW k (rowM (rowL c arg11 k f11) fun q => xv v1 v3 (kkw k) (off q) (gL c arg10 k f10 q)))))
      (arg12.view.read (Elt Ideal) (arg12.view.writes (Elt Ideal) f12 (rowW k (rowS (rowL c arg11 k f11) (rowL c arg12 k f12) fun q => xv v1 v3 (kkw k) (off q) (gL c arg10 k f10 q)))))
      (arg13.view.read (Elt Ideal) (arg13.view.writes (Elt Ideal) f13 (rowW k (rowA (rowL c arg13 k f13) fun q => pxv v1 v3 (kkw k) (off q) (gL c arg10 k f10 q) (labL c arg5 k f5) (lacL c arg6 f6 q)))))
      (arg14.view.read (Elt Ideal) (arg14.view.writes (Elt Ideal) f14 (rowW k (rowA (rowL c arg14 k f14) fun q => pcv v1 v3 (kkw k) (off q) (labL c arg5 k f5) (lacL c arg6 f6 q)))))
      (arg15.view.read (Elt Ideal) (arg15.view.writes (Elt Ideal) f15 (colW v3 h3 fun q => colM' (colL c arg15 v3 h3 f15 q) (xv v1 v3 (kkw k) (off q) (gL c arg10 k f10 q)))))
      (arg16.view.read (Elt Ideal) (arg16.view.writes (Elt Ideal) f16 (colW v3 h3 fun q => colS (colL c arg15 v3 h3 f15 q) (colL c arg16 v3 h3 f16 q) (xv v1 v3 (kkw k) (off q) (gL c arg10 k f10 q)))))
      (arg17.view.read (Elt Ideal) (arg17.view.writes (Elt Ideal) f17 (colW v3 h3 fun q => colA (colL c arg17 v3 h3 f17 q) (pxv v1 v3 (kkw k) (off q) (gL c arg10 k f10 q) (labL c arg5 k f5) (lacL c arg6 f6 q)))))
      (arg18.view.read (Elt Ideal) (arg18.view.writes (Elt Ideal) f18 (colW v3 h3 fun q => colA (colL c arg18 v3 h3 f18 q) (pcv v1 v3 (kkw k) (off q) (labL c arg5 k f5) (lacL c arg6 f6 q))))) := by
  have hk := trips_lt k
  have hn q := nums h1 h3 k q
  have hl (q : Fin 8) : Loads e v1.toNat v3.toNat k.val q.val (gL c arg10 k f10 q) (labL c arg5 k f5) (lacL c arg6 f6 q) :=
    ⟨fun r l => by rw [gL_apply, h.g]; simp only [add_assoc], fun r l => by rw [labL_apply, h.l5]; simp only [add_assoc],
      fun l => by rw [lacL_apply, h.l6]; simp only [add_assoc]⟩
  refine ⟨h.l5, h.l6, h.g, fun y l => ?_, fun s y => ?_⟩
  · by_cases hy : 128 * k.val ≤ y.val ∧ y.val < 128 * k.val + 128
    · obtain ⟨r, hr⟩ : ∃ r : Fin 128, y.val = 128 * k.val + r.val := ⟨⟨y.val - 128 * k.val, by omega⟩, by show y.val = 128 * k.val + (y.val - 128 * k.val); omega⟩
      rw [rowW_hit c arg11 k f11 _ r l y hr, rowW_hit c arg12 k f12 _ r l y hr, rowW_hit c arg13 k f13 _ r l y hr, rowW_hit c arg14 k f14 _ r l y hr]
      have ha := h.row y l
      have ey : y = (⟨128 * k.val + r.val, by omega⟩ : Fin 1024) := Fin.ext hr
      have b1 : rowB v3.toNat k.val y.val = 1024 * v3.toNat := by unfold rowB; rw [if_neg (by omega), add_zero]
      have b2 : rowB v3.toNat (k.val + 1) y.val = 1024 * v3.toNat + 1024 := by unfold rowB; rw [if_pos (by omega)]
      rw [b2]
      rw [b1] at ha
      have eA : 1024 * v1.toNat + y.val = 1024 * v1.toNat + 128 * k.val + r.val := by omega
      rw [eA] at ha ⊢
      refine row_step hn hl _ _ _ _ r l ?_
      rw [rowL_apply, rowL_apply, rowL_apply, rowL_apply, ← ey]
      exact ha
    · have hy' : y.val < 128 * k.val ∨ 128 * k.val + 128 ≤ y.val := by omega
      rw [rowW_miss c arg11 k f11 _ l y hy', rowW_miss c arg12 k f12 _ l y hy', rowW_miss c arg13 k f13 _ l y hy', rowW_miss c arg14 k f14 _ l y hy']
      have b : rowB v3.toNat (k.val + 1) y.val = rowB v3.toNat k.val y.val := by
        unfold rowB; congr 1
        by_cases hlt : y.val < 128 * k.val
        · rw [if_pos hlt, if_pos (by omega)]
        · rw [if_neg hlt, if_neg (by omega)]
      rw [b]; exact h.row y l
  · by_cases hy : 1024 * v3.toNat ≤ y.val ∧ y.val < 1024 * v3.toNat + 1024
    · obtain ⟨q, l, hr⟩ : ∃ (q : Fin 8) (l : Fin 128), y.val = 1024 * v3.toNat + 128 * q.val + l.val :=
        ⟨⟨(y.val - 1024 * v3.toNat) / 128, by omega⟩, ⟨(y.val - 1024 * v3.toNat) % 128, by omega⟩, by
          show y.val = 1024 * v3.toNat + 128 * ((y.val - 1024 * v3.toNat) / 128) + (y.val - 1024 * v3.toNat) % 128; omega⟩
      rw [colW_hit c arg15 v3 h3 f15 _ q s l y hr, colW_hit c arg16 v3 h3 f16 _ q s l y hr, colW_hit c arg17 v3 h3 f17 _ q s l y hr, colW_hit c arg18 v3 h3 f18 _ q s l y hr]
      have ha := h.col s y
      have ey : y = (⟨1024 * v3.toNat + 128 * q.val + l.val, by omega⟩ : Fin 12288) := Fin.ext hr
      have b1 : colB v1.toNat v3.toNat k.val y.val = 1024 * v1.toNat + 128 * k.val := by unfold colB; rw [if_neg (by omega), if_pos (by omega)]
      have b2 : colB v1.toNat v3.toNat (k.val + 1) y.val = 1024 * v1.toNat + 128 * k.val + 128 := by unfold colB; rw [if_neg (by omega), if_pos (by omega)]; omega
      rw [b2]
      rw [b1] at ha
      unfold AccCol at ha ⊢
      rw [hr] at ha ⊢
      refine col_step (hn q) (hl q) _ _ _ _ s l ?_
      rw [colL_apply, colL_apply, colL_apply, colL_apply, ← ey]
      exact ha
    · have hy' : y.val < 1024 * v3.toNat ∨ 1024 * v3.toNat + 1024 ≤ y.val := by omega
      rw [colW_miss c arg15 v3 h3 f15 _ s y hy', colW_miss c arg16 v3 h3 f16 _ s y hy', colW_miss c arg17 v3 h3 f17 _ s y hy', colW_miss c arg18 v3 h3 f18 _ s y hy']
      have b : colB v1.toNat v3.toNat (k.val + 1) y.val = colB v1.toNat v3.toNat k.val y.val := by
        unfold colB
        by_cases hlt : y.val < 1024 * v3.toNat
        · rw [if_pos hlt, if_pos hlt]
        · rw [if_neg hlt, if_neg hlt, if_neg (by omega), if_neg (by omega)]
      rw [b]; exact h.col s y
end

end Cert.Proof.KernelIdeal
-- ==== Proof.KI.Trip.lean ====
/- One trip of the counted loop keeps what the accumulators stand for. -/
module

public import proofs.«01_k».proof.Proof.Gen.KernelIdeal
public import proofs.«01_k».proof.Proof.Gen.KernelIdeal.Skeleton
public import proofs.«01_k».proof.Proof.Gen.KernelIdeal.Loops
public import proofs.«01_k».proof.Proof.KI.Step
public import proofs.«01_k».proof.Proof.Gen.KernelIdeal.Launch

@[expose] public section

noncomputable section

namespace Cert.Proof.KernelIdeal

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ
abbrev 𝒱₀ : Variants := Variants.none

/-- A buffer held whole, at contents nothing names. -/
abbrev Held (c : Dev nD) {sp : Space} {s : Shape} {e : EltTy} (a : Memref sig .tc sp s e) : sProp 𝕄 :=
  iprop(∃ f : Buf (Elt Ideal) (a.view.loc (c : Thread nD τ)), a.view.loc (c : Thread nD τ) ↦[a.view.set]{fullShare} f)

instance off11_0 (v3 : BitVec 32) [h : Tile v3] : ClosedOff (k1_off11 v3 0#32) := ⟨![0, 1024 * v3.toNat], off11_eq v3 h.lt 0 (by omega)⟩
instance off11_1 (v3 : BitVec 32) [h : Tile v3] : ClosedOff (k1_off11 v3 128#32) := ⟨![0, 1024 * v3.toNat + 128], off11_eq v3 h.lt 128 (by omega)⟩
instance off11_2 (v3 : BitVec 32) [h : Tile v3] : ClosedOff (k1_off11 v3 256#32) := ⟨![0, 1024 * v3.toNat + 256], off11_eq v3 h.lt 256 (by omega)⟩
instance off11_3 (v3 : BitVec 32) [h : Tile v3] : ClosedOff (k1_off11 v3 384#32) := ⟨![0, 1024 * v3.toNat + 384], off11_eq v3 h.lt 384 (by omega)⟩
instance off11_4 (v3 : BitVec 32) [h : Tile v3] : ClosedOff (k1_off11 v3 512#32) := ⟨![0, 1024 * v3.toNat + 512], off11_eq v3 h.lt 512 (by omega)⟩
instance off11_5 (v3 : BitVec 32) [h : Tile v3] : ClosedOff (k1_off11 v3 640#32) := ⟨![0, 1024 * v3.toNat + 640], off11_eq v3 h.lt 640 (by omega)⟩
instance off11_6 (v3 : BitVec 32) [h : Tile v3] : ClosedOff (k1_off11 v3 768#32) := ⟨![0, 1024 * v3.toNat + 768], off11_eq v3 h.lt 768 (by omega)⟩
instance off11_7 (v3 : BitVec 32) [h : Tile v3] : ClosedOff (k1_off11 v3 896#32) := ⟨![0, 1024 * v3.toNat + 896], off11_eq v3 h.lt 896 (by omega)⟩

section Trip
variable (c : Dev nD) (i : grid1.Coords) (arg1 : Memref sig .tc .smem S78 .i32) (harg1 : arg1.IsWhole) (arg2 : Memref sig .tc .smem S78 .i32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1024x128 .i32) (harg5 : arg5.IsWhole) (arg6 : Memref sig .tc .vmem S1x1024 .i32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .i32) (harg9 : arg9.IsWhole) (arg10 : Memref sig .tc .vmem S1024x1024 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S8x12288 .f32) (harg15 : arg15.IsWhole) (arg16 : Memref sig .tc .vmem S8x12288 .f32) (harg16 : arg16.IsWhole) (arg17 : Memref sig .tc .vmem S8x12288 .f32) (harg17 : arg17.IsWhole) (arg18 : Memref sig .tc .vmem S8x12288 .f32) (harg18 : arg18.IsWhole) (v1 : Elt Ideal .i32) (v3 : Elt Ideal .i32) (k1_hw1 : k1_chk1 v1 v3) (v17 : BitVec 32)

/-- What the loop's trips hold after `k` of them: the eight accumulators, the products and the labels, as `LoopOK` says. -/
abbrev LoopV (e : Env) (i j k : ℕ) : sProp 𝕄 :=
  iprop(∃ f5 : Buf (Elt Ideal) (arg5.view.loc (c : Thread nD τ)), ∃ f6 : Buf (Elt Ideal) (arg6.view.loc (c : Thread nD τ)), ∃ f10 : Buf (Elt Ideal) (arg10.view.loc (c : Thread nD τ)), ∃ f11 : Buf (Elt Ideal) (arg11.view.loc (c : Thread nD τ)), ∃ f12 : Buf (Elt Ideal) (arg12.view.loc (c : Thread nD τ)), ∃ f13 : Buf (Elt Ideal) (arg13.view.loc (c : Thread nD τ)), ∃ f14 : Buf (Elt Ideal) (arg14.view.loc (c : Thread nD τ)), ∃ f15 : Buf (Elt Ideal) (arg15.view.loc (c : Thread nD τ)), ∃ f16 : Buf (Elt Ideal) (arg16.view.loc (c : Thread nD τ)), ∃ f17 : Buf (Elt Ideal) (arg17.view.loc (c : Thread nD τ)), ∃ f18 : Buf (Elt Ideal) (arg18.view.loc (c : Thread nD τ)), ⌜LoopOK e i j k (arg5.view.read (Elt Ideal) f5) (arg6.view.read (Elt Ideal) f6) (arg10.view.read (Elt Ideal) f10) (arg11.view.read (Elt Ideal) f11) (arg12.view.read (Elt Ideal) f12) (arg13.view.read (Elt Ideal) f13) (arg14.view.read (Elt Ideal) f14) (arg15.view.read (Elt Ideal) f15) (arg16.view.read (Elt Ideal) f16) (arg17.view.read (Elt Ideal) f17) (arg18.view.read (Elt Ideal) f18)⌝
    ∗ (arg5.view.loc (c : Thread nD τ) ↦[arg5.view.set]{fullShare} f5) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18))

theorem trip (e : Env) [h1 : Tile v1] [h3 : Tile v3] (k : Fin k1_t1_loop.trips) :
    (LoopV c arg5 arg6 arg10 arg11 arg12 arg13 arg14 arg15 arg16 arg17 arg18 e v1.toNat v3.toNat k.val : sProp 𝕄)
      ⊢ wp frame (wpE (defs₀ (F := Ideal)) 𝒱₀ (c : Thread nD τ) none) Set.univ
        (Gen.k1_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 k1_hw1 v17 k ())
        (fun _ => LoopV c arg5 arg6 arg10 arg11 arg12 arg13 arg14 arg15 arg16 arg17 arg18 e v1.toNat v3.toNat (k.val + 1)) := by
  unfold Gen.k1_t1_body
  iintro ⟨%f5, %f6, %f10, %f11, %f12, %f13, %f14, %f15, %f16, %f17, %f18, %hok, H5, H6, H10, H11, H12, H13, H14, H15, H16, H17, H18⟩
  sl_exec_parts
  sl_step
  iexists _
  iexists _
  iexists _
  iexists _
  iexists _
  iexists _
  iexists _
  iexists _
  iexists _
  iexists _
  iexists _
  isplitr; swap
  · isplitl [H5]; · iexact H5
    isplitl [H6]; · iexact H6
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  ipureintro
  exact LoopOK.step c h1.lt h3.lt k f5 f6 f10 f11 f12 f13 f14 f15 f16 f17 f18 hok

set_option warn.classDefReducibility false in
/-- The loop's invariant. -/
@[sl_loop] def loopInv_k1_t1 (e : Env) :
    Gen.LoopInvTy_k1_t1 (F := Ideal) Unit ℕ (UR sig nD τ) ℕ 𝒱₀ c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v1 v3 k1_hw1 v17 where
  inv := fun k _ => iprop(⌜Tile v1 ∧ Tile v3⌝ ∗ LoopV c arg5 arg6 arg10 arg11 arg12 arg13 arg14 arg15 arg16 arg17 arg18 e v1.toNat v3.toNat k)
  step := fun k acc => by
    iintro ⟨%hT, H⟩
    iapply (wp_wand_r Idealize.ShloMosaic.frame (wpE (defs₀ (F := Ideal)) 𝒱₀ (c : Thread nD τ) none) Set.univ)
    isplitl [H]
    · iapply (trip (c := c) (i := i) (e := e) (h1 := hT.1) (h3 := hT.2)); iexact H
    · iintro %_ H'
      isplitr; · ipureintro; exact hT
      iexact H'
end Trip

end Cert.Proof.KernelIdeal
-- ==== Proof.KI.Entry.lean ====
/- What the loop finds: the products stored whole and, where a tile begins, accumulators reset. -/
module

public import proofs.«01_k».proof.Proof.KI.Trip

@[expose] public section

set_option maxRecDepth 16384

noncomputable section

namespace Cert.Proof.KernelIdeal

open Cert.KernelIdeal Cert.KernelIdeal.Facts₀ Cert.KernelIdeal.Facts
open Idealize.ShloMosaic Idealize.ShloMosaic.TcCoe Cert.Proof.Math

/-- A buffer read after a store of the whole of it. -/
theorem read_whole {sp : Space} {n m : ℕ} {e : EltTy} (v : View sig .tc sp (⟨2, ![n, m]⟩ : Shape) e) (f : v.ty.Contents (Elt Ideal))
    (inb : ∀ a : Fin 2, (![0, 0] : Fin 2 → ℕ) a + (![n, m] : Fin 2 → ℕ) a ≤ (![n, m] : Fin 2 → ℕ) a)
    (w : (⟨2, ![n, m]⟩ : Shape).Idx → Elt Ideal e) (r : Fin n) (l : Fin m) :
    v.read (Elt Ideal) (v.writes (Elt Ideal) f [⟨Rect.unit (s := ⟨2, ![n, m]⟩) ![0, 0] ![n, m] inb, w⟩]) (ix2 r l) = w (ix2 r l) := by
  refine View.read_writes_cons_unit_of_mem (Val := Elt Ideal) (s := ⟨2, ![n, m]⟩) (e := e) v f inb w [] (ix2 r l) (ix2 r l) rfl ?_
  exact Fin.forall_fin_two.2 ⟨(Nat.zero_add _).symm, (Nat.zero_add _).symm⟩

theorem lowest : ∃ r : ℝ, (Ideal.ofBits .f32 0xFF61B1E6#32 : EReal) = (r : EReal) := by
  simp [Ideal.ofBits, Ideal.ieee]
  exact ⟨-(14791142 * 2 ^ 104), by norm_cast⟩

theorem zero_bits : (Ideal.ofBits .f32 0x00000000#32 : EReal) = 0 := by
  simp [Ideal.ofBits, Ideal.ieee]

theorem pay5_apply (r : Fin 1024) (l : Fin 128) : (Gen.k1_pay5 (F := Ideal) (ix2 r l) : EReal) = Ideal.ofBits .f32 0xFF61B1E6#32 := by
  pointwise [Gen.k1_pay5]
theorem pay6_apply (r : Fin 1024) (l : Fin 128) : (Gen.k1_pay6 (F := Ideal) (ix2 r l) : EReal) = 0 := by
  pointwise [Gen.k1_pay6]
theorem pay7_apply (r : Fin 1024) (l : Fin 128) : (Gen.k1_pay7 (F := Ideal) (ix2 r l) : EReal) = 0 := by
  pointwise [Gen.k1_pay7]
theorem pay8_apply (r : Fin 1024) (l : Fin 128) : (Gen.k1_pay8 (F := Ideal) (ix2 r l) : EReal) = 0 := by
  pointwise [Gen.k1_pay8]
theorem pay1_apply (s : Fin 8) (C : Fin 12288) : (Gen.k1_pay1 (F := Ideal) (ix2 s C) : EReal) = Ideal.ofBits .f32 0xFF61B1E6#32 := by
  pointwise [Gen.k1_pay1]
theorem pay2_apply (s : Fin 8) (C : Fin 12288) : (Gen.k1_pay2 (F := Ideal) (ix2 s C) : EReal) = 0 := by
  pointwise [Gen.k1_pay2]
theorem pay3_apply (s : Fin 8) (C : Fin 12288) : (Gen.k1_pay3 (F := Ideal) (ix2 s C) : EReal) = 0 := by
  pointwise [Gen.k1_pay3]
theorem pay4_apply (s : Fin 8) (C : Fin 12288) : (Gen.k1_pay4 (F := Ideal) (ix2 s C) : EReal) = 0 := by
  pointwise [Gen.k1_pay4]

theorem pay9_apply (x y : FVec Ideal S1024x4096 .bf16) (r q : Fin 1024) :
    (Gen.k1_pay9 (F := Ideal) x y (ix2 r q) : EReal) = ∑ k : Fin 4096, (x (ix2 r k) : EReal) * y (ix2 q k) := by
  pointwise [Gen.k1_pay9]

section
variable {arg11 arg12 arg13 arg14 : Memref sig .tc .vmem S1024x128 .f32} {arg15 arg16 arg17 arg18 : Memref sig .tc .vmem S8x12288 .f32}

/-- The rows' accumulators of a tile's first column tile, read. -/
def RowOK (e : Env) (i j k : ℕ) (rm rs rp rc : FVec Ideal S1024x128 .f32) : Prop :=
  ∀ (r : Fin 1024) (l : Fin 128), AccRow e (1024 * i + r.val) l.val (rowB j k r.val) (rm (ix2 r l)) (rs (ix2 r l)) (rp (ix2 r l)) (rc (ix2 r l))
/-- The columns' accumulators, read. -/
def ColOK (e : Env) (i j k : ℕ) (cm cs cp cc : FVec Ideal S8x12288 .f32) : Prop :=
  ∀ (s : Fin 8) (C : Fin 12288), AccCol e C.val s.val (colB i j k C.val) (cm (ix2 s C)) (cs (ix2 s C)) (cp (ix2 s C)) (cc (ix2 s C))

/-- A buffer stored whole, nothing known of it before. -/
abbrev whR (a : Memref sig .tc .vmem S1024x128 .f32) (w : FVec Ideal S1024x128 .f32) : FVec Ideal S1024x128 .f32 :=
  a.view.read (Elt Ideal) (a.view.writes (Elt Ideal) a.view.junk [⟨Rect.unit (s := S1024x128) ![0, 0] S1024x128.size Gen.inb_S1024x128_S1024x128_0_0, w⟩])
abbrev whC (a : Memref sig .tc .vmem S8x12288 .f32) (w : FVec Ideal S8x12288 .f32) : FVec Ideal S8x12288 .f32 :=
  a.view.read (Elt Ideal) (a.view.writes (Elt Ideal) a.view.junk [⟨Rect.unit (s := S8x12288) ![0, 0] S8x12288.size Gen.inb_S8x12288_S8x12288_0_0, w⟩])
abbrev whG (a : Memref sig .tc .vmem S1024x1024 .f32) (w : FVec Ideal S1024x1024 .f32) : FVec Ideal S1024x1024 .f32 :=
  a.view.read (Elt Ideal) (a.view.writes (Elt Ideal) a.view.junk [⟨Rect.unit (s := S1024x1024) ![0, 0] S1024x1024.size Gen.inb_S1024x1024_S1024x1024_0_0, w⟩])
/-- A whole load of an operand tile. -/
abbrev xL (c : Dev nD) (a : Memref sig .tc .vmem S1024x4096 .bf16) (f : Buf (Elt Ideal) (a.view.loc (c : Thread nD τ))) : FVec Ideal S1024x4096 .bf16 :=
  a.view.readAt (Elt Ideal) (Rect.unit (s := S1024x4096) ![0, 0] S1024x4096.size Gen.inb_S1024x4096_S1024x4096_0_0).toLoadRect f

theorem whR_apply (a : Memref sig .tc .vmem S1024x128 .f32) (w : FVec Ideal S1024x128 .f32) (r : Fin 1024) (l : Fin 128) : whR a w (ix2 r l) = w (ix2 r l) :=
  read_whole a.view _ Gen.inb_S1024x128_S1024x128_0_0 w r l
theorem whC_apply (a : Memref sig .tc .vmem S8x12288 .f32) (w : FVec Ideal S8x12288 .f32) (r : Fin 8) (l : Fin 12288) : whC a w (ix2 r l) = w (ix2 r l) :=
  read_whole a.view _ Gen.inb_S8x12288_S8x12288_0_0 w r l
theorem whG_apply (a : Memref sig .tc .vmem S1024x1024 .f32) (w : FVec Ideal S1024x1024 .f32) (r l : Fin 1024) : whG a w (ix2 r l) = w (ix2 r l) :=
  read_whole a.view _ Gen.inb_S1024x1024_S1024x1024_0_0 w r l
theorem xL_apply (c : Dev nD) (a : Memref sig .tc .vmem S1024x4096 .bf16) (f : Buf (Elt Ideal) (a.view.loc (c : Thread nD τ))) (r : Fin 1024) (k : Fin 4096) :
    xL c a f (ix2 r k) = a.view.read (Elt Ideal) f (ix2 r k) :=
  readAt_unit a.view f _ (ix2 r k) _ rfl (Fin.forall_fin_two.2 ⟨(Nat.zero_add _).symm, (Nat.zero_add _).symm⟩)

theorem row_reset (e : Env) (i : ℕ) : RowOK e i i 0 (whR arg11 Gen.k1_pay5) (whR arg12 Gen.k1_pay6) (whR arg13 Gen.k1_pay7) (whR arg14 Gen.k1_pay8) := by
  intro r l
  rw [whR_apply, whR_apply, whR_apply, whR_apply, pay5_apply, pay6_apply, pay7_apply, pay8_apply]
  unfold AccRow
  have h : rowB i 0 r.val ≤ 1024 * i + r.val + 1 := by unfold rowB; rw [if_neg (by omega)]; omega
  rw [rowSum_eq_zero _ _ _ _ h, rowSum_eq_zero _ _ _ _ h, rowSum_eq_zero _ _ _ _ h]
  exact Acc.zero lowest

theorem col_reset (e : Env) : ColOK e 0 0 0 (whC arg15 Gen.k1_pay1) (whC arg16 Gen.k1_pay2) (whC arg17 Gen.k1_pay3) (whC arg18 Gen.k1_pay4) := by
  intro s C
  rw [whC_apply, whC_apply, whC_apply, whC_apply, pay1_apply, pay2_apply, pay3_apply, pay4_apply]
  unfold AccCol
  have h : colB 0 0 0 C.val = 0 := by unfold colB; rw [if_neg (by omega)]; split <;> rfl
  rw [h, colSum_zero, colSum_zero, colSum_zero]
  exact Acc.zero lowest
end

end Cert.Proof.KernelIdeal
-- ==== Proof.KI.Spec.lean ====
/- The three results of a row, from the pairs' logits and labels. -/
module

public import proofs.«01_k».proof.Proof.KI.Chunk

@[expose] public section

noncomputable section

namespace Cert.Proof.KernelIdeal

open Cert.KernelIdeal
open Idealize.ShloMosaic Cert.Proof.Math

/-- The sum of `f A b` over the columns `b` other than `A`. -/
def others (f : ℕ → ℕ → EReal) (A : ℕ) : EReal := ∑ b ∈ Finset.range 12288, if b = A then 0 else f A b

/-- How many columns other than `A` are positive for row `A`. -/
def Env.count (e : Env) (A : ℕ) : ℕ := ((Finset.range 12288).filter fun b => b ≠ A ∧ Q e.lab A b).card

/-- The log of the sum of the exponentials of a row's other logits, −∞ if the sum is infinite. -/
def Env.lse (e : Env) (A : ℕ) : EReal := lseOf (others e.fE A)

/-- The number of a row's positives. -/
def Env.cnt (e : Env) (A : ℕ) : BitVec 32 := BitVec.ofNat 32 (e.count A)

/-- A row's loss: zero without positives, otherwise the scaled difference of the positives' mean logit and the lse. -/
def Env.loss (e : Env) (A : ℕ) : EReal :=
  if 0 < e.count A then Ideal.ofBits .f32 0xBFB6DB6E#32 *
    (Ideal.div (others e.fP A * ((Real.log 2 : ℝ) : EReal)) ((max (e.count A : ℝ) 1 : ℝ) : EReal) - e.lse A) else 0

/-- Logits and labels read the same both ways. -/
structure Env.Symm (e : Env) : Prop where
  y : ∀ a b, e.y a b = e.y b a
  q : ∀ a b, Q e.lab a b ↔ Q e.lab b a

theorem Env.Symm.fE {e : Env} (h : e.Symm) (a b : ℕ) : e.fE a b = e.fE b a := by unfold Env.fE; rw [h.y]
theorem Env.Symm.fP {e : Env} (h : e.Symm) (a b : ℕ) : e.fP a b = e.fP b a := by unfold Env.fP; simp only [h.q a b, h.y a b]
theorem Env.Symm.fN {e : Env} (h : e.Symm) (a b : ℕ) : e.fN a b = e.fN b a := by unfold Env.fN; simp only [h.q a b]

theorem others_fN (e : Env) (A : ℕ) : others e.fN A = ((e.count A : ℝ) : EReal) := by
  unfold others Env.count Env.fN
  rw [Finset.card_filter, Nat.cast_sum]
  refine sum_eq_coe _ _ _ fun b => ?_
  by_cases h : b = A <;> by_cases h' : Q e.lab A b <;> simp [h, h']

theorem Env.count_le (e : Env) (A : ℕ) : e.count A ≤ 12288 := by
  unfold Env.count
  exact (Finset.card_filter_le _ _).trans (by rw [Finset.card_range])

end Cert.Proof.KernelIdeal
-- ==== Proof.KI.Final.lean ====
/- The last point of a row tile: its three outputs are the rows' results. -/
module

public import proofs.«01_k».proof.Proof.KI.Spec
public import proofs.«01_k».proof.Proof.KI.Step

@[expose] public section

set_option maxRecDepth 16384

noncomputable section

namespace Cert.Proof.KernelIdeal

open Cert.KernelIdeal Cert.KernelIdeal.Facts₀ Cert.KernelIdeal.Facts
open Idealize.ShloMosaic Cert.Proof.Math

variable (rm rs rp rc : FVec Ideal S1024x128 .f32) (cm cs cp cc : FVec Ideal S8x1024 .f32)

theorem pay141_apply (r : Fin 1024) : Gen.k1_pay141 rm cm (ix2 0 r)
    = max (Finset.univ.fold max ⊥ fun l : Fin 128 => rm (ix2 r l)) (Finset.univ.fold max ⊥ fun s : Fin 8 => cm (ix2 s r)) := by
  pointwise [Gen.k1_pay141, Gen.k1_pay140]
  simp only [ninf]

theorem pay142_apply (r : Fin 1024) : Gen.k1_pay142 (F := Ideal) rm cm rs cs (ix2 0 r)
    = ∑ l : Fin 128, rs (ix2 r l) * Ideal.exp2 (rm (ix2 r l) - (Gen.k1_pay141 (F := Ideal) rm cm (ix2 0 r) : EReal))
      + ∑ s : Fin 8, cs (ix2 s r) * Ideal.exp2 (cm (ix2 s r) - (Gen.k1_pay141 (F := Ideal) rm cm (ix2 0 r) : EReal)) := by
  pointwise [Gen.k1_pay142, Gen.k1_pay140, Gen.k1_pay141]
  rfl

theorem pay143_apply (r : Fin 1024) : Gen.k1_pay143 rp cp (ix2 0 r) = ∑ l : Fin 128, rp (ix2 r l) + ∑ s : Fin 8, cp (ix2 s r) := by
  pointwise [Gen.k1_pay143]

theorem pay15_apply (r : Fin 1024) : Gen.k1_pay15 (Gen.k1_pay144 rc) cc (ix2 0 r) = ∑ l : Fin 128, rc (ix2 r l) + ∑ s : Fin 8, cc (ix2 s r) := by
  pointwise [Gen.k1_pay15, Gen.k1_pay144]

theorem pay16_apply (v32 v49 : FVec Ideal S1x1024 .f32) (r : Fin 1024) : Gen.k1_pay16 v32 v49 (ix2 0 r)
    = v32 (ix2 0 r) * ((Real.log 2 : ℝ) : EReal) + Ideal.log (v49 (ix2 0 r)) := by
  pointwise [Gen.k1_pay16]
  rfl

theorem pay18_apply (v32 v49 : FVec Ideal S1x1024 .f32) (r : Fin 1024) : Gen.k1_pay18 v32 v49 (ix3 0 0 r) = Gen.k1_pay16 v32 v49 (ix2 0 r) := by
  pointwise [Gen.k1_pay18]

theorem pay19_apply (v62 : FVec Ideal S1x1024 .f32) (v64 : FVec Ideal S8x1024 .f32) (r : Fin 1024) :
    Gen.k1_pay19 v62 v64 (ix3 0 0 r) = Ideal.fptosi 32 (Gen.k1_pay15 v62 v64 (ix2 0 r)) := by
  pointwise [Gen.k1_pay19]
  rfl

theorem pay17_apply (v32 v49 v58 v62 : FVec Ideal S1x1024 .f32) (v64 : FVec Ideal S8x1024 .f32) (r : Fin 1024) :
    Gen.k1_pay17 v32 v49 v58 v62 v64 (ix3 0 0 r) = if 0 < Gen.k1_pay15 v62 v64 (ix2 0 r) then
      Ideal.ofBits .f32 0xBFB6DB6E#32 * (Ideal.div (v58 (ix2 0 r) * ((Real.log 2 : ℝ) : EReal)) (max (Gen.k1_pay15 v62 v64 (ix2 0 r)) 1)
        - Gen.k1_pay16 v32 v49 (ix2 0 r)) else 0 := by
  pointwise [Gen.k1_pay17]
  rfl

/-- A row's accumulators after the last column tile, its column's after the row tile, give the row's three results. -/
theorem final (e : Env) (he : e.Symm) (r : Fin 1024) (A B : ℕ) (hA : A < 12288) (hAB : A ≤ B) (hB : B ≤ 12288)
    (hr : ∀ l : Fin 128, AccRow e A l.val 12288 (rm (ix2 r l)) (rs (ix2 r l)) (rp (ix2 r l)) (rc (ix2 r l)))
    (hc : ∀ s : Fin 8, AccCol e A s.val B (cm (ix2 s r)) (cs (ix2 s r)) (cp (ix2 s r)) (cc (ix2 s r))) :
    Gen.k1_pay17 (F := Ideal) (Gen.k1_pay141 rm cm) (Gen.k1_pay142 rm cm rs cs) (Gen.k1_pay143 rp cp) (Gen.k1_pay144 rc) cc (ix3 0 0 r) = e.loss A
    ∧ Gen.k1_pay18 (F := Ideal) (Gen.k1_pay141 rm cm) (Gen.k1_pay142 rm cm rs cs) (ix3 0 0 r) = e.lse A
    ∧ Gen.k1_pay19 (F := Ideal) (Gen.k1_pay144 rc) cc (ix3 0 0 r) = e.cnt A := by
  have ha := Acc.gather hr hc
  rw [total e.fE he.fE A B 12288 hAB hB, total e.fP he.fP A B 12288 hAB hB, total e.fN he.fN A B 12288 hAB hB,
    ← pay141_apply, ← pay142_apply, ← pay143_apply, ← pay15_apply] at ha
  have h58 : (Gen.k1_pay143 (F := Ideal) rp cp (ix2 0 r) : EReal) = others e.fP A := ha.2.1
  have h67 : (Gen.k1_pay15 (F := Ideal) (Gen.k1_pay144 rc) cc (ix2 0 r) : EReal) = ((e.count A : ℝ) : EReal) := ha.2.2.trans (others_fN e A)
  have h71 : (Gen.k1_pay16 (F := Ideal) (Gen.k1_pay141 rm cm) (Gen.k1_pay142 rm cm rs cs) (ix2 0 r) : EReal) = e.lse A := by
    rw [pay16_apply]; exact ha.lse
  refine ⟨?_, ?_, ?_⟩
  · rw [pay17_apply, h67, h71, h58]
    unfold Env.loss
    by_cases hn : 0 < e.count A
    · rw [if_pos hn, if_pos (by exact_mod_cast hn)]
      refine congrArg (fun x : EReal => Ideal.ofBits .f32 0xBFB6DB6E#32 * x) ?_
      have h1 : max ((e.count A : ℝ) : EReal) 1 = ((max (e.count A : ℝ) 1 : ℝ) : EReal) := by
        rcases le_total (e.count A : ℝ) 1 with h | h
        · rw [max_eq_right h, max_eq_right (by exact_mod_cast h)]; rfl
        · rw [max_eq_left h, max_eq_left (by exact_mod_cast h)]
      rw [h1]
    · rw [if_neg hn, if_neg (by simpa using hn)]
  · rw [pay18_apply, h71]
  · rw [pay19_apply, h67]
    have := e.count_le A
    unfold Env.cnt Ideal.fptosi
    rw [Ideal.toIntClamped_coe, if_pos (Nat.cast_nonneg _), Int.floor_natCast]
    rw [show max (-(2 ^ (32 - 1) : ℕ) : ℤ) (min ((2 ^ (32 - 1) : ℕ) - 1) (e.count A : ℤ)) = (e.count A : ℤ) by
      rw [min_eq_right (by norm_num; omega), max_eq_right (by norm_num)]]
    exact BitVec.ofInt_natCast 32 (e.count A)

end Cert.Proof.KernelIdeal
-- ==== Proof.KI.Done.lean ====
/- What the body leaves: the accumulators one column tile further and, at the last column tile, the rows' results. -/
module

public import proofs.«01_k».proof.Proof.KI.Entry
public import proofs.«01_k».proof.Proof.KI.Final

@[expose] public section

set_option maxRecDepth 16384

noncomputable section

namespace Cert.Proof.KernelIdeal

open Cert.KernelIdeal Cert.KernelIdeal.Facts₀ Cert.KernelIdeal.Facts
open Idealize.ShloMosaic Idealize.ShloMosaic.TcCoe Cert.Proof.Math

/-- An output tile read after the store of the whole of it. -/
theorem read_whole3 {sp : Space} {e : EltTy} (v : View sig .tc sp S1x1x1024 e) (f : v.ty.Contents (Elt Ideal))
    (w : S1x1x1024.Idx → Elt Ideal e) (r : Fin 1024) :
    v.read (Elt Ideal) (v.writes (Elt Ideal) f [⟨Rect.unit (s := S1x1x1024) ![0, 0, 0] S1x1x1024.size Gen.inb_S1x1x1024_S1x1x1024_0_0_0, w⟩]) (ix3 0 0 r) = w (ix3 0 0 r) := by
  refine View.read_writes_cons_unit_of_mem (Val := Elt Ideal) (s := S1x1x1024) (e := e) v f Gen.inb_S1x1x1024_S1x1x1024_0_0_0 w [] (ix3 0 0 r) (ix3 0 0 r) rfl ?_
  intro a
  fin_cases a
  · rfl
  · rfl
  · exact (Nat.zero_add _).symm

theorem off12_eq (v1 : BitVec 32) (h : v1.toNat < 12) : k1_off12 v1 = ![0, 1024 * v1.toNat] := by
  have e : (Scalar.muli v1 1024#32).toNat = 1024 * v1.toNat := by
    simp only [Scalar.muli, IntOp.muli, BitVec.toNat_mul, BitVec.toNat_ofNat]; omega
  show ![0, (Scalar.muli v1 1024#32).toNat] = _
  rw [e]

/-- What holds after the body at the point `(i, j)`. -/
structure Done (e : Env) (i j : ℕ) (l5 : IVec S1024x128 32) (l6 : IVec S1x1024 32) (rm rs rp rc : FVec Ideal S1024x128 .f32) (cm cs cp cc : FVec Ideal S8x12288 .f32)
    (o7 o8 : FVec Ideal S1x1x1024 .f32) (o9 : IVec S1x1x1024 32) : Prop where
  l5 : ∀ (r : Fin 1024) (l : Fin 128), l5 (ix2 r l) = e.lab (1024 * i + r.val)
  l6 : ∀ q : Fin 1024, l6 (ix2 0 q) = e.lab (1024 * j + q.val)
  row : RowOK e i j 8 rm rs rp rc
  col : ColOK e i j 8 cm cs cp cc
  out : j = 11 → ∀ r : Fin 1024, o7 (ix3 0 0 r) = e.loss (1024 * i + r.val) ∧ o8 (ix3 0 0 r) = e.lse (1024 * i + r.val) ∧ o9 (ix3 0 0 r) = e.cnt (1024 * i + r.val)

section
variable (c : Dev nD) {arg11 arg12 arg13 arg14 : Memref sig .tc .vmem S1024x128 .f32} {arg15 arg16 arg17 arg18 : Memref sig .tc .vmem S8x12288 .f32}
  {arg7 arg8 : Memref sig .tc .vmem S1x1x1024 .f32} {arg9 : Memref sig .tc .vmem S1x1x1024 .i32}

/-- The final loads: the row accumulators whole, the column accumulators of the row tile's own columns. -/
abbrev rL (a : Memref sig .tc .vmem S1024x128 .f32) (f : Buf (Elt Ideal) (a.view.loc (c : Thread nD τ))) : FVec Ideal S1024x128 .f32 :=
  a.view.readAt (Elt Ideal) (Rect.unit (s := S1024x128) ![0, 0] S1024x128.size Gen.inb_S1024x128_S1024x128_0_0).toLoadRect f
abbrev cL (a : Memref sig .tc .vmem S8x12288 .f32) (v1 : BitVec 32) (h : ∀ x, k1_off12 v1 x + S8x1024.size x ≤ S8x12288.size x)
    (f : Buf (Elt Ideal) (a.view.loc (c : Thread nD τ))) : FVec Ideal S8x1024 .f32 :=
  a.view.readAt (Elt Ideal) (Rect.unit (s := S8x12288) (k1_off12 v1) S8x1024.size h).toLoadRect f

theorem rL_apply (a : Memref sig .tc .vmem S1024x128 .f32) (f : Buf (Elt Ideal) (a.view.loc (c : Thread nD τ))) (r : Fin 1024) (l : Fin 128) :
    rL c a f (ix2 r l) = a.view.read (Elt Ideal) f (ix2 r l) :=
  readAt_unit a.view f _ (ix2 r l) _ rfl (Fin.forall_fin_two.2 ⟨(Nat.zero_add _).symm, (Nat.zero_add _).symm⟩)
theorem cL_apply (a : Memref sig .tc .vmem S8x12288 .f32) (v1 : BitVec 32) (hv : v1.toNat < 12) (h : ∀ x, k1_off12 v1 x + S8x1024.size x ≤ S8x12288.size x)
    (f : Buf (Elt Ideal) (a.view.loc (c : Thread nD τ))) (s : Fin 8) (r : Fin 1024) :
    cL c a v1 h f (ix2 s r) = a.view.read (Elt Ideal) f (ix2 s (⟨1024 * v1.toNat + r.val, by omega⟩ : Fin 12288)) :=
  readAt_unit a.view f _ (ix2 s r) _ (off12_eq v1 hv) (Fin.forall_fin_two.2 ⟨(Nat.zero_add _).symm, rfl⟩)

theorem trips_eq : k1_t1_loop.trips = 8 := by decide +kernel

/-- A whole store of an output tile. -/
abbrev whO {e : EltTy} (a : Memref sig .tc .vmem S1x1x1024 e) (f : Buf (Elt Ideal) (a.view.loc (c : Thread nD τ))) (w : S1x1x1024.Idx → Elt Ideal e) : S1x1x1024.Idx → Elt Ideal e :=
  a.view.read (Elt Ideal) (a.view.writes (Elt Ideal) f [⟨Rect.unit (s := S1x1x1024) ![0, 0, 0] S1x1x1024.size Gen.inb_S1x1x1024_S1x1x1024_0_0_0, w⟩])

variable {e : Env} {v1 v3 : BitVec 32} {l5 : IVec S1024x128 32} {l6 : IVec S1x1024 32} {g : FVec Ideal S1024x1024 .f32}
  {f11 : Buf (Elt Ideal) (arg11.view.loc (c : Thread nD τ))} {f12 : Buf (Elt Ideal) (arg12.view.loc (c : Thread nD τ))}
  {f13 : Buf (Elt Ideal) (arg13.view.loc (c : Thread nD τ))} {f14 : Buf (Elt Ideal) (arg14.view.loc (c : Thread nD τ))}
  {f15 : Buf (Elt Ideal) (arg15.view.loc (c : Thread nD τ))} {f16 : Buf (Elt Ideal) (arg16.view.loc (c : Thread nD τ))}
  {f17 : Buf (Elt Ideal) (arg17.view.loc (c : Thread nD τ))} {f18 : Buf (Elt Ideal) (arg18.view.loc (c : Thread nD τ))}

/-- Short of the last column tile the outputs are not spoken of. -/
theorem done_mid (h3 : v3 ≠ 11#32) {k : ℕ} (hk : k = k1_t1_loop.trips) (o7 o8 : FVec Ideal S1x1x1024 .f32) (o9 : IVec S1x1x1024 32) {rm rs rp rc : FVec Ideal S1024x128 .f32} {cm cs cp cc : FVec Ideal S8x12288 .f32}
    (h : LoopOK e v1.toNat v3.toNat k l5 l6 g rm rs rp rc cm cs cp cc) : Done e v1.toNat v3.toNat l5 l6 rm rs rp rc cm cs cp cc o7 o8 o9 := by
  rw [trips_eq] at hk; subst hk
  exact ⟨h.l5, h.l6, h.row, h.col, fun h' => absurd (BitVec.eq_of_toNat_eq h') h3⟩

/-- At the last column tile the outputs are the rows' results. -/
theorem done_end (he : e.Symm) (h1 : v1.toNat < 12) (h3 : v3 = 11#32) (hin : ∀ x, k1_off12 v1 x + S8x1024.size x ≤ S8x12288.size x) {k : ℕ} (hk : k = k1_t1_loop.trips)
    (f7 : Buf (Elt Ideal) (arg7.view.loc (c : Thread nD τ))) (f8 : Buf (Elt Ideal) (arg8.view.loc (c : Thread nD τ))) (f9 : Buf (Elt Ideal) (arg9.view.loc (c : Thread nD τ)))
    (h : LoopOK e v1.toNat v3.toNat k l5 l6 g (arg11.view.read (Elt Ideal) f11) (arg12.view.read (Elt Ideal) f12) (arg13.view.read (Elt Ideal) f13) (arg14.view.read (Elt Ideal) f14)
      (arg15.view.read (Elt Ideal) f15) (arg16.view.read (Elt Ideal) f16) (arg17.view.read (Elt Ideal) f17) (arg18.view.read (Elt Ideal) f18)) :
    Done e v1.toNat v3.toNat l5 l6 (arg11.view.read (Elt Ideal) f11) (arg12.view.read (Elt Ideal) f12) (arg13.view.read (Elt Ideal) f13) (arg14.view.read (Elt Ideal) f14)
      (arg15.view.read (Elt Ideal) f15) (arg16.view.read (Elt Ideal) f16) (arg17.view.read (Elt Ideal) f17) (arg18.view.read (Elt Ideal) f18)
      (whO c arg7 f7 (Gen.k1_pay17 (F := Ideal) (Gen.k1_pay141 (rL c arg11 f11) (cL c arg15 v1 hin f15)) (Gen.k1_pay142 (rL c arg11 f11) (cL c arg15 v1 hin f15) (rL c arg12 f12) (cL c arg16 v1 hin f16))
        (Gen.k1_pay143 (rL c arg13 f13) (cL c arg17 v1 hin f17)) (Gen.k1_pay144 (rL c arg14 f14)) (cL c arg18 v1 hin f18)))
      (whO c arg8 f8 (Gen.k1_pay18 (F := Ideal) (Gen.k1_pay141 (rL c arg11 f11) (cL c arg15 v1 hin f15)) (Gen.k1_pay142 (rL c arg11 f11) (cL c arg15 v1 hin f15) (rL c arg12 f12) (cL c arg16 v1 hin f16))))
      (whO c arg9 f9 (Gen.k1_pay19 (F := Ideal) (Gen.k1_pay144 (rL c arg14 f14)) (cL c arg18 v1 hin f18))) := by
  rw [trips_eq] at hk; subst hk
  refine ⟨h.l5, h.l6, h.row, h.col, fun _ r => ?_⟩
  subst h3
  have hf := final (rL c arg11 f11) (rL c arg12 f12) (rL c arg13 f13) (rL c arg14 f14) (cL c arg15 v1 hin f15) (cL c arg16 v1 hin f16) (cL c arg17 v1 hin f17) (cL c arg18 v1 hin f18)
    e he r (1024 * v1.toNat + r.val) (1024 * v1.toNat + 1024) (by omega) (by omega) (by omega)
    (fun l => by
      have := h.row r l
      rw [show rowB (11#32 : BitVec 32).toNat 8 r.val = 12288 by unfold rowB; rw [if_pos (by omega)]; rfl] at this
      rw [rL_apply, rL_apply, rL_apply, rL_apply]; exact this)
    (fun s => by
      have := h.col s (⟨1024 * v1.toNat + r.val, by omega⟩ : Fin 12288)
      rw [show colB v1.toNat (11#32 : BitVec 32).toNat 8 (1024 * v1.toNat + r.val) = 1024 * v1.toNat + 1024 by
        unfold colB; rw [show (11#32 : BitVec 32).toNat = 11 from rfl]; congr 1; split; · rfl
        rw [if_pos (by omega)]] at this
      rw [cL_apply c arg15 v1 h1, cL_apply c arg16 v1 h1, cL_apply c arg17 v1 h1, cL_apply c arg18 v1 h1]; exact this)
  rw [whO, whO, whO, read_whole3, read_whole3, read_whole3]
  exact hf
end

end Cert.Proof.KernelIdeal
-- ==== Proof.KI.Body.lean ====
/- The kernel body at one grid point: what it leaves in the accumulators and, at the last column tile, in its outputs. -/
module

public import proofs.«01_k».proof.Proof.KI.Done

@[expose] public section

noncomputable section

namespace Cert.Proof.KernelIdeal

open Cert.KernelIdeal Cert.KernelIdeal.Facts₀ Cert.KernelIdeal.Facts Cert.Proof.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The checks the body makes of the two tile numbers hold for numbers below 12. -/
theorem chk_of_tile (v1 v3 : BitVec 32) (h1 : Tile v1) (h3 : Tile v3) : k1_chk1 v1 v3 := by
  have hd (v : BitVec 32) (h : v.toNat < 12) : 1024 ∣ (Scalar.muli v 1024#32).toNat := by
    simp only [Scalar.muli, IntOp.muli, BitVec.toNat_mul, BitVec.toNat_ofNat]; omega
  have hm (v : BitVec 32) (h : v.toNat < 12) : (Scalar.muli v 1024#32).toNat ≤ 11264 := by
    simp only [Scalar.muli, IntOp.muli, BitVec.toNat_mul, BitVec.toNat_ofNat]; omega
  refine ⟨hd v3 h3.lt, ?_, fun _ => hd v1 h1.lt, fun _ => ?_⟩
  · intro r a
    have := h3.lt; have := r.isLt
    rw [off11_eq v3 h3.lt _ (by omega)]
    fin_cases a
    · show 0 + 8 ≤ 8; omega
    · show 1024 * v3.toNat + 128 * r.val + 128 ≤ 12288; omega
  · intro a
    have := hm v1 h1.lt
    fin_cases a
    · show 0 + 8 ≤ 8; omega
    · show (Scalar.muli v1 1024#32).toNat + 1024 ≤ 12288; omega

section Body
variable (c : Dev nD) (i : grid1.Coords) (arg1 : Memref sig .tc .smem S78 .i32) (harg1 : arg1.IsWhole) (arg2 : Memref sig .tc .smem S78 .i32) (harg2 : arg2.IsWhole) (arg3 : Memref sig .tc .vmem S1024x4096 .bf16) (harg3 : arg3.IsWhole) (arg4 : Memref sig .tc .vmem S1024x4096 .bf16) (harg4 : arg4.IsWhole) (arg5 : Memref sig .tc .vmem S1024x128 .i32) (harg5 : arg5.IsWhole) (arg6 : Memref sig .tc .vmem S1x1024 .i32) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1x1024 .i32) (harg9 : arg9.IsWhole) (arg10 : Memref sig .tc .vmem S1024x1024 .f32) (harg10 : arg10.IsWhole) (arg11 : Memref sig .tc .vmem S1024x128 .f32) (harg11 : arg11.IsWhole) (arg12 : Memref sig .tc .vmem S1024x128 .f32) (harg12 : arg12.IsWhole) (arg13 : Memref sig .tc .vmem S1024x128 .f32) (harg13 : arg13.IsWhole) (arg14 : Memref sig .tc .vmem S1024x128 .f32) (harg14 : arg14.IsWhole) (arg15 : Memref sig .tc .vmem S8x12288 .f32) (harg15 : arg15.IsWhole) (arg16 : Memref sig .tc .vmem S8x12288 .f32) (harg16 : arg16.IsWhole) (arg17 : Memref sig .tc .vmem S8x12288 .f32) (harg17 : arg17.IsWhole) (arg18 : Memref sig .tc .vmem S8x12288 .f32) (harg18 : arg18.IsWhole)

/-- The word a table's cell of point `i` holds. -/
abbrev cell (a : Memref sig .tc .smem S78 .i32) (f : Buf (Elt Ideal) (a.view.loc (c : Thread nD τ))) : BitVec 32 :=
  a.view.readAt (Elt Ideal) (Rect.unit (s := S78) (k1_off1 i) S1.size (Gen.k1_off1_inb i)).toLoadRect f (Shape.Idx.first (show 0 < S1.numel by decide))

/-- A buffer held whole at named contents. -/
abbrev Pt {sp : Space} {s : Shape} {e : EltTy} (a : Memref sig .tc sp s e) (f : Buf (Elt Ideal) (a.view.loc (c : Thread nD τ))) : sProp 𝕄 :=
  iprop(a.view.loc (c : Thread nD τ) ↦[a.view.set]{fullShare} f)

/-- What the body leaves at the point `(n, j)`. -/
abbrev After (e : Env) (n j : ℕ) : sProp 𝕄 :=
  iprop(∃ f5 : Buf (Elt Ideal) (arg5.view.loc (c : Thread nD τ)), ∃ f6 : Buf (Elt Ideal) (arg6.view.loc (c : Thread nD τ)), ∃ f10 : Buf (Elt Ideal) (arg10.view.loc (c : Thread nD τ)), ∃ f11 : Buf (Elt Ideal) (arg11.view.loc (c : Thread nD τ)), ∃ f12 : Buf (Elt Ideal) (arg12.view.loc (c : Thread nD τ)), ∃ f13 : Buf (Elt Ideal) (arg13.view.loc (c : Thread nD τ)), ∃ f14 : Buf (Elt Ideal) (arg14.view.loc (c : Thread nD τ)), ∃ f15 : Buf (Elt Ideal) (arg15.view.loc (c : Thread nD τ)), ∃ f16 : Buf (Elt Ideal) (arg16.view.loc (c : Thread nD τ)), ∃ f17 : Buf (Elt Ideal) (arg17.view.loc (c : Thread nD τ)), ∃ f18 : Buf (Elt Ideal) (arg18.view.loc (c : Thread nD τ)), ∃ f7 : Buf (Elt Ideal) (arg7.view.loc (c : Thread nD τ)), ∃ f8 : Buf (Elt Ideal) (arg8.view.loc (c : Thread nD τ)), ∃ f9 : Buf (Elt Ideal) (arg9.view.loc (c : Thread nD τ)),
    ⌜Done e n j (arg5.view.read (Elt Ideal) f5) (arg6.view.read (Elt Ideal) f6) (arg11.view.read (Elt Ideal) f11) (arg12.view.read (Elt Ideal) f12) (arg13.view.read (Elt Ideal) f13) (arg14.view.read (Elt Ideal) f14) (arg15.view.read (Elt Ideal) f15) (arg16.view.read (Elt Ideal) f16) (arg17.view.read (Elt Ideal) f17) (arg18.view.read (Elt Ideal) f18) (arg7.view.read (Elt Ideal) f7) (arg8.view.read (Elt Ideal) f8) (arg9.view.read (Elt Ideal) f9)⌝
    ∗ Pt c arg5 f5 ∗ Pt c arg6 f6 ∗ Pt c arg10 f10 ∗ Pt c arg11 f11 ∗ Pt c arg12 f12 ∗ Pt c arg13 f13 ∗ Pt c arg14 f14 ∗ Pt c arg15 f15 ∗ Pt c arg16 f16 ∗ Pt c arg17 f17 ∗ Pt c arg18 f18 ∗ Pt c arg7 f7 ∗ Pt c arg8 f8 ∗ Pt c arg9 f9)

set_option maxRecDepth 16384 in
set_option maxHeartbeats 2000000 in
/-- The body at one point. -/
theorem body (e : Env) (he : e.Symm) (q : PosShare TreeShare) (f1 : Buf (Elt Ideal) (arg1.view.loc (c : Thread nD τ))) (f2 : Buf (Elt Ideal) (arg2.view.loc (c : Thread nD τ)))
    (h1 : Tile (cell c i arg1 f1)) (h2 : Tile (cell c i arg2 f2)) (f3 : Buf (Elt Ideal) (arg3.view.loc (c : Thread nD τ))) (f4 : Buf (Elt Ideal) (arg4.view.loc (c : Thread nD τ))) (f5 : Buf (Elt Ideal) (arg5.view.loc (c : Thread nD τ))) (f6 : Buf (Elt Ideal) (arg6.view.loc (c : Thread nD τ))) (f10 : Buf (Elt Ideal) (arg10.view.loc (c : Thread nD τ))) (f11 : Buf (Elt Ideal) (arg11.view.loc (c : Thread nD τ))) (f12 : Buf (Elt Ideal) (arg12.view.loc (c : Thread nD τ))) (f13 : Buf (Elt Ideal) (arg13.view.loc (c : Thread nD τ))) (f14 : Buf (Elt Ideal) (arg14.view.loc (c : Thread nD τ))) (f15 : Buf (Elt Ideal) (arg15.view.loc (c : Thread nD τ))) (f16 : Buf (Elt Ideal) (arg16.view.loc (c : Thread nD τ))) (f17 : Buf (Elt Ideal) (arg17.view.loc (c : Thread nD τ))) (f18 : Buf (Elt Ideal) (arg18.view.loc (c : Thread nD τ))) (f7 : Buf (Elt Ideal) (arg7.view.loc (c : Thread nD τ))) (f8 : Buf (Elt Ideal) (arg8.view.loc (c : Thread nD τ))) (f9 : Buf (Elt Ideal) (arg9.view.loc (c : Thread nD τ)))
    (hx : ∀ r p : Fin 1024, (∑ k : Fin 4096, ((arg3.view.read (Elt Ideal) f3) (ix2 r k) : EReal) * (arg4.view.read (Elt Ideal) f4) (ix2 p k)) * ((10 * (Real.log 2)⁻¹ : ℝ) : EReal)
      = (e.y (1024 * (cell c i arg1 f1).toNat + r.val) (1024 * (cell c i arg2 f2).toNat + p.val) : EReal))
    (h5 : ∀ (r : Fin 1024) (l : Fin 128), (arg5.view.read (Elt Ideal) f5) (ix2 r l) = e.lab (1024 * (cell c i arg1 f1).toNat + r.val))
    (h6 : ∀ p : Fin 1024, (arg6.view.read (Elt Ideal) f6) (ix2 0 p) = e.lab (1024 * (cell c i arg2 f2).toNat + p.val))
    (ht : (i 0).val = 0 → (cell c i arg1 f1).toNat = 0 ∧ (cell c i arg2 f2).toNat = 0)
    (hrow : cell c i arg2 f2 ≠ cell c i arg1 f1 → RowOK e (cell c i arg1 f1).toNat (cell c i arg2 f2).toNat 0 (arg11.view.read (Elt Ideal) f11) (arg12.view.read (Elt Ideal) f12) (arg13.view.read (Elt Ideal) f13) (arg14.view.read (Elt Ideal) f14))
    (hcol : (i 0).val ≠ 0 → ColOK e (cell c i arg1 f1).toNat (cell c i arg2 f2).toNat 0 (arg15.view.read (Elt Ideal) f15) (arg16.view.read (Elt Ideal) f16) (arg17.view.read (Elt Ideal) f17) (arg18.view.read (Elt Ideal) f18)) :
    (iprop((arg1.view.loc (c : Thread nD τ) ↦[arg1.view.set]{q} f1) ∗ (arg2.view.loc (c : Thread nD τ) ↦[arg2.view.set]{q} f2)
      ∗ Pt c arg3 f3 ∗ Pt c arg4 f4 ∗ Pt c arg5 f5 ∗ Pt c arg6 f6 ∗ Pt c arg10 f10 ∗ Pt c arg11 f11 ∗ Pt c arg12 f12 ∗ Pt c arg13 f13 ∗ Pt c arg14 f14 ∗ Pt c arg15 f15 ∗ Pt c arg16 f16 ∗ Pt c arg17 f17 ∗ Pt c arg18 f18 ∗ Pt c arg7 f7 ∗ Pt c arg8 f8 ∗ Pt c arg9 f9) : sProp 𝕄)
      ⊢ wp frame (wpE (defs₀ (F := Ideal)) 𝒱₀ (c : Thread nD τ) none) Set.univ
        (cc1_supcon (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
        (fun _ => iprop((arg1.view.loc (c : Thread nD τ) ↦[arg1.view.set]{q} f1) ∗ (arg2.view.loc (c : Thread nD τ) ↦[arg2.view.set]{q} f2) ∗ Pt c arg3 f3 ∗ Pt c arg4 f4 ∗ After c arg5 arg6 arg7 arg8 arg9 arg10 arg11 arg12 arg13 arg14 arg15 arg16 arg17 arg18 e (cell c i arg1 f1).toNat (cell c i arg2 f2).toNat)) := by
  have hchk := chk_of_tile _ _ h1 h2
  have hT : Tile (cell c i arg1 f1) ∧ Tile (cell c i arg2 f2) := ⟨h1, h2⟩
  have hg : ∀ r p : Fin 1024, (whG arg10 (Gen.k1_pay9 (xL c arg3 f3) (xL c arg4 f4)) (ix2 r p) : EReal) * ((10 * (Real.log 2)⁻¹ : ℝ) : EReal)
      = (e.y (1024 * (cell c i arg1 f1).toNat + r.val) (1024 * (cell c i arg2 f2).toNat + p.val) : EReal) := by
    intro r p
    rw [whG_apply, pay9_apply, ← hx r p]
    simp only [xL_apply]
  have htb : ∀ w : BitVec 1, Scalar.cmpi .ne (Scalar.extui w : BitVec 32) 0#32 = 1#1 ↔ w = 1#1 := by decide
  have hbool (p : Prop) [Decidable p] : BitVec.ofBool (decide p) = 1#1 ↔ p := by by_cases h : p <;> simp [h]
  have hA0 : Scalar.cmpi .ne (Scalar.extui (Scalar.cmpi .eq (BitVec.ofNat 32 (i 0).val) 0#32) : BitVec 32) 0#32 = 1#1 ↔ (i 0).val = 0 := by
    rw [htb, show Scalar.cmpi .eq (BitVec.ofNat 32 (i 0).val) 0#32 = BitVec.ofBool (decide (BitVec.ofNat 32 (i 0).val = 0#32)) from cmpi_eq _ _, hbool]
    have := (i 0).isLt
    have h78 : (i 0).val < 78 := this
    constructor
    · intro h; have h := congrArg BitVec.toNat h; rw [BitVec.toNat_ofNat, BitVec.toNat_ofNat] at h; omega
    · intro h; rw [h]
  have hB0 : Scalar.cmpi .ne (Scalar.extui (Scalar.cmpi .eq (cell c i arg2 f2) (cell c i arg1 f1)) : BitVec 32) 0#32 = 1#1 ↔ cell c i arg2 f2 = cell c i arg1 f1 := by
    rw [htb, show Scalar.cmpi .eq (cell c i arg2 f2) (cell c i arg1 f1) = BitVec.ofBool (decide (cell c i arg2 f2 = cell c i arg1 f1)) from cmpi_eq _ _, hbool]
  have hC0 : k1_cond3 (cell c i arg2 f2) = 1#1 ↔ cell c i arg2 f2 = 11#32 := by
    show Scalar.cmpi .ne (Scalar.extui (Scalar.cmpi .eq (cell c i arg2 f2) 11#32) : BitVec 32) 0#32 = 1#1 ↔ _
    rw [htb, show Scalar.cmpi .eq (cell c i arg2 f2) 11#32 = BitVec.ofBool (decide (cell c i arg2 f2 = 11#32)) from cmpi_eq _ _, hbool]
  have rowR (h : cell c i arg2 f2 = cell c i arg1 f1) : RowOK e (cell c i arg1 f1).toNat (cell c i arg2 f2).toNat 0 (whR arg11 Gen.k1_pay5) (whR arg12 Gen.k1_pay6) (whR arg13 Gen.k1_pay7) (whR arg14 Gen.k1_pay8) := by
    rw [h]; exact row_reset e _
  have colR (h : (i 0).val = 0) : ColOK e (cell c i arg1 f1).toNat (cell c i arg2 f2).toNat 0 (whC arg15 Gen.k1_pay1) (whC arg16 Gen.k1_pay2) (whC arg17 Gen.k1_pay3) (whC arg18 Gen.k1_pay4) := by
    rw [(ht h).1, (ht h).2]; exact col_reset e
  have hok1 (hA : (i 0).val = 0) (hB : cell c i arg2 f2 = cell c i arg1 f1) : LoopOK e (cell c i arg1 f1).toNat (cell c i arg2 f2).toNat 0 (arg5.view.read (Elt Ideal) f5) (arg6.view.read (Elt Ideal) f6) (whG arg10 (Gen.k1_pay9 (xL c arg3 f3) (xL c arg4 f4)))
        (whR arg11 Gen.k1_pay5) (whR arg12 Gen.k1_pay6) (whR arg13 Gen.k1_pay7) (whR arg14 Gen.k1_pay8)
        (whC arg15 Gen.k1_pay1) (whC arg16 Gen.k1_pay2) (whC arg17 Gen.k1_pay3) (whC arg18 Gen.k1_pay4) := ⟨h5, h6, hg, rowR hB, colR hA⟩
  have hok2 (hA : (i 0).val = 0) (hB : cell c i arg2 f2 ≠ cell c i arg1 f1) : LoopOK e (cell c i arg1 f1).toNat (cell c i arg2 f2).toNat 0 (arg5.view.read (Elt Ideal) f5) (arg6.view.read (Elt Ideal) f6) (whG arg10 (Gen.k1_pay9 (xL c arg3 f3) (xL c arg4 f4)))
        (arg11.view.read (Elt Ideal) f11) (arg12.view.read (Elt Ideal) f12) (arg13.view.read (Elt Ideal) f13) (arg14.view.read (Elt Ideal) f14)
        (whC arg15 Gen.k1_pay1) (whC arg16 Gen.k1_pay2) (whC arg17 Gen.k1_pay3) (whC arg18 Gen.k1_pay4) := ⟨h5, h6, hg, hrow hB, colR hA⟩
  have hok3 (hA : (i 0).val ≠ 0) (hB : cell c i arg2 f2 = cell c i arg1 f1) : LoopOK e (cell c i arg1 f1).toNat (cell c i arg2 f2).toNat 0 (arg5.view.read (Elt Ideal) f5) (arg6.view.read (Elt Ideal) f6) (whG arg10 (Gen.k1_pay9 (xL c arg3 f3) (xL c arg4 f4)))
        (whR arg11 Gen.k1_pay5) (whR arg12 Gen.k1_pay6) (whR arg13 Gen.k1_pay7) (whR arg14 Gen.k1_pay8)
        (arg15.view.read (Elt Ideal) f15) (arg16.view.read (Elt Ideal) f16) (arg17.view.read (Elt Ideal) f17) (arg18.view.read (Elt Ideal) f18) := ⟨h5, h6, hg, rowR hB, hcol hA⟩
  have hok4 (hA : (i 0).val ≠ 0) (hB : cell c i arg2 f2 ≠ cell c i arg1 f1) : LoopOK e (cell c i arg1 f1).toNat (cell c i arg2 f2).toNat 0 (arg5.view.read (Elt Ideal) f5) (arg6.view.read (Elt Ideal) f6) (whG arg10 (Gen.k1_pay9 (xL c arg3 f3) (xL c arg4 f4)))
        (arg11.view.read (Elt Ideal) f11) (arg12.view.read (Elt Ideal) f12) (arg13.view.read (Elt Ideal) f13) (arg14.view.read (Elt Ideal) f14)
        (arg15.view.read (Elt Ideal) f15) (arg16.view.read (Elt Ideal) f16) (arg17.view.read (Elt Ideal) f17) (arg18.view.read (Elt Ideal) f18) := ⟨h5, h6, hg, hrow hB, hcol hA⟩
  sl_unfold [cc1_supcon]
  iintro ⟨H1, H2, H3, H4, H5, H6, H10, H11, H12, H13, H14, H15, H16, H17, H18, H7, H8, H9⟩
  let L := loopInv_k1_t1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (cell c i arg1 f1) (cell c i arg2 f2) hchk (Scalar.muli (cell c i arg2 f2) 1024#32) e
  by_cases hA : Scalar.cmpi .ne (Scalar.extui (Scalar.cmpi .eq (BitVec.ofNat 32 (i 0).val) 0#32) : BitVec 32) 0#32 = 1#1 <;>
  by_cases hB : Scalar.cmpi .ne (Scalar.extui (Scalar.cmpi .eq (cell c i arg2 f2) (cell c i arg1 f1)) : BitVec 32) 0#32 = 1#1 <;>
  by_cases hC : k1_cond3 (cell c i arg2 f2) = 1#1
  all_goals
    first
      | have hok := hok1 (hA0.1 hA) (hB0.1 hB)
      | have hok := hok2 (hA0.1 hA) (mt hB0.2 hB)
      | have hok := hok3 (mt hA0.2 hA) (hB0.1 hB)
      | have hok := hok4 (mt hA0.2 hA) (mt hB0.2 hB)
    sl_exec
    sl_exec
    sl_step
    isplitl [H1]; · iexact H1
    isplitl [H2]; · iexact H2
    isplitl [H3]; · iexact H3
    isplitl [H4]; · iexact H4
    iexists _
    iexists _
    iexists _
    iexists _
    iexists _
    iexists _
    iexists _
    iexists _
    iexists _
    iexists _
    iexists _
    iexists _
    iexists _
    iexists _
    isplitr; swap
    · isplitl [H5]; · iexact H5
      isplitl [H6]; · iexact H6
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H7]; · iexact H7
      isplitl [H8]; · iexact H8
      iexact H9
    ipureintro
    first
      | exact done_mid (mt hC0.2 hC) rfl _ _ _ hL1
      | exact done_end c he h1.lt (hC0.1 hC) (k1_off12_inb _ _ hchk hC) rfl _ _ _ hL1
end Body

end Cert.Proof.KernelIdeal
-- ==== Proof.KI.Tables.lean ====
/- The grid's points: the row tile and the column tile of each, the blocks its windows are at, and how the accumulators pass from a point to the next. -/
module

public import proofs.«01_k».proof.Proof.KI.Body
public import proofs.«01_k».proof.Proof.KF.Launch

@[expose] public section

noncomputable section

namespace Cert.Proof.KernelIdeal

open Cert.KernelIdeal Cert.Proof.Math
open Idealize.ShloMosaic Idealize.ShloMosaic.TcCoe Idealize.ShloMosaic.Tactic
open Cert.Proof.KernelIdeal.Frame (tbl adm1 lit0_lt lit1_lt)

/-- The row tile of point `t`. -/
def I (t : Fin 78) : ℕ := (lit0 t).toNat
/-- The column tile of point `t`. -/
def J (t : Fin 78) : ℕ := (lit1 t).toNat

theorem I_lt (t : Fin 78) : I t < 12 := lit0_lt t
theorem J_lt (t : Fin 78) : J t < 12 := lit1_lt t
theorem I_zero : I 0 = 0 := rfl
theorem J_zero : J 0 = 0 := rfl

/-- The triangle row by row: the next column tile, or after the last the next row tile's diagonal. -/
theorem next : ∀ t t' : Fin 78, t'.val = t.val + 1 → (I t' = I t ∧ J t' = J t + 1) ∨ (J t = 11 ∧ I t' = I t + 1 ∧ J t' = I t + 1) := by
  unfold I J; decide +kernel

/-- Each row tile meets the last column tile. -/
theorem last_of_row : ∀ i : Fin 12, ∃ t : Fin 78, I t = i.val ∧ J t = 11 := by
  unfold I J; decide +kernel

theorem coords0 : ∀ t : Fin 78, (grid1.coords t 0).val = t.val := of_decide_eq_true (by chain_rfl)

theorem cell0 (c : Dev nD) : ∀ t : Fin 78, cell c (grid1.coords t) (Memref.whole main_c) (tbl 0) = lit0 t := of_decide_eq_true (by chain_rfl)
theorem cell1 (c : Dev nD) : ∀ t : Fin 78, cell c (grid1.coords t) (Memref.whole main_c_0) (tbl 1) = lit1 t := of_decide_eq_true (by chain_rfl)

theorem ix_0 : ∀ t : Fin 78, ix1 (tbl (F := Ideal)) 0 (grid1.coords t) = ![I t, 0] := of_decide_eq_true (by chain_rfl)
theorem ix_1 : ∀ t : Fin 78, ix1 (tbl (F := Ideal)) 1 (grid1.coords t) = ![J t, 0] := of_decide_eq_true (by chain_rfl)
theorem ix_2 : ∀ t : Fin 78, ix1 (tbl (F := Ideal)) 2 (grid1.coords t) = ![I t, 0] := of_decide_eq_true (by chain_rfl)
theorem ix_3 : ∀ t : Fin 78, ix1 (tbl (F := Ideal)) 3 (grid1.coords t) = ![0, J t] := of_decide_eq_true (by chain_rfl)
theorem ix_4 : ∀ t : Fin 78, ix1 (tbl (F := Ideal)) 4 (grid1.coords t) = ![I t, 0, 0] := of_decide_eq_true (by chain_rfl)
theorem ix_5 : ∀ t : Fin 78, ix1 (tbl (F := Ideal)) 5 (grid1.coords t) = ![I t, 0, 0] := of_decide_eq_true (by chain_rfl)
theorem ix_6 : ∀ t : Fin 78, ix1 (tbl (F := Ideal)) 6 (grid1.coords t) = ![I t, 0, 0] := of_decide_eq_true (by chain_rfl)

/-- The accumulators as the body wants them at point `t`. -/
def Inv (e : Env) (t : Fin 78) (rm rs rp rc : FVec Ideal S1024x128 .f32) (cm cs cp cc : FVec Ideal S8x12288 .f32) : Prop :=
  (J t ≠ I t → RowOK e (I t) (J t) 0 rm rs rp rc) ∧ (t.val ≠ 0 → ColOK e (I t) (J t) 0 cm cs cp cc)

theorem Inv.zero (e : Env) (rm rs rp rc cm cs cp cc) : Inv e 0 rm rs rp rc cm cs cp cc :=
  ⟨fun h => absurd rfl h, fun h => absurd rfl h⟩

/-- What the body leaves at a point is what it wants at the next. -/
theorem Inv.next (e : Env) {t t' : Fin 78} (h : t'.val = t.val + 1) {rm rs rp rc cm cs cp cc}
    (hr : RowOK e (I t) (J t) 8 rm rs rp rc) (hc : ColOK e (I t) (J t) 8 cm cs cp cc) : Inv e t' rm rs rp rc cm cs cp cc := by
  rcases KernelIdeal.next t t' h with ⟨hi, hj⟩ | ⟨hj, hi', hj'⟩
  · refine ⟨fun _ r l => ?_, fun _ s C => ?_⟩
    · have e1 : rowB (J t') 0 r.val = rowB (J t) 8 r.val := by
        unfold rowB; have := r.isLt
        rw [if_neg (by omega), if_pos (by omega), hj]; omega
      rw [hi, e1]; exact hr r l
    · have e1 : colB (I t') (J t') 0 C.val = colB (I t) (J t) 8 C.val := by
        unfold colB; rw [hi, hj]
        split_ifs <;> omega
      rw [e1]; exact hc s C
  · refine ⟨fun h => absurd (hj'.trans hi'.symm) h, fun _ s C => ?_⟩
    have hC := C.isLt
    have e1 : colB (I t) (J t) 8 C.val = 1024 * I t + 1024 := by
      unfold colB; rw [hj]; split_ifs <;> omega
    have e2 : 1024 * I t + 1024 ≤ colB (I t') (J t') 0 C.val := by
      unfold colB; rw [hi']; omega
    have e3 (f : ℕ → ℕ → EReal) : colSum f C.val s.val (colB (I t') (J t') 0 C.val) = colSum f C.val s.val (colB (I t) (J t) 8 C.val) := by
      by_cases hlt : C.val ≤ 1024 * I t + 1024
      · rw [e1]; exact colSum_of_le f _ _ _ _ hlt e2
      · have e4 : colB (I t') (J t') 0 C.val = colB (I t) (J t) 8 C.val := by
          rw [e1]; unfold colB; rw [hi', hj']; split_ifs <;> omega
        rw [e4]
    have hcC := hc s C
    unfold AccCol at hcC ⊢
    rw [e3, e3, e3]; exact hcC

end Cert.Proof.KernelIdeal
-- ==== Proof.KI.Inputs.lean ====
/- The arguments as an environment, and what the grid's input windows hold of them at each point. -/
module

public import proofs.«01_k».proof.Proof.KI.Tables
public import Idealize.ShloMosaic.Lib.Pointwise
public import Idealize.ShloMosaic.Lib.Pipeline.Value

@[expose] public section

set_option maxRecDepth 16384

noncomputable section

namespace Cert.Proof.KernelIdeal

open Cert.KernelIdeal Cert.Proof.Math
open Idealize.ShloMosaic Idealize.ShloMosaic.TcCoe Idealize.ShloMosaic.Tactic
open Idealize.SL Idealize.SL.RA Idealize.SL.BI
open Idealize.ShloMosaic.Pipeline (RDat Cfg)
open Cert.Proof.KernelIdeal.Frame (tbl adm1 V V1 V2 V2_of V2_x V3_of deqAll)

/-- The logits in bits and the labels of the pairs of rows, read off the arguments; row numbers wrap. -/
def envOf (x : FVec Ideal S12288x4096 .bf16) (lb : IVec S6144 32) : Env where
  y A B := (∑ k : Fin 4096, (x (ix2 ⟨A % 12288, Nat.mod_lt _ (by decide)⟩ k) : EReal) * x (ix2 ⟨B % 12288, Nat.mod_lt _ (by decide)⟩ k)) * ((10 * (Real.log 2)⁻¹ : ℝ) : EReal)
  lab A := lb (ix1 ⟨A % 6144, Nat.mod_lt _ (by decide)⟩)

/-- No label is -2. -/
structure Good (lb : IVec S6144 32) : Prop where
  lb : ∀ i, lb i ≠ 4294967294#32

theorem Good.symm (x : FVec Ideal S12288x4096 .bf16) {lb : IVec S6144 32} (h : Good lb) : (envOf x lb).Symm where
  y a b := by
    exact congrArg (· * ((10 * (Real.log 2)⁻¹ : ℝ) : EReal)) (Finset.sum_congr rfl fun k _ => mul_comm _ _)
  q a b := by
    have key : ∀ a b, Q (envOf x lb).lab a b → Q (envOf x lb).lab b a := by
      intro a b hq
      unfold Q at hq ⊢
      by_cases ha : ((envOf x lb).lab a).slt 0#32 = true
      · rw [if_pos ha] at hq
        exact absurd hq.symm (h.lb _)
      · rw [if_neg ha] at hq
        rw [← hq, if_neg ha]
    exact ⟨key a b, key b a⟩

/-- The product of two rows, scaled, is the pair's logit in bits. -/
theorem prod (x : FVec Ideal S12288x4096 .bf16) (lb : IVec S6144 32) (A B : Fin 12288) :
    (∑ k : Fin 4096, (x (ix2 A k) : EReal) * x (ix2 B k)) * ((10 * (Real.log 2)⁻¹ : ℝ) : EReal) = (envOf x lb).y A.val B.val := by
  have e1 (A : Fin 12288) (p : A.val % 12288 < 12288) : (⟨A.val % 12288, p⟩ : Fin 12288) = A := Fin.ext (Nat.mod_eq_of_lt A.isLt)
  show _ = (∑ k : Fin 4096, (x (ix2 ⟨A.val % 12288, _⟩ k) : EReal) * x (ix2 ⟨B.val % 12288, _⟩ k)) * _
  simp only [e1]

section Finds
variable {c : Dev nD} (rd : RDat τ (Elt Ideal) Unit ℕ (UR sig nD τ) ℕ (cfg1 (adm1 (F := Ideal))) c)

/-- What every fetch of an input window leaves there, and the body keeps as long as the block stays, holds of what the body finds. -/
theorem finds_in (w : Fin 7) (hin : ((cfg1 (adm1 (F := Ideal))).win w).isOut = false)
    (P : Fin 78 → (((cfg1 (adm1 (F := Ideal))).win w).block.Idx → Elt Ideal ((cfg1 (adm1 (F := Ideal))).win w).elt) → Prop)
    (hafter : ∀ t Y X, rd.after w t Y X → P t Y → P t X)
    (hP : ∀ t d, P t (rd.fetched w t d))
    (hstep : ∀ t t', ((cfg1 (adm1 (F := Ideal))).win w).index t = ((cfg1 (adm1 (F := Ideal))).win w).index t' → ∀ X, P t' X → P t X)
    (t : Fin 78) (X : (((cfg1 (adm1 (F := Ideal))).win w).block.Idx → Elt Ideal ((cfg1 (adm1 (F := Ideal))).win w).elt)) (hX : rd.Finds w t X) : P t X := by
  obtain ⟨n, hn⟩ := t
  induction n generalizing X with
  | zero =>
    have hf : ((cfg1 (adm1 (F := Ideal))).win w).fetch ⟨0, hn⟩ = true := by
      unfold Pipeline.Window.fetch; rw [hin]; rfl
    obtain ⟨d, rfl⟩ := (rd.finds_of_fetch hf X).1 hX
    exact hP _ d
  | succ n ih =>
    by_cases hf : ((cfg1 (adm1 (F := Ideal))).win w).fetch ⟨n + 1, hn⟩ = true
    · obtain ⟨d, rfl⟩ := (rd.finds_of_fetch hf X).1 hX
      exact hP _ d
    · have hf' : ((cfg1 (adm1 (F := Ideal))).win w).fetch ⟨n + 1, hn⟩ = false := Bool.eq_false_iff.2 hf
      rcases (rd.finds_of_pos hf' (Nat.succ_ne_zero n) X).1 hX with h | ⟨Y, hY, hYX⟩
      · unfold Pipeline.Window.flush at h
        rw [hin] at h; exact absurd h (by simp)
      · have hix : ((cfg1 (adm1 (F := Ideal))).win w).index ⟨n + 1, hn⟩ = ((cfg1 (adm1 (F := Ideal))).win w).index ⟨n, Nat.lt_of_succ_lt hn⟩ := by
          by_contra hne
          apply hf
          unfold Pipeline.Window.fetch
          rw [hin]
          simp only [Bool.not_false, Bool.true_and, Bool.or_eq_true, decide_eq_true_eq]
          exact Or.inr ⟨Nat.succ_pos n, hne⟩
        exact hstep _ _ hix X (hafter _ Y X hYX (ih Y (Nat.lt_of_succ_lt hn) hY))

/-- The rows' tile. -/
def Rows (x : FVec Ideal S12288x4096 .bf16) (n : ℕ) (X : FVec Ideal S1024x4096 .bf16) : Prop :=
  ∀ (r : Fin 1024) (k : Fin 4096) (h : 1024 * n + r.val < 12288), X (ix2 r k) = x (ix2 ⟨1024 * n + r.val, h⟩ k)
/-- The row labels' tile. -/
def LabR (l : ℕ → BitVec 32) (n : ℕ) (X : IVec S1024x128 32) : Prop := ∀ (r : Fin 1024) (k : Fin 128), X (ix2 r k) = l (1024 * n + r.val)
/-- The column labels' tile. -/
def LabC (l : ℕ → BitVec 32) (n : ℕ) (X : IVec S1x1024 32) : Prop := ∀ r : Fin 1024, X (ix2 0 r) = l (1024 * n + r.val)

theorem fetched_0 (t : Fin 78) (d) (x : FVec Ideal S12288x4096 .bf16) (hx : rd.A 0 = x) : Rows x (I t) (rd.fetched 0 t d) := by
  intro r k h
  rw [← hx]
  show rd.A 0 ((((cfg1 (adm1 (F := Ideal))).win 0).rect t).emb (ix2 r k)) = _
  refine congrArg (rd.A 0) (funext fun a => Fin.ext ?_)
  refine (Pipeline.Window.rect_emb_val _ _ _ a rfl).trans ?_
  fin_cases a
  · exact (congrArg (fun n => n * 1024 + r.val) (congrFun (ix_0 t) 0)).trans (by show I t * 1024 + r.val = 1024 * I t + r.val; omega)
  · exact (congrArg (fun n => n * 4096 + k.val) (congrFun (ix_0 t) 1)).trans (by show 0 * 4096 + k.val = k.val; omega)

theorem fetched_1 (t : Fin 78) (d) (x : FVec Ideal S12288x4096 .bf16) (hx : rd.A 1 = x) : Rows x (J t) (rd.fetched 1 t d) := by
  intro r k h
  rw [← hx]
  show rd.A 1 ((((cfg1 (adm1 (F := Ideal))).win 1).rect t).emb (ix2 r k)) = _
  refine congrArg (rd.A 1) (funext fun a => Fin.ext ?_)
  refine (Pipeline.Window.rect_emb_val _ _ _ a rfl).trans ?_
  fin_cases a
  · exact (congrArg (fun n => n * 1024 + r.val) (congrFun (ix_1 t) 0)).trans (by show J t * 1024 + r.val = 1024 * J t + r.val; omega)
  · exact (congrArg (fun n => n * 4096 + k.val) (congrFun (ix_1 t) 1)).trans (by show 0 * 4096 + k.val = k.val; omega)

theorem fetched_2 (t : Fin 78) (d) (l : ℕ → BitVec 32) (hx : ∀ (A : Fin 12288) (k : Fin 128), rd.A 2 (ix2 A k) = l A.val) : LabR l (I t) (rd.fetched 2 t d) := by
  intro r k
  have h : 1024 * I t + r.val < 12288 := by have := I_lt t; omega
  rw [← hx ⟨_, h⟩ k]
  show rd.A 2 ((((cfg1 (adm1 (F := Ideal))).win 2).rect t).emb (ix2 r k)) = _
  refine congrArg (rd.A 2) (funext fun a => Fin.ext ?_)
  refine (Pipeline.Window.rect_emb_val _ _ _ a rfl).trans ?_
  fin_cases a
  · exact (congrArg (fun n => n * 1024 + r.val) (congrFun (ix_2 t) 0)).trans (by show I t * 1024 + r.val = 1024 * I t + r.val; omega)
  · exact (congrArg (fun n => n * 128 + k.val) (congrFun (ix_2 t) 1)).trans (by show 0 * 128 + k.val = k.val; omega)

theorem fetched_3 (t : Fin 78) (d) (l : ℕ → BitVec 32) (hx : ∀ A : Fin 12288, rd.A 3 (ix2 0 A) = l A.val) : LabC l (J t) (rd.fetched 3 t d) := by
  intro r
  have h : 1024 * J t + r.val < 12288 := by have := J_lt t; omega
  rw [← hx ⟨_, h⟩]
  show rd.A 3 ((((cfg1 (adm1 (F := Ideal))).win 3).rect t).emb (ix2 0 r)) = _
  refine congrArg (rd.A 3) (funext fun a => Fin.ext ?_)
  refine (Pipeline.Window.rect_emb_val _ _ _ a rfl).trans ?_
  fin_cases a
  · exact (congrArg (fun n => n * 1 + 0) (congrFun (ix_3 t) 0)).trans rfl
  · exact (congrArg (fun n => n * 1024 + r.val) (congrFun (ix_3 t) 1)).trans (by show J t * 1024 + r.val = 1024 * J t + r.val; omega)
end Finds

section Entry
variable (m : (ℓ : Loc nD τ sig) → Buf (Elt Ideal) ℓ) (c : Dev nD)

/-- The dequantised array. -/
def xk : FVec Ideal S12288x4096 .bf16 := deqAll (V1 m c main_v0) (V1 m c main_v1)

theorem V_x : V m c main_v2 = xk m c := (V3_of m c main_v2 (by decide)).trans (V2_x m c)

theorem rows_read (W : Valuation τ sig (Elt Ideal)) (A : Fin 12288) (k : Fin 128) :
    (StableHlo.after Gen.hostOps1 W main_v7 : IVec S12288x128 32) (ix2 A k) = (W main_arg2 : IVec S6144 32) (ix1 ⟨A.val % 6144, Nat.mod_lt _ (by decide)⟩) := by
  entry_read
  pointwise

theorem cols_read (W : Valuation τ sig (Elt Ideal)) (A : Fin 12288) :
    (StableHlo.after Gen.hostOps1 W main_v8 : IVec S1x12288 32) (ix2 0 A) = (W main_arg2 : IVec S6144 32) (ix1 ⟨A.val % 6144, Nat.mod_lt _ (by decide)⟩) := by
  entry_read
  pointwise

theorem V2_lab : V2 m c main_arg2 = m ((c : Thread nD τ).loc main_arg2) := (V2_of m c main_arg2 (by decide)).trans <| (Gen.V1_of m c main_arg2 (by decide)).trans rfl

theorem V_v7 (A : Fin 12288) (k : Fin 128) : V m c main_v7 (ix2 A k) = (m ((c : Thread nD τ).loc main_arg2) : IVec S6144 32) (ix1 ⟨A.val % 6144, Nat.mod_lt _ (by decide)⟩) :=
  (rows_read (V2 m c) A k).trans (congrFun (V2_lab m c) _)

theorem V_v8 (A : Fin 12288) : V m c main_v8 (ix2 0 A) = (m ((c : Thread nD τ).loc main_arg2) : IVec S6144 32) (ix1 ⟨A.val % 6144, Nat.mod_lt _ (by decide)⟩) :=
  (cols_read (V2 m c) A).trans (congrFun (V2_lab m c) _)
end Entry

end Cert.Proof.KernelIdeal
-- ==== Proof.KI.Launch.lean ====
/- The launch: the grid's body obligation with the values carried, and what the three result arrays hold after the run. -/
module

public import proofs.«01_k».proof.Proof.KI.Inputs
public import Idealize.ShloMosaic.Lib.Pipeline.ArrRel

@[expose] public section

set_option maxRecDepth 16384

noncomputable section

namespace Cert.Proof.KernelIdeal

open Cert.KernelIdeal Cert.Proof.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat ΦA ΦT)
open Cert.Proof.KernelIdeal.Frame (tbl adm1 V Aside Tables lit0_lt lit1_lt Held)

local notation "𝕄" => MT nD τ sig Unit (Elt Ideal) ℕ (UR sig nD τ) ℕ

/-- A row tile's results, as the last column tile leaves them. -/
def Out (t : Fin 78) (v : ℕ → EReal) (X : FVec Ideal S1x1x1024 .f32) : Prop := J t = 11 → ∀ r : Fin 1024, X (ix3 0 0 r) = v (1024 * I t + r.val)
def OutI (t : Fin 78) (v : ℕ → BitVec 32) (X : IVec S1x1x1024 32) : Prop := J t = 11 → ∀ r : Fin 1024, X (ix3 0 0 r) = v (1024 * I t + r.val)

/-- What the body may leave in a window at a point, given what it found there. -/
def leftIn (e : Env) : (w : Fin 7) → (t : Fin 78) → (Y X : (spec1 w).block.Idx → Elt Ideal (spec1 w).elt) → Prop
  | 0 => fun _ Y X => X = Y
  | 1 => fun _ Y X => X = Y
  | 2 => fun t _ X => LabR e.lab (I t) X
  | 3 => fun t _ X => LabC e.lab (J t) X
  | 4 => fun t _ X => Out t e.loss X
  | 5 => fun t _ X => Out t e.lse X
  | 6 => fun t _ X => OutI t e.cnt X

/-- The scratch buffers before point `p`. -/
def Scr (e : Env) (c : Dev nD) (p : ℕ) : sProp 𝕄 :=
  iprop(∃ s0 : Buf (Elt Ideal) ((Memref.whole cc1_scratch0).view.loc (c : Thread nD τ)), ∃ s1 : Buf (Elt Ideal) ((Memref.whole cc1_scratch1).view.loc (c : Thread nD τ)), ∃ s2 : Buf (Elt Ideal) ((Memref.whole cc1_scratch2).view.loc (c : Thread nD τ)), ∃ s3 : Buf (Elt Ideal) ((Memref.whole cc1_scratch3).view.loc (c : Thread nD τ)), ∃ s4 : Buf (Elt Ideal) ((Memref.whole cc1_scratch4).view.loc (c : Thread nD τ)), ∃ s5 : Buf (Elt Ideal) ((Memref.whole cc1_scratch5).view.loc (c : Thread nD τ)), ∃ s6 : Buf (Elt Ideal) ((Memref.whole cc1_scratch6).view.loc (c : Thread nD τ)), ∃ s7 : Buf (Elt Ideal) ((Memref.whole cc1_scratch7).view.loc (c : Thread nD τ)), ∃ s8 : Buf (Elt Ideal) ((Memref.whole cc1_scratch8).view.loc (c : Thread nD τ)), ⌜∀ h : p < 78, Inv e ⟨p, h⟩ ((Memref.whole cc1_scratch1).view.read (Elt Ideal) s1) ((Memref.whole cc1_scratch2).view.read (Elt Ideal) s2) ((Memref.whole cc1_scratch3).view.read (Elt Ideal) s3) ((Memref.whole cc1_scratch4).view.read (Elt Ideal) s4) ((Memref.whole cc1_scratch5).view.read (Elt Ideal) s5) ((Memref.whole cc1_scratch6).view.read (Elt Ideal) s6) ((Memref.whole cc1_scratch7).view.read (Elt Ideal) s7) ((Memref.whole cc1_scratch8).view.read (Elt Ideal) s8)⌝ ∗ Pt c (Memref.whole cc1_scratch0) s0 ∗ Pt c (Memref.whole cc1_scratch1) s1 ∗ Pt c (Memref.whole cc1_scratch2) s2 ∗ Pt c (Memref.whole cc1_scratch3) s3 ∗ Pt c (Memref.whole cc1_scratch4) s4 ∗ Pt c (Memref.whole cc1_scratch5) s5 ∗ Pt c (Memref.whole cc1_scratch6) s6 ∗ Pt c (Memref.whole cc1_scratch7) s7 ∗ Pt c (Memref.whole cc1_scratch8) s8)

/-- The proof data: the accumulators' sums between the points, and each row tile's results at its last point. -/
def rdat (e : Env) (m : (ℓ : Loc nD τ sig) → Buf (Elt Ideal) ℓ) (c : Dev nD) : RDat τ (Elt Ideal) Unit ℕ (UR sig nD τ) ℕ (cfg1 (adm1 (F := Ideal))) c where
  A w := V m c (Pipeline.arrRef spec1 w)
  after w t Y X := leftIn e w t Y X
  Φ p := iprop((Scr e c p.val ∗ Aside (F := Ideal) c) ∗ Tables (F := Ideal) c)
  q w := Pipeline.shareOf spec1 w
  owed _ := 0

/-- The environment a core's arguments give. -/
abbrev env (m : (ℓ : Loc nD τ sig) → Buf (Elt Ideal) ℓ) (c : Dev nD) : Env :=
  envOf (xk m c) (m ((c : Thread nD τ).loc main_arg2))
/-- A core's arguments, as the claim asks for them. -/
abbrev GoodAt (m : (ℓ : Loc nD τ sig) → Buf (Elt Ideal) ℓ) (c : Dev nD) : Prop :=
  Good (m ((c : Thread nD τ).loc main_arg2))

section
variable (m : (ℓ : Loc nD τ sig) → Buf (Elt Ideal) ℓ) (c : Dev nD) (t : Fin 78)

theorem finds0 (Y) (h : (rdat (env m c) m c).Finds 0 t Y) : Rows (xk m c) (I t) Y :=
  finds_in (rdat (env m c) m c) 0 rfl (fun t X => Rows (xk m c) (I t) X) (fun _ _ _ e h => e ▸ h)
    (fun t d => fetched_0 _ t d _ (V_x m c))
    (fun t t' h X hX => by have e : I t = I t' := congrFun ((ix_0 t).symm.trans (h.trans (ix_0 t'))) 0
                           rw [e]; exact hX) t Y h

theorem finds1 (Y) (h : (rdat (env m c) m c).Finds 1 t Y) : Rows (xk m c) (J t) Y :=
  finds_in (rdat (env m c) m c) 1 rfl (fun t X => Rows (xk m c) (J t) X) (fun _ _ _ e h => e ▸ h)
    (fun t d => fetched_1 _ t d _ (V_x m c))
    (fun t t' h X hX => by have e : J t = J t' := congrFun ((ix_1 t).symm.trans (h.trans (ix_1 t'))) 0
                           rw [e]; exact hX) t Y h

theorem finds2 (Y) (h : (rdat (env m c) m c).Finds 2 t Y) : LabR (env m c).lab (I t) Y :=
  finds_in (rdat (env m c) m c) 2 rfl (fun t X => LabR (env m c).lab (I t) X) (fun _ _ _ e _ => e)
    (fun t d => fetched_2 _ t d _ (fun A k => V_v7 m c A k))
    (fun t t' h X hX => by have e : I t = I t' := congrFun ((ix_2 t).symm.trans (h.trans (ix_2 t'))) 0
                           rw [e]; exact hX) t Y h

theorem finds3 (Y) (h : (rdat (env m c) m c).Finds 3 t Y) : LabC (env m c).lab (J t) Y :=
  finds_in (rdat (env m c) m c) 3 rfl (fun t X => LabC (env m c).lab (J t) X) (fun _ _ _ e _ => e)
    (fun t d => fetched_3 _ t d _ (fun A => V_v8 m c A))
    (fun t t' h X hX => by have e : J t = J t' := congrFun ((ix_3 t).symm.trans (h.trans (ix_3 t'))) 1
                           rw [e]; exact hX) t Y h

/-- Two tiles of rows give the tile's logits. -/
theorem tile_prod (X Y : FVec Ideal S1024x4096 .bf16) (hX : Rows (xk m c) (I t) X)
    (hY : Rows (xk m c) (J t) Y) (r p : Fin 1024) :
    (∑ k : Fin 4096, (X (ix2 r k) : EReal) * Y (ix2 p k)) * ((10 * (Real.log 2)⁻¹ : ℝ) : EReal) = ((env m c).y (1024 * I t + r.val) (1024 * J t + p.val) : EReal) := by
  have hi : 1024 * I t + r.val < 12288 := by have := I_lt t; omega
  have hj : 1024 * J t + p.val < 12288 := by have := J_lt t; omega
  refine Eq.trans ?_ (prod _ _ ⟨_, hi⟩ ⟨_, hj⟩)
  refine congrArg (· * _) (Finset.sum_congr rfl fun k _ => ?_)
  rw [hX r k hi, hY p k hj]
end

set_option maxHeartbeats 1000000 in
theorem obligation (m : (ℓ : Loc nD τ sig) → Buf (Elt Ideal) ℓ) (c : Dev nD) (hg : GoodAt m c) : (rdat (env m c) m c).BodyObligation defs₀ 𝒱₀ () Set.univ := by
  intro t Y hY
  have hY0 := finds0 m c t (Y 0) (hY 0)
  have hY1 := finds1 m c t (Y 1) (hY 1)
  have hY2 := finds2 m c t (Y 2) (hY 2)
  have hY3 := finds3 m c t (Y 3) (hY 3)
  rw [Gen.bigSep_W1, Gen.bigSep_W1]
  unfold RDat.owesAt Pipeline.owesWithin
  rw [show (rdat (env m c) m c).Φ t.succ = iprop((Scr (env m c) c (t.val + 1) ∗ Aside (F := Ideal) c) ∗ Tables (F := Ideal) c) from rfl,
    show (rdat (env m c) m c).Φ t.castSucc = iprop((Scr (env m c) c t.val ∗ Aside (F := Ideal) c) ∗ Tables (F := Ideal) c) from rfl,
    show (rdat (env m c) m c).owed t.castSucc = 0 from rfl, show (rdat (env m c) m c).owed t.succ = 0 from rfl]
  unfold Scr Tables
  unfold owns defs₀; rw [Defs.onTc_tc]
  iintro ⟨⟨⟨⟨%s0, %s1, %s2, %s3, %s4, %s5, %s6, %s7, %s8, %hI, S0, S1, S2, S3, S4, S5, S6, S7, S8⟩, Hp⟩, T0, T1⟩, HO, ⟨%f0, %h0, W0⟩, ⟨%f1, %h1, W1⟩, ⟨%f2, %h2, W2⟩, ⟨%f3, %h3, W3⟩, ⟨%f4, %h4, W4⟩, ⟨%f5, %h5, W5⟩, ⟨%f6, %h6, W6⟩⟩
  rw [← h0] at hY0
  rw [← h1] at hY1
  rw [← h2] at hY2
  rw [← h3] at hY3
  have hI' := hI t.isLt
  have c0 := cell0 c t
  have c1 := cell1 c t
  have n0 : (cell c (grid1.coords t) (Memref.whole main_c) (tbl 0)).toNat = I t := congrArg BitVec.toNat c0
  have n1 : (cell c (grid1.coords t) (Memref.whole main_c_0) (tbl 1)).toNat = J t := congrArg BitVec.toNat c1
  iapply (wp_wand_r Idealize.ShloMosaic.frame (wpE (defs₀ (F := Ideal)) 𝒱₀ (c : Thread nD τ) none) Set.univ)
  isplitl [S0 S1 S2 S3 S4 S5 S6 S7 S8 T0 T1 W0 W1 W2 W3 W4 W5 W6]
  · iapply (body c (grid1.coords t) _ _ _ _ _ _ _ _ _ _ _ _ _ _ _ _ _ _ _ _ _ _ _ _ _ _ _ _ _ _ _ _ _ _ _ _ (env m c) (hg.symm _) fullShare (tbl 0) (tbl 1) ⟨by rw [n0]; exact I_lt t⟩ ⟨by rw [n1]; exact J_lt t⟩
      f0 f1 f2 f3 s0 s1 s2 s3 s4 s5 s6 s7 s8 f4 f5 f6
      (by rw [n0, n1]; exact tile_prod m c t _ _ hY0 hY1)
      (by rw [n0]; exact hY2) (by rw [n1]; exact hY3)
      (by intro hz
          rw [n0, n1]
          have : t = (0 : Fin 78) := Fin.ext ((coords0 t).symm.trans hz)
          rw [this]; exact ⟨rfl, rfl⟩)
      (by intro hne
          rw [n0, n1]
          refine hI'.1 fun hh => hne ?_
          rw [c0, c1]; exact BitVec.eq_of_toNat_eq hh)
      (by intro hne
          rw [n0, n1]
          exact hI'.2 fun hh => hne ((coords0 t).trans hh)))
    isplitl [T0]; · iexact T0
    isplitl [T1]; · iexact T1
    isplitl [W0]; · iexact W0
    isplitl [W1]; · iexact W1
    isplitl [W2]; · iexact W2
    isplitl [W3]; · iexact W3
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [W4]; · iexact W4
    isplitl [W5]; · iexact W5
    iexact W6
  · iintro %_ ⟨T0, T1, W0, W1, %g2, %g3, %u0, %u1, %u2, %u3, %u4, %u5, %u6, %u7, %u8, %g4, %g5, %g6, %hD, W2, W3, S0, S1, S2, S3, S4, S5, S6, S7, S8, W4, W5, W6⟩
    rw [n0, n1] at hD
    isplitl [S0 S1 S2 S3 S4 S5 S6 S7 S8 Hp T0 T1]
    · isplitr [T0 T1]
      · isplitr [Hp]
        · iexists u0
          iexists u1
          iexists u2
          iexists u3
          iexists u4
          iexists u5
          iexists u6
          iexists u7
          iexists u8
          isplitr; swap
          · isplitl [S0]; · iexact S0
            isplitl [S1]; · iexact S1
            isplitl [S2]; · iexact S2
            isplitl [S3]; · iexact S3
            isplitl [S4]; · iexact S4
            isplitl [S5]; · iexact S5
            isplitl [S6]; · iexact S6
            isplitl [S7]; · iexact S7
            iexact S8
          ipureintro
          exact fun h => Inv.next (env m c) rfl hD.row hD.col
        iexact Hp
      isplitl [T0]; · iexact T0
      iexact T1
    isplitl [HO]; · iexact HO
    isplitl [W0]
    · iexists _; isplitr; swap
      · iexists _; isplitr; swap; · iexact W0
        ipureintro; rfl
      ipureintro; exact h0
    isplitl [W1]
    · iexists _; isplitr; swap
      · iexists _; isplitr; swap; · iexact W1
        ipureintro; rfl
      ipureintro; exact h1
    isplitl [W2]
    · iexists _; isplitr; swap
      · iexists _; isplitr; swap; · iexact W2
        ipureintro; rfl
      ipureintro; exact hD.l5
    isplitl [W3]
    · iexists _; isplitr; swap
      · iexists _; isplitr; swap; · iexact W3
        ipureintro; rfl
      ipureintro; exact hD.l6
    isplitl [W4]
    · iexists _; isplitr; swap
      · iexists _; isplitr; swap; · iexact W4
        ipureintro; rfl
      ipureintro; exact fun hj r => (hD.out hj r).1
    isplitl [W5]
    · iexists _; isplitr; swap
      · iexists _; isplitr; swap; · iexact W5
        ipureintro; rfl
      ipureintro; exact fun hj r => (hD.out hj r).2.1
    iexists _; isplitr; swap
    · iexists _; isplitr; swap; · iexact W6
      ipureintro; rfl
    ipureintro; exact fun hj r => (hD.out hj r).2.2

end Cert.Proof.KernelIdeal
-- ==== Proof.KI.Run.lean ====
/- The run: what the three result arrays hold, row by row. -/
module

public import proofs.«01_k».proof.Proof.KI.Launch

@[expose] public section

set_option maxRecDepth 16384

noncomputable section

namespace Cert.Proof.KernelIdeal

open Cert.KernelIdeal Cert.Proof.Math
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)
open Cert.Proof.KernelIdeal.Frame (tbl adm1 V Scratch Aside Tables Held arr_forall)

/-- An output window that takes a block for each row tile is written back at the row tile's last point. -/
theorem flush_iff (w : Pipeline.Window sig grid1) (ho : w.isOut = true) (hx : ∀ t t' : Fin 78, w.index t = w.index t' ↔ I t = I t') (t : Fin 78) :
    w.flush t = true ↔ J t = 11 := by
  have hN : ∀ t : Fin 78, t.val + 1 = 78 → J t = 11 := of_decide_eq_true (by chain_rfl)
  unfold Pipeline.Window.flush
  rw [ho, Bool.true_and, Bool.or_eq_true, decide_eq_true_iff, decide_eq_true_iff]
  constructor
  · rintro (h | ⟨h, hne⟩)
    · exact hN t h
    · rcases next t ⟨t.val + 1, h⟩ rfl with ⟨hi, -⟩ | ⟨hj, -⟩
      · exact absurd ((hx _ _).mpr hi) hne
      · exact hj
  · intro hj
    by_cases h : t.val + 1 < 78
    · refine .inr ⟨h, fun he => ?_⟩
      have hi := (hx ⟨t.val + 1, h⟩ t).mp he
      rcases next t ⟨t.val + 1, h⟩ rfl with ⟨-, hj'⟩ | ⟨-, hi', -⟩
      · have := J_lt ⟨t.val + 1, h⟩; omega
      · omega
    · exact .inl (show t.val + 1 = 78 by have := t.isLt; omega)

section
variable (e : Env) (m : (ℓ : Loc nD τ sig) → Buf (Elt Ideal) ℓ) (c : Dev nD)

theorem emb4 (t : Fin 78) (y : S1x1x1024.Idx) : (((cfg1 (adm1 (F := Ideal))).win 4).rect t).emb y = (ix3 ⟨I t, I_lt t⟩ 0 (y 2) : S12x1x1024.Idx) := by
  refine funext fun a => Fin.ext ?_
  refine (Pipeline.Window.rect_emb_val _ _ _ a rfl).trans ?_
  have h0 : (y 0).val < 1 := (y 0).isLt
  have h1 : (y 1).val < 1 := (y 1).isLt
  fin_cases a
  · exact (congrArg (fun n => n * 1 + (y 0).val) (congrFun (ix_4 t) 0)).trans (by show I t * 1 + (y 0).val = I t; omega)
  · exact (congrArg (fun n => n * 1 + (y 1).val) (congrFun (ix_4 t) 1)).trans (by show 0 * 1 + (y 1).val = 0; omega)
  · exact (congrArg (fun n => n * 1024 + (y 2).val) (congrFun (ix_4 t) 2)).trans (by show 0 * 1024 + (y 2).val = (y 2).val; omega)

theorem flush4 (t : Fin 78) : ((cfg1 (adm1 (F := Ideal))).win 4).flush t = true ↔ J t = 11 :=
  flush_iff ((cfg1 (adm1 (F := Ideal))).win 4) rfl (fun t t' => ⟨fun h => congrFun ((ix_4 t).symm.trans (h.trans (ix_4 t'))) 0,
    fun h => (ix_4 t).trans ((congrArg (fun n => ![n, 0, 0]) h).trans (ix_4 t').symm)⟩) t

theorem out4 (G : FVec Ideal S12x1x1024 .f32) (hG : (rdat e m c).ArrAt 4 (cfg1 (adm1 (F := Ideal))).N G) (i : S12x1x1024.Idx) :
    G i = e.loss (1024 * (i 0).val + (i 2).val) := by
  refine arr_forall (rdat e m c) 4 G hG (fun i v => v = e.loss (1024 * (i 0).val + (i 2).val)) (fun t hf X hX y => ?_) (fun i => ?_) i
  · have hj : J t = 11 := (flush4 t).mp hf
    obtain ⟨_, -, hX⟩ := hX
    have hX : Out t e.loss X := hX
    have h := hX hj (y 2)
    have he := emb4 t y
    show X _ = e.loss (1024 * ((((cfg1 (adm1 (F := Ideal))).win 4).rect t).emb y 0).val + ((((cfg1 (adm1 (F := Ideal))).win 4).rect t).emb y 2).val)
    rw [he]
    refine Eq.trans (congrArg X ?_) h
    have h0 : (y 0).val < 1 := (y 0).isLt
    have h1 : (y 1).val < 1 := (y 1).isLt
    refine funext fun a => Fin.ext ?_
    fin_cases a
    · show (y 0).val = 0; omega
    · show (y 1).val = 0; omega
    · rfl
  · obtain ⟨t, hi, hj⟩ := last_of_row (i 0)
    refine ⟨t, (flush4 t).mpr hj, ?_⟩
    have h1 : (i 1).val < 1 := (i 1).isLt
    have : (((cfg1 (adm1 (F := Ideal))).win 4).blk t).view.emb (ix3 0 0 (i 2) : S1x1x1024.Idx) = i := by
      refine (emb4 t (ix3 0 0 (i 2))).trans (funext fun a => Fin.ext ?_)
      fin_cases a
      · exact hi
      · show 0 = (i 1).val; omega
      · rfl
    rw [← this]; exact (((cfg1 (adm1 (F := Ideal))).win 4).blk t).view.emb_mem_set _

theorem emb5 (t : Fin 78) (y : S1x1x1024.Idx) : (((cfg1 (adm1 (F := Ideal))).win 5).rect t).emb y = (ix3 ⟨I t, I_lt t⟩ 0 (y 2) : S12x1x1024.Idx) := by
  refine funext fun a => Fin.ext ?_
  refine (Pipeline.Window.rect_emb_val _ _ _ a rfl).trans ?_
  have h0 : (y 0).val < 1 := (y 0).isLt
  have h1 : (y 1).val < 1 := (y 1).isLt
  fin_cases a
  · exact (congrArg (fun n => n * 1 + (y 0).val) (congrFun (ix_5 t) 0)).trans (by show I t * 1 + (y 0).val = I t; omega)
  · exact (congrArg (fun n => n * 1 + (y 1).val) (congrFun (ix_5 t) 1)).trans (by show 0 * 1 + (y 1).val = 0; omega)
  · exact (congrArg (fun n => n * 1024 + (y 2).val) (congrFun (ix_5 t) 2)).trans (by show 0 * 1024 + (y 2).val = (y 2).val; omega)

theorem flush5 (t : Fin 78) : ((cfg1 (adm1 (F := Ideal))).win 5).flush t = true ↔ J t = 11 :=
  flush_iff ((cfg1 (adm1 (F := Ideal))).win 5) rfl (fun t t' => ⟨fun h => congrFun ((ix_5 t).symm.trans (h.trans (ix_5 t'))) 0,
    fun h => (ix_5 t).trans ((congrArg (fun n => ![n, 0, 0]) h).trans (ix_5 t').symm)⟩) t

theorem out5 (G : FVec Ideal S12x1x1024 .f32) (hG : (rdat e m c).ArrAt 5 (cfg1 (adm1 (F := Ideal))).N G) (i : S12x1x1024.Idx) :
    G i = e.lse (1024 * (i 0).val + (i 2).val) := by
  refine arr_forall (rdat e m c) 5 G hG (fun i v => v = e.lse (1024 * (i 0).val + (i 2).val)) (fun t hf X hX y => ?_) (fun i => ?_) i
  · have hj : J t = 11 := (flush5 t).mp hf
    obtain ⟨_, -, hX⟩ := hX
    have hX : Out t e.lse X := hX
    have h := hX hj (y 2)
    have he := emb5 t y
    show X _ = e.lse (1024 * ((((cfg1 (adm1 (F := Ideal))).win 5).rect t).emb y 0).val + ((((cfg1 (adm1 (F := Ideal))).win 5).rect t).emb y 2).val)
    rw [he]
    refine Eq.trans (congrArg X ?_) h
    have h0 : (y 0).val < 1 := (y 0).isLt
    have h1 : (y 1).val < 1 := (y 1).isLt
    refine funext fun a => Fin.ext ?_
    fin_cases a
    · show (y 0).val = 0; omega
    · show (y 1).val = 0; omega
    · rfl
  · obtain ⟨t, hi, hj⟩ := last_of_row (i 0)
    refine ⟨t, (flush5 t).mpr hj, ?_⟩
    have h1 : (i 1).val < 1 := (i 1).isLt
    have : (((cfg1 (adm1 (F := Ideal))).win 5).blk t).view.emb (ix3 0 0 (i 2) : S1x1x1024.Idx) = i := by
      refine (emb5 t (ix3 0 0 (i 2))).trans (funext fun a => Fin.ext ?_)
      fin_cases a
      · exact hi
      · show 0 = (i 1).val; omega
      · rfl
    rw [← this]; exact (((cfg1 (adm1 (F := Ideal))).win 5).blk t).view.emb_mem_set _

theorem emb6 (t : Fin 78) (y : S1x1x1024.Idx) : (((cfg1 (adm1 (F := Ideal))).win 6).rect t).emb y = (ix3 ⟨I t, I_lt t⟩ 0 (y 2) : S12x1x1024.Idx) := by
  refine funext fun a => Fin.ext ?_
  refine (Pipeline.Window.rect_emb_val _ _ _ a rfl).trans ?_
  have h0 : (y 0).val < 1 := (y 0).isLt
  have h1 : (y 1).val < 1 := (y 1).isLt
  fin_cases a
  · exact (congrArg (fun n => n * 1 + (y 0).val) (congrFun (ix_6 t) 0)).trans (by show I t * 1 + (y 0).val = I t; omega)
  · exact (congrArg (fun n => n * 1 + (y 1).val) (congrFun (ix_6 t) 1)).trans (by show 0 * 1 + (y 1).val = 0; omega)
  · exact (congrArg (fun n => n * 1024 + (y 2).val) (congrFun (ix_6 t) 2)).trans (by show 0 * 1024 + (y 2).val = (y 2).val; omega)

theorem flush6 (t : Fin 78) : ((cfg1 (adm1 (F := Ideal))).win 6).flush t = true ↔ J t = 11 :=
  flush_iff ((cfg1 (adm1 (F := Ideal))).win 6) rfl (fun t t' => ⟨fun h => congrFun ((ix_6 t).symm.trans (h.trans (ix_6 t'))) 0,
    fun h => (ix_6 t).trans ((congrArg (fun n => ![n, 0, 0]) h).trans (ix_6 t').symm)⟩) t

theorem out6 (G : IVec S12x1x1024 32) (hG : (rdat e m c).ArrAt 6 (cfg1 (adm1 (F := Ideal))).N G) (i : S12x1x1024.Idx) :
    G i = e.cnt (1024 * (i 0).val + (i 2).val) := by
  refine arr_forall (rdat e m c) 6 G hG (fun i v => v = e.cnt (1024 * (i 0).val + (i 2).val)) (fun t hf X hX y => ?_) (fun i => ?_) i
  · have hj : J t = 11 := (flush6 t).mp hf
    obtain ⟨_, -, hX⟩ := hX
    have hX : OutI t e.cnt X := hX
    have h := hX hj (y 2)
    have he := emb6 t y
    show X _ = e.cnt (1024 * ((((cfg1 (adm1 (F := Ideal))).win 6).rect t).emb y 0).val + ((((cfg1 (adm1 (F := Ideal))).win 6).rect t).emb y 2).val)
    rw [he]
    refine Eq.trans (congrArg X ?_) h
    have h0 : (y 0).val < 1 := (y 0).isLt
    have h1 : (y 1).val < 1 := (y 1).isLt
    refine funext fun a => Fin.ext ?_
    fin_cases a
    · show (y 0).val = 0; omega
    · show (y 1).val = 0; omega
    · rfl
  · obtain ⟨t, hi, hj⟩ := last_of_row (i 0)
    refine ⟨t, (flush6 t).mpr hj, ?_⟩
    have h1 : (i 1).val < 1 := (i 1).isLt
    have : (((cfg1 (adm1 (F := Ideal))).win 6).blk t).view.emb (ix3 0 0 (i 2) : S1x1x1024.Idx) = i := by
      refine (emb6 t (ix3 0 0 (i 2))).trans (funext fun a => Fin.ext ?_)
      fin_cases a
      · exact hi
      · show 0 = (i 1).val; omega
      · rfl
    rw [← this]; exact (((cfg1 (adm1 (F := Ideal))).win 6).blk t).view.emb_mem_set _
end

/-- The call starts with what the launch hands out. -/
theorem hin (m : (ℓ : Loc nD τ sig) → Buf (Elt Ideal) ℓ) (c : Dev nD) : iprop((Scratch (F := Ideal) c ∗ Aside (F := Ideal) c) ∗ Tables (F := Ideal) c) ⊢ (rdat (env m c) m c).Φ 0 := by
  show _ ⊢ iprop((Scr (env m c) c 0 ∗ Aside (F := Ideal) c) ∗ Tables (F := Ideal) c)
  unfold Scr Scratch
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩⟩, Hp⟩, T⟩
  isplitr [T]
  · isplitr [Hp]
    · iexists s0; iexists s1; iexists s2; iexists s3; iexists s4; iexists s5; iexists s6; iexists s7; iexists s8
      isplitr; · ipureintro; exact fun h => Inv.zero ..
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hp
  iexact T

/-- … and ends with what it takes back. -/
theorem hout (m : (ℓ : Loc nD τ sig) → Buf (Elt Ideal) ℓ) (c : Dev nD) : (rdat (env m c) m c).Φ (Fin.last 78) ⊢ iprop((Scratch (F := Ideal) c ∗ Aside (F := Ideal) c) ∗ Tables (F := Ideal) c) := by
  show iprop((Scr (env m c) c 78 ∗ Aside (F := Ideal) c) ∗ Tables (F := Ideal) c) ⊢ _
  unfold Scr Scratch
  iintro ⟨⟨⟨%s0, %s1, %s2, %s3, %s4, %s5, %s6, %s7, %s8, -, S0, S1, S2, S3, S4, S5, S6, S7, S8⟩, Hp⟩, T⟩
  isplitr [T]
  · isplitr [Hp]
    · isplitl [S0]; · iexists _; iexact S0
      isplitl [S1]; · iexists _; iexact S1
      isplitl [S2]; · iexists _; iexact S2
      isplitl [S3]; · iexists _; iexact S3
      isplitl [S4]; · iexists _; iexact S4
      isplitl [S5]; · iexists _; iexact S5
      isplitl [S6]; · iexists _; iexact S6
      isplitl [S7]; · iexists _; iexact S7
      iexists _; iexact S8
    iexact Hp
  iexact T

theorem good (m : (ℓ : Loc nD τ sig) → Buf (Elt Ideal) ℓ) (hg : ∀ c, GoodAt m c) : Frame.Good m (fun c => rdat (env m c) m c) where
  hA _ _ := rfl
  hq _ _ _ := rfl
  howed _ _ := rfl
  hrec _ := rfl
  hbody c := obligation m c (hg c)
  hin c := (Frame.entry c).trans (hin m c)
  hout c := (hout m c).trans (Frame.leave c)

/-- The run ends with each row's loss, log-sum-exp and count in the result arrays, the arguments unchanged. -/
theorem value_run (m : (ℓ : Loc nD τ sig) → Buf (Elt Ideal) ℓ) (g : Dev nD → PrngReg) (hg : ∀ c, GoodAt m c) :
    θ_run (defs (F := Ideal)) (onTc (τ := τ) (main (F := Ideal))) ⟨m, fun _ => 0, g⟩ (fun r => ∀ c : Dev nD,
      (∀ i, (r.2.mem ((c.tc : Thread nD τ).loc main_v9_0) : FVec Ideal S12x1x1024 .f32) i = (env m c).loss (1024 * (i 0).val + (i 2).val))
      ∧ (∀ i, (r.2.mem ((c.tc : Thread nD τ).loc main_v9_1) : FVec Ideal S12x1x1024 .f32) i = (env m c).lse (1024 * (i 0).val + (i 2).val))
      ∧ (∀ i, (r.2.mem ((c.tc : Thread nD τ).loc main_v9_2) : IVec S12x1x1024 32) i = (env m c).cnt (1024 * (i 0).val + (i 2).val))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Frame.run m (fun c => rdat (env m c) m c) (good m hg) g fun s h _ c =>
    ⟨out4 (env m c) m c _ ((h c).1 4), out5 (env m c) m c _ ((h c).1 5), out6 (env m c) m c _ ((h c).1 6), Frame.args_kept m c s (h c).2⟩

end Cert.Proof.KernelIdeal
-- ==== Proof.KI.Scale.lean ====
/- A scale's bits: an exponent placed in the exponent field of a float is that power of two. -/
module

public import Idealize.ShloMosaic.PureOps
public import Idealize.ShloMosaic.Lib.IdealHost

@[expose] public section

noncomputable section

namespace Cert.Proof.Scale

open Idealize.ShloMosaic

theorem sign_zero : ∀ e : BitVec 8, (e.setWidth 32 <<< 23).extractLsb' 31 1 = 0#1 := by decide +kernel
theorem exponent : ∀ e : BitVec 8, ((e.setWidth 32 <<< 23).extractLsb' 23 8) = e := by decide +kernel
theorem fraction : ∀ e : BitVec 8, ((e.setWidth 32 <<< 23).extractLsb' 0 23) = 0#23 := by decide +kernel
theorem lowered : ∀ e : BitVec 8, (e.setWidth 32 - 127#32).toInt = (e.toNat : Int) - 127 := by decide +kernel

/-- Exponents 1 to 254: the float of these bits is two to the exponent less 127. -/
theorem ofBits_eq (e : BitVec 8) (h0 : e ≠ 0#8) (h1 : e ≠ 255#8) :
    (Ideal.ofBits .f32 (e.setWidth 32 <<< 23) : EReal) = Ideal.exp2 (((e.setWidth 32 - 127#32).toInt : ℝ) : EReal) := by
  have n0 : e.toNat ≠ 0 := fun h => h0 (BitVec.eq_of_toNat_eq h)
  have n1 : e.toNat ≠ 255 := fun h => h1 (BitVec.eq_of_toNat_eq h)
  rw [lowered, Ideal.exp2_coe]
  show Ideal.ieee 8 23 (e.setWidth 32 <<< 23) = _
  unfold Ideal.ieee
  rw [show (8 + 23 : ℕ) = 31 from rfl, sign_zero, exponent, fraction]
  simp only [BitVec.toNat_zero]
  rw [if_neg (by norm_num; exact n1), if_neg n0]
  refine congrArg _ ?_
  show _ = (2 : ℝ) ^ ((((e.toNat : ℤ) - 127 : ℤ) : ℝ))
  rw [Real.rpow_intCast]
  have e1 : ((e.toNat : ℤ) - (2 ^ (8 - 1) - 1) - (23 : ℕ)) = ((e.toNat : ℤ) - 127) - 23 := by norm_num
  rw [e1, zpow_sub₀ two_ne_zero]
  norm_num
  ring

end Cert.Proof.Scale
-- ==== Proof.KI.RefX.lean ====
/- The array the reference dequantises, element by element, and that it is the kernel's. -/
module

public import proofs.«01_k».proof.Proof.KI.Inputs
public import proofs.«01_k».proof.Proof.KI.Scale
public import proofs.«01_k».proof.Proof.Gen.ReferenceIdeal.Run
public import Idealize.ShloMosaic.Lib.Pointwise
public import Idealize.ShloMosaic.Lib.Pipeline.ValueKit

@[expose] public section

set_option maxRecDepth 16384

noncomputable section

namespace Cert.Proof.ReferenceIdeal

open Cert.ReferenceIdeal Cert.ReferenceIdeal.Gen
open Idealize.ShloMosaic Idealize.ShloMosaic.TcCoe

variable (m : (ℓ : Loc nD τ sig) → Buf (Elt Ideal) ℓ) (c : Dev nD)

/-- The block a column lies in. -/
def col (k : Fin 4096) : Fin 128 := ⟨k.val / 32, by omega⟩

/-- The call has one block, the whole array. -/
theorem blk0 : iblk m c 0 t0_0 = V m c main_v0 := by
  refine funext fun y => ?_
  show V m c main_v0 (((cfg0.win 0).rect t0_0).emb y) = V m c main_v0 y
  refine congrArg (V m c main_v0) (funext fun a => Fin.ext ?_)
  refine (Pipeline.Window.rect_emb_val _ _ _ a rfl).trans ?_
  fin_cases a
  · show 0 * 12288 + (y 0).val = (y 0).val; omega
  · show 0 * 4096 + (y 1).val = (y 1).val; omega
theorem blk1 : iblk m c 1 t0_0 = V m c main_v1 := by
  refine funext fun y => ?_
  show V m c main_v1 (((cfg0.win 1).rect t0_0).emb y) = V m c main_v1 y
  refine congrArg (V m c main_v1) (funext fun a => Fin.ext ?_)
  refine (Pipeline.Window.rect_emb_val _ _ _ a rfl).trans ?_
  fin_cases a
  · show 0 * 12288 + (y 0).val = (y 0).val; omega
  · show 0 * 128 + (y 1).val = (y 1).val; omega

/-- The dequantising call leaves its body's value on the whole arrays. -/
theorem region_eq : Value.reg_main_v2 m c = k0_pay1 (V m c main_v1) (V m c main_v0) := by
  unfold Value.reg_main_v2
  refine (Gen.dats m 0 c).arrAt_eq_of_after_last 2 t0_0 (by decide +kernel) _ fun j => ?_
  blk_simp
  rw [after0_2]
  frame_out
  rw [blk0, blk1]

/-- One element of it. -/
theorem pay_at (E : Vec Ideal S12288x128 .i8) (C : Vec Ideal S12288x4096 .fp8e4m3) (A : Fin 12288) (k : Fin 4096) :
    (k0_pay1 E C (ix2 A k) : EReal) = (C (ix2 A k) : EReal) * Ideal.exp2 ((((E (ix2 A (col k))).setWidth 32 - 127#32).toInt : ℝ) : EReal) := by
  pointwise [k0_pay1]
  rfl

end Cert.Proof.ReferenceIdeal

namespace Cert.Proof.KernelIdeal

open Cert.KernelIdeal
open Idealize.ShloMosaic Idealize.ShloMosaic.TcCoe
open Cert.Proof.KernelIdeal.Frame (deqAll deq blkC blkE)

/-- One element of the array the kernel dequantises. -/
theorem deqAll_at (C : Vec Ideal S12288x4096 .fp8e4m3) (E : Vec Ideal S12288x128 .i8) (A : Fin 12288) (k : Fin 4096) :
    (deqAll C E (ix2 A k) : EReal) = (C (ix2 A k) : EReal) * Ideal.ofBits .f32 ((E (ix2 A (ReferenceIdeal.col k))).setWidth 32 <<< 23) := by
  have h : 512 * (A.val / 512) + A.val % 512 = A.val := Nat.div_add_mod _ _
  have hr : (Frame.row ⟨A.val / 512, by have := A.isLt; omega⟩ ⟨A.val % 512, by omega⟩) = A := Fin.ext h
  show (C (ix2 (Frame.row ⟨A.val / 512, _⟩ ⟨A.val % 512, _⟩) k) : EReal) * Ideal.ofBits .f32 (IntOp.shli .vector ((E (ix2 (Frame.row ⟨A.val / 512, _⟩ ⟨A.val % 512, _⟩) _)).setWidth 32) 23#32) = _
  rw [hr]
  rfl

/-- What is asked of the scales' exponents. -/
def Scales (E : IVec S2x6144x128 8) : Prop := ∀ i, E i ≠ 0#8 ∧ E i ≠ 255#8

/-- Kernel and reference dequantise the same codes and exponents to the same array. -/
theorem deqAll_eq (C : Vec Ideal S12288x4096 .fp8e4m3) (E : Vec Ideal S12288x128 .i8) (hE : ∀ i, E i ≠ 0#8 ∧ E i ≠ 255#8) :
    Cert.ReferenceIdeal.Gen.k0_pay1 (F := Ideal) E C = deqAll C E := by
  refine funext fun y => ?_
  rw [show y = (ix2 (y 0) (y 1) : S12288x4096.Idx) from funext fun a => by fin_cases a <;> rfl]
  refine (ReferenceIdeal.pay_at E C (y 0) (y 1)).trans (Eq.trans ?_ (deqAll_at C E (y 0) (y 1)).symm)
  rw [Scale.ofBits_eq _ (hE _).1 (hE _).2]

section
variable (m : (ℓ : Loc nD τ sig) → Buf (Elt Ideal) ℓ) (c : Dev nD)

theorem codes_read : Frame.V1 m c main_v0 = shapeCast S12288x4096 (m ((c : Thread nD τ).loc main_arg0) : Vec Ideal S2x6144x4096 .fp8e4m3) Facts₀.shapeCasts_S2x6144x4096_S12288x4096 := by
  show StableHlo.after Gen.hostOps0 (fun b => m (c, b)) main_v0 = _
  entry_read
  rfl

theorem exps_read : Frame.V1 m c main_v1 = shapeCast S12288x128 (m ((c : Thread nD τ).loc main_arg1) : Vec Ideal S2x6144x128 .i8) Facts₀.shapeCasts_S2x6144x128_S12288x128 := by
  show StableHlo.after Gen.hostOps0 (fun b => m (c, b)) main_v1 = _
  entry_read
  rfl
end

end Cert.Proof.KernelIdeal

namespace Cert.Proof.ReferenceIdeal

open Cert.ReferenceIdeal Cert.ReferenceIdeal.Gen
open Idealize.ShloMosaic Idealize.ShloMosaic.TcCoe

section
variable (m : (ℓ : Loc nD τ sig) → Buf (Elt Ideal) ℓ) (c : Dev nD)

theorem codes_read : V m c main_v0 = shapeCast S12288x4096 (m ((c : Thread nD τ).loc main_arg0) : Vec Ideal S2x6144x4096 .fp8e4m3) Facts₀.shapeCasts_S2x6144x4096_S12288x4096 := by
  show StableHlo.after hostOps0 (fun b => m (c, b)) main_v0 = _
  entry_read
  rfl

theorem exps_read : V m c main_v1 = shapeCast S12288x128 (m ((c : Thread nD τ).loc main_arg1) : Vec Ideal S2x6144x128 .i8) Facts₀.shapeCasts_S2x6144x128_S12288x128 := by
  show StableHlo.after hostOps0 (fun b => m (c, b)) main_v1 = _
  entry_read
  rfl
end

/-- From equal arguments, the two programs dequantise to the same array. -/
theorem x_eq (m : (ℓ : Loc Cert.KernelIdeal.nD Cert.KernelIdeal.τ Cert.KernelIdeal.sig) → Buf (Elt Ideal) ℓ) (m' : (ℓ : Loc nD τ sig) → Buf (Elt Ideal) ℓ) (c : Dev nD)
    (h0 : m' ((c.tc : Thread nD τ).loc main_arg0) = m ((c.tc : Thread Cert.KernelIdeal.nD Cert.KernelIdeal.τ).loc Cert.KernelIdeal.main_arg0))
    (h1 : m' ((c.tc : Thread nD τ).loc main_arg1) = m ((c.tc : Thread Cert.KernelIdeal.nD Cert.KernelIdeal.τ).loc Cert.KernelIdeal.main_arg1))
    (hE : KernelIdeal.Scales (m ((c.tc : Thread Cert.KernelIdeal.nD Cert.KernelIdeal.τ).loc Cert.KernelIdeal.main_arg1))) :
    Value.reg_main_v2 m' c = KernelIdeal.xk m c := by
  rw [region_eq, codes_read, exps_read, h0, h1]
  unfold KernelIdeal.xk
  rw [KernelIdeal.codes_read, KernelIdeal.exps_read]
  exact KernelIdeal.deqAll_eq _ _ fun i => hE _

end Cert.Proof.ReferenceIdeal
-- ==== Proof.KI.Ref.lean ====
/- The reference's three results, row by row. -/
module

public import proofs.«01_k».proof.Proof.KI.RefX
public import proofs.«01_k».proof.Proof.Gen.ReferenceIdeal.Run
public import Idealize.ShloMosaic.Lib.Pointwise
public import Idealize.ShloMosaic.Lib.StableHlo.Predicate
public import Idealize.ShloMosaic.Lib.WordCmp

@[expose] public section

set_option maxRecDepth 16384

noncomputable section

namespace Cert.Proof.ReferenceIdeal

open Cert.ReferenceIdeal Cert.ReferenceIdeal.Gen Cert.Proof.Math
open Idealize.ShloMosaic Idealize.ShloMosaic.TcCoe Idealize.SL.Sem
open Cert.Proof.KernelIdeal (Env envOf Good Q others)

variable (x : FVec Ideal S12288x4096 .bf16) (lb : IVec S6144 32)

/-! The reference's intermediate arrays. -/

def labs : IVec S12288 32 := shapeCast _ (broadcastInDim S2x6144 ![0, 1] bcast_S1x6144_S2x6144_0_1 (shapeCast _ lb shapeCasts_S6144_S1x6144)) shapeCasts_S2x6144_S12288
def self : IVec S12288x12288 1 := cmpi .eq (broadcastInDim S12288x12288 ![0, 1] bcast_S12288x1_S12288x12288_0_1 (broadcastInDim S12288x1 ![0] bcast_S12288_S12288x1_0 (iotaInDim S12288 32 0))) (broadcastInDim S12288x12288 ![0, 1] bcast_S1x12288_S12288x12288_0_1 (broadcastInDim S1x12288 ![1] bcast_S12288_S1x12288_1 (iotaInDim S12288 32 0)))
def pos : IVec S12288x12288 1 := andi (andi (cmpi .eq (broadcastInDim S12288x12288 ![0, 1] bcast_S12288x1_S12288x12288_0_1 (broadcastInDim S12288x1 ![0] bcast_S12288_S12288x1_0 (labs lb))) (broadcastInDim S12288x12288 ![0, 1] bcast_S1x12288_S12288x12288_0_1 (broadcastInDim S1x12288 ![1] bcast_S12288_S1x12288_1 (labs lb)))) (broadcastInDim S12288x12288 ![0, 1] bcast_S12288x1_S12288x12288_0_1 (cmpi .sge (broadcastInDim S12288x1 ![0] bcast_S12288_S12288x1_0 (labs lb)) (broadcastInDim S12288x1 ![] bcast_S_S12288x1 (constantI S_ 32 0#32))))) (noti self)
def logit : FVec Ideal S12288x12288 .f32 := mulf (Host.dotGeneral dot_S12288x4096_S12288x4096_S12288x12288_1_1_0_0_n_n none x x) (broadcastInDim S12288x12288 ![] bcast_S_S12288x12288 (constant S_ .f32 0x41200000#32))
def away : FVec Ideal S12288x12288 .f32 := select self (broadcastInDim S12288x12288 ![] bcast_S_S12288x12288 (id (constant (F := Ideal) S_ .f32 0xFF800000#32))) (logit x)
def top : FVec Ideal S12288 .f32 := Host.reduce FloatOps.maximumf (away x) (constant (F := Ideal) S_ .f32 0xFF800000#32) reducesTo_S12288x12288_S12288_d1 h_S_
/-- The log of a row's sum of exponentials, the row first lowered by `t`. -/
def lseOf (u : FVec Ideal S12288x12288 .f32) (t : FVec Ideal S12288 .f32) : FVec Ideal S12288 .f32 := addf t (Host.log (Host.reduceAdd (Host.exp (subf u (broadcastInDim S12288x12288 ![0, 1] bcast_S12288x1_S12288x12288_0_1 (broadcastInDim S12288x1 ![0] bcast_S12288_S12288x1_0 t)))) (constant (F := Ideal) S_ .f32 0x00000000#32) reducesTo_S12288x12288_S12288_d1 h_S_))
def lse : FVec Ideal S12288 .f32 := lseOf (away x) (top x)
def cnt : IVec S12288 32 := Host.reduce IntOp.addi (extui 32 (pos lb) natLt_1_32) (constantI S_ 32 0#32) reducesTo_S12288x12288_S12288_d1 h_S_
def mean : FVec Ideal S12288 .f32 := Host.divf (Host.reduceAdd (select (pos lb) (logit x) (broadcastInDim S12288x12288 ![] bcast_S_S12288x12288 (id (constant (F := Ideal) S_ .f32 0x00000000#32)))) (constant (F := Ideal) S_ .f32 0x00000000#32) reducesTo_S12288x12288_S12288_d1 h_S_) (sitofp .f32 (maxsi (cnt lb) (broadcastInDim S12288 ![] bcast_S_S12288 (constantI S_ 32 1#32))))
def loss : FVec Ideal S12288 .f32 := select (cmpi .sgt (cnt lb) (broadcastInDim S12288 ![] bcast_S_S12288 (constantI S_ 32 0#32))) (mulf (broadcastInDim S12288 ![] bcast_S_S12288 (constant (F := Ideal) S_ .f32 0xBFB6DB6E#32)) (subf (mean x lb) (lse x))) (broadcastInDim S12288 ![] bcast_S_S12288 (id (constant (F := Ideal) S_ .f32 0x00000000#32)))

/-- The run, its results named. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v50) = shapeCast S12x1x1024 (loss (Value.reg_main_v2 m c) (m ((c.tc : Thread nD τ).loc main_arg2))) shapeCasts_S12288_S12x1x1024
      ∧ r.2.mem ((c.tc : Thread nD τ).loc main_v51) = shapeCast S12x1x1024 (lse (Value.reg_main_v2 m c)) shapeCasts_S12288_S12x1x1024
      ∧ r.2.mem ((c.tc : Thread nD τ).loc main_v52) = shapeCast S12x1x1024 (cnt (m ((c.tc : Thread nD τ).loc main_arg2))) shapeCasts_S12288_S12x1x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => by
    obtain ⟨h0, h1, h2, ha⟩ := h c
    exact ⟨h0.trans (congrArg₂ (fun x l => shapeCast S12x1x1024 (loss x l) shapeCasts_S12288_S12x1x1024) (Value.exit_main_v2 m c) (Value.exit_main_arg2 m c)),
      h1.trans (congrArg (fun x => shapeCast S12x1x1024 (lse x) shapeCasts_S12288_S12x1x1024) (Value.exit_main_v2 m c)),
      h2.trans (congrArg (fun l => shapeCast S12x1x1024 (cnt l) shapeCasts_S12288_S12x1x1024) (Value.exit_main_arg2 m c)), ha⟩) (Value.run m g)

/-! Read entry by entry. -/

theorem ten : (Ideal.ofBits .f32 0x41200000#32 : EReal) = ((10 : ℝ) : EReal) := by
  simp [Ideal.ofBits, Ideal.ieee, -EReal.coe_mul]; norm_num

theorem labs_at (A : Fin 12288) : labs lb (ix1 A) = (envOf x lb).lab A.val := by
  pointwise [labs]
  rfl

theorem self_at (A B : Fin 12288) : self (ix2 A B) = BitVec.ofBool (decide (A = B)) := by
  pointwise [self]
  rw [WordCmp.cmpi_eq_ofNat (by have := A.isLt; omega) (by have := B.isLt; omega)]
  simp only [Fin.ext_iff]

/-- A positive pair's bit: equal labels, a label that is not negative, another row. -/
theorem pos_bit (a b : BitVec 32) (p : Prop) [Decidable p] (hl : b ≠ 4294967294#32) :
    IntOp.andi (IntOp.andi (IntOp.cmpi .eq a b) (IntOp.cmpi .sge a 0#32)) (~~~BitVec.ofBool (decide p))
      = BitVec.ofBool (decide (¬p ∧ (if a.slt 0#32 then 4294967294#32 else a) = b)) := by
  have hs : IntOp.cmpi .sge a 0#32 = BitVec.ofBool (!a.slt 0#32) := by
    show BitVec.ofBool (BitVec.sle 0#32 a) = _
    rw [BitVec.sle_eq_not_slt]
  rw [hs, WordCmp.cmpi_eq_eq]
  cases a.slt 0#32 <;> by_cases e : a = b <;> by_cases hp : p <;> simp [IntOp.andi, e, hp, Ne.symm hl]

theorem pos_at (A B : Fin 12288) (h : Good lb) : pos lb (ix2 A B) = BitVec.ofBool (decide (B.val ≠ A.val ∧ Q (envOf x lb).lab A.val B.val)) := by
  pointwise [pos]
  rw [self_at, labs_at x, labs_at x]
  refine (pos_bit _ _ _ (h.lb (ix1 ⟨B.val % 6144, Nat.mod_lt _ (by decide)⟩))).trans (congrArg BitVec.ofBool (decide_eq_decide.2 (and_congr ?_ Iff.rfl)))
  rw [ne_eq, Fin.ext_iff, eq_comm]

section
variable (A B : Fin 12288)

theorem logit_at : (logit x (ix2 A B) : EReal) = (envOf x lb).y A.val B.val * ((Real.log 2 : ℝ) : EReal) := by
  have hl : Real.log 2 ≠ 0 := (Real.log_pos one_lt_two).ne'
  pointwise [logit]
  rw [ten, ← Cert.Proof.KernelIdeal.prod x lb A B, mul_assoc, ← EReal.coe_mul, mul_assoc, inv_mul_cancel₀ hl, mul_one]

/-- A pair's logit in bits, −∞ for a row with itself. -/
def bits (B : Fin 12288) : EReal := if B.val = A.val then ⊥ else (envOf x lb).y A.val B.val

theorem away_at : (away x (ix2 A B) : EReal) = bits x lb A B * ((Real.log 2 : ℝ) : EReal) := by
  pointwise [away]
  rw [self_at, logit_at x lb, bits]
  by_cases e : A = B
  · subst e
    rw [if_pos rfl, Scalar.select, if_pos (by simp), EReal.bot_mul_coe_of_pos (Real.log_pos one_lt_two)]
    exact Cert.Proof.KernelIdeal.ninf
  · rw [if_neg (fun e' => e (Fin.ext e'.symm)), Scalar.select, if_neg (by simp [e])]

theorem top_at : (top x (ix1 A) : EReal) = Finset.univ.fold max ⊥ fun B : Fin 12288 => (away x (ix2 A B) : EReal) := by
  pointwise [top]
  rw [Cert.Proof.KernelIdeal.ninf]
end

theorem lseOf_at (u : FVec Ideal S12288x12288 .f32) (t : FVec Ideal S12288 .f32) (A : Fin 12288) :
    (lseOf u t (ix1 A) : EReal) = t (ix1 A) + Ideal.log (∑ B : Fin 12288, Ideal.exp ((u (ix2 A B) : EReal) - t (ix1 A))) := by
  pointwise [lseOf]

/-- A sum over the columns, as the specification has it. -/
theorem others_fin (f : ℕ → ℕ → EReal) (A : ℕ) : others f A = ∑ B : Fin 12288, if B.val = A then 0 else f A B.val := by
  unfold others; rw [Finset.sum_range]

theorem lse_at (A : Fin 12288) : (lse x (ix1 A) : EReal) = (envOf x lb).lse A.val := by
  unfold lse
  rw [lseOf_at, top_at]
  refine (lse_natural (bits x lb A) _ (away_at x lb A)).trans (congrArg Math.lseOf ?_)
  rw [others_fin]
  refine Finset.sum_congr rfl fun B _ => ?_
  unfold bits Env.fE
  by_cases e : B.val = A.val
  · rw [if_pos e, if_pos e]; rfl
  · rw [if_neg e, if_neg e]

section
variable {lb} (h : Good lb) (A : Fin 12288)
include h

theorem cnt_at : cnt lb (ix1 A) = (envOf x lb).cnt A.val := by
  have hle := (envOf x lb).count_le A.val
  refine BitVec.eq_of_toNat_eq ((StableHlo.Predicate.toNat_reduce_count_cols (by norm_num) (pos lb) natLt_1_32 reducesTo_S12288x12288_S12288_d1 h_S_ (ix1 A)).trans ?_)
  rw [Env.cnt, BitVec.toNat_ofNat, Nat.mod_eq_of_lt (by omega), Env.count, Finset.card_filter, Finset.card_filter, Finset.sum_range]
  refine Finset.sum_congr rfl fun B _ => ?_
  rw [show (StableHlo.Predicate.ij ((ix1 A : S12288.Idx) 0) B : S12288x12288.Idx) = ix2 A B from by funext a; fin_cases a <;> rfl, pos_at x lb A B h]
  exact if_congr (WordCmp.ofBool_decide_eq_one_iff _) rfl rfl

theorem mean_at : (mean x lb (ix1 A) : EReal)
    = Ideal.div (others (envOf x lb).fP A.val * ((Real.log 2 : ℝ) : EReal)) ((max ((envOf x lb).count A.val : ℝ) 1 : ℝ) : EReal) := by
  have e : (mean x lb (ix1 A) : EReal) = Ideal.div (∑ B : Fin 12288, Scalar.select (pos lb (ix2 A B)) (logit x (ix2 A B) : EReal) 0)
      (((IntOp.maxsi (cnt lb (ix1 A)) 1#32).toInt : ℝ) : EReal) := by
    pointwise [mean]
    rw [show (id (constant (F := Ideal) S_ .f32 0x00000000#32) ix0 : EReal) = 0 from Ideal.ofBits_zero_f32]
    rfl
  have hle := (envOf x lb).count_le A.val
  have hS : ∑ B : Fin 12288, Scalar.select (pos lb (ix2 A B)) (logit x (ix2 A B) : EReal) 0 = others (envOf x lb).fP A.val * ((Real.log 2 : ℝ) : EReal) := by
    rw [others_fin, sum_mul_pos _ _ (Real.log_pos one_lt_two)]
    refine Finset.sum_congr rfl fun B _ => ?_
    rw [pos_at x lb A B h, logit_at x lb, Scalar.select]
    by_cases e : B.val = A.val
    · rw [if_neg (by simp [e]), if_pos e, zero_mul]
    · by_cases q : Q (envOf x lb).lab A.val B.val
      · rw [if_pos (by simp [e, q]), if_neg e, Env.fP, if_pos q]
      · rw [if_neg (by simp [q]), if_neg e, Env.fP, if_neg q, zero_mul]
  have hC : ((IntOp.maxsi (cnt lb (ix1 A)) 1#32).toInt : ℝ) = max ((envOf x lb).count A.val : ℝ) 1 := by
    rw [cnt_at x h, Env.cnt]
    generalize (envOf x lb).count A.val = n at *
    have hn : (BitVec.ofNat 32 n).toInt = n := WordCmp.toInt_ofNat_of_lt (by norm_num; omega)
    unfold IntOp.maxsi
    rw [BitVec.slt, hn]
    by_cases h1 : 1 < n
    · rw [if_pos (by simpa using h1), hn, max_eq_left (by exact_mod_cast h1.le)]; simp
    · rw [if_neg (by simpa using h1), max_eq_right (by exact_mod_cast not_lt.1 h1)]; norm_num
  rw [e, hS, hC]

theorem loss_at : (loss x lb (ix1 A) : EReal) = (envOf x lb).loss A.val := by
  have e : (loss x lb (ix1 A) : EReal) = Scalar.select (IntOp.cmpi .sgt (cnt lb (ix1 A)) 0#32)
      (Ideal.ofBits .f32 0xBFB6DB6E#32 * ((mean x lb (ix1 A) : EReal) - lse x (ix1 A)) : EReal) 0 := by
    pointwise [loss]
    rw [show (id (constant (F := Ideal) S_ .f32 0x00000000#32) ix0 : EReal) = 0 from Ideal.ofBits_zero_f32]
  have hle := (envOf x lb).count_le A.val
  have hc : IntOp.cmpi .sgt (cnt lb (ix1 A)) 0#32 = 1 ↔ 0 < (envOf x lb).count A.val := by
    rw [cnt_at x h]
    exact WordCmp.cmpi_sgt_ofNat_eq_one_iff (by norm_num; omega) (by norm_num)
  rw [e, Scalar.select, mean_at x h, lse_at x lb, Env.loss]
  by_cases hn : 0 < (envOf x lb).count A.val
  · rw [if_pos (hc.2 hn), if_pos hn]
  · rw [if_neg (fun e => hn (hc.1 e)), if_neg hn]
end

/-- A column of row results in the shape of the results. -/
theorem cast_at {α : Type} (v : S12288.Idx → α) (i : S12x1x1024.Idx) :
    shapeCast S12x1x1024 v shapeCasts_S12288_S12x1x1024 i = v (ix1 ⟨1024 * (i 0).val + (i 2).val, by have h0 : (i 0).val < 12 := (i 0).isLt; have h2 : (i 2).val < 1024 := (i 2).isLt; omega⟩) := by
  pointwise
  exact congrArg v (congrArg ix1 (Fin.ext (by show (i 0).val * 1024 + (i 2).val = 1024 * (i 0).val + (i 2).val; omega)))

end Cert.Proof.ReferenceIdeal
-- ==== Proof.KI.Pre.lean ====
/- The precondition: its side conditions, and what it says of the arguments. -/
module

public import proofs.«01_k».proof.Defs
public import proofs.«01_k».proof.Proof.KI.Launch
public import proofs.«01_k».proof.Proof.KI.RefX
public import Idealize.ShloMosaic.Lib.ReduceAll
public import Idealize.ShloMosaic.Lib.WordCmp

@[expose] public section

set_option maxRecDepth 16384

noncomputable section

namespace Cert.Proof.Pre

open Idealize.ShloMosaic Idealize.ShloMosaic.TcCoe
open Cert.Proof.KernelIdeal (Good GoodAt Scales)

instance facts : Cert.Pre_pre.Facts where
  bcast_S_S2x6144x128 := by decide
  reducesTo_S2x6144x128_S_d0_1_2 := by decide
  h_S_ := by decide
  bcast_S_S6144 := by decide
  reducesTo_S6144_S_d0 := by decide

instance : Subsingleton (Cert.Pre_pre.S_).Idx := ⟨fun a b => funext fun k => k.elim0⟩

theorem and_one : ∀ a b : BitVec 1, IntOp.andi a b = 1#1 → a = 1#1 ∧ b = 1#1 := by decide

theorem good (x : FVec Ideal Cert.Pre_pre.S2x6144x4096 .fp8e4m3) (E : IVec Cert.Pre_pre.S2x6144x128 8) (lb : IVec Cert.Pre_pre.S6144 32)
    (h : Cert.Pre_pre.fn (F := Ideal) x E lb = fun _ => 1#1) : Scales E ∧ Good lb := by
  obtain ⟨hE, hl⟩ := and_one _ _ (congrFun h fun k => k.elim0)
  refine ⟨fun i => ?_, ⟨fun i hi => ?_⟩⟩
  · obtain ⟨e0, e1⟩ := and_one _ _ (Host.reduce_andi_all _ _ _ _ _ hE i)
    have e0 : BitVec.ofBool (E i != 0#8) = 1#1 := e0
    have e1 : BitVec.ofBool (E i != 255#8) = 1#1 := e1
    refine ⟨fun hi => ?_, fun hi => ?_⟩
    · rw [hi] at e0; simp at e0
    · rw [hi] at e1; simp at e1
  · have e : BitVec.ofBool (lb i != 4294967294#32) = 1#1 := Host.reduce_andi_all _ _ _ _ _ hl i
    rw [hi] at e; simp at e

theorem goodAt (m : (ℓ : Loc Cert.KernelIdeal.nD Cert.KernelIdeal.τ Cert.KernelIdeal.sig) → Buf (Elt Ideal) ℓ) (h : Cert.Pre_KernelIdeal_pre m)
    (c : Dev Cert.KernelIdeal.nD) : Scales (m ((c.tc : Thread Cert.KernelIdeal.nD Cert.KernelIdeal.τ).loc Cert.KernelIdeal.main_arg1)) ∧ GoodAt m c := good _ _ _ (h c)

end Cert.Proof.Pre
-- ==== Proof.KI.Value.lean ====
/- The value claim: kernel and reference leave the same three result arrays. -/
module

public import proofs.«01_k».proof.Defs
public import proofs.«01_k».proof.Proof.KI.Run
public import proofs.«01_k».proof.Proof.KI.Ref
public import proofs.«01_k».proof.Proof.KI.Pre

@[expose] public section

set_option maxRecDepth 16384

noncomputable section

namespace Cert.Proof

open Idealize.ShloMosaic Idealize.ShloMosaic.TcCoe Idealize.SL.Sem
open Cert.Proof.KernelIdeal (env GoodAt)

/-- A row result over the shape of the result arrays: entry `(i, 0, r)` is row `1024 i + r`. -/
abbrev rows {α : Type} (v : ℕ → α) : Cert.KernelIdeal.S12x1x1024.Idx → α := fun i => v (1024 * (i 0).val + (i 2).val)

theorem algebraic : Cert.algebraic_KernelIdeal_ReferenceIdeal_pre_pre := by
  intro m g m' g' hpre harg
  have hg : ∀ c, GoodAt m c := fun c => (Pre.goodAt m hpre c).2
  refine ⟨fun c => rows (env m c).loss, fun c => rows (env m c).lse, fun c => rows (env m c).cnt, ?_, ?_⟩
  · exact (θ_run Cert.KernelIdeal.defs _ _).mono (fun r h c => ⟨funext (h c).1, funext (h c).2.1, funext (h c).2.2.1, (h c).2.2.2⟩)
      (KernelIdeal.value_run m g hg)
  · refine (θ_run Cert.ReferenceIdeal.defs _ _).mono (fun r h c => ?_) (ReferenceIdeal.run m' g')
    obtain ⟨h0, h1, h2, ha⟩ := h c
    obtain ⟨a0, a1, a2⟩ := harg c
    have hx := ReferenceIdeal.x_eq m m' c a0 a1 (Pre.goodAt m hpre c).1
    refine ⟨h0.trans ?_, h1.trans ?_, h2.trans ?_, ha⟩
    · rw [hx, a2]
      exact funext fun i => (ReferenceIdeal.cast_at _ i).trans (ReferenceIdeal.loss_at _ (hg c) _)
    · rw [hx]
      exact funext fun i => (ReferenceIdeal.cast_at _ i).trans (ReferenceIdeal.lse_at _ _ _)
    · rw [a2]
      exact funext fun i => (ReferenceIdeal.cast_at _ i).trans (ReferenceIdeal.cnt_at _ (hg c) _)

end Cert.Proof
-- ==== Proof.lean ====
/- The claim, assembled. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.K.Launch
public import proofs.«01_k».proof.Proof.KF.Launch
public import proofs.«01_k».proof.Proof.KI.Value

@[expose] public section

noncomputable section

namespace Cert.Proof

open Idealize.ShloMosaic Idealize.ShloMosaic.TcCoe Idealize.SL.Sem

theorem preserves : Cert.preserves_Kernel_KernelIdeal :=
  ⟨IdealRules.named_const.statement _ _ _ _ _ rfl, IdealRules.named_const.statement _ _ _ _ _ rfl⟩

theorem frame_r : Cert.quiescent_ReferenceIdeal := fun m ρ _ => Cert.ReferenceIdeal.Gen.frame m ρ

theorem claim : Cert.Claim :=
  ⟨Cert.Kernel.Gen.facts, Cert.KernelIdeal.Gen.facts, Cert.ReferenceIdeal.Gen.facts, Pre.facts,
    fun m g _ => Kernel.frame_run m g, fun m g _ => KernelIdeal.Frame.frame_run m g, fun m g _ => KernelIdeal.Frame.frame_run m g,
    frame_r, fun m g _ => frame_r m g trivial, preserves, algebraic⟩

end Cert.Proof
